-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S32768x1024 : Shape := ⟨2, ![32768, 1024]⟩
abbrev S_ : Shape := ⟨0, ![]⟩
abbrev S13x4 : Shape := ⟨2, ![13, 4]⟩
abbrev S1x1 : Shape := ⟨2, ![1, 1]⟩
abbrev S2048x1024 : Shape := ⟨2, ![2048, 1024]⟩
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32768x1024, .f32⟩
  | _, _ => ⟨S8192x1024, .f32⟩

abbrev bufScoped : (cs : CoreSpace) → Fin (nBuf (.core cs)) → Bool
  | _, _ => false

abbrev semScoped : Fin 1 → Bool
  | ⟨0, _⟩ => false
  | _ => false

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  (ofTc nBuf bufTy 1 105 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v51 : BitVec 32 := Scalar.muli v2 c8_i32_41
  let v52 : BitVec 32 := Scalar.addi c0_i32_42 v51
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_43 : BitVec 32 := 4#32
  let v53 : BitVec 32 := Scalar.muli v12 c4_i32_43
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v55 : BitVec 32 := Scalar.muli v8 c1_i32_44
  let v56 : BitVec 32 := Scalar.addi v54 v55
  v56.toNat
def k0_dev2 (d0 : Dev nD) : Nat :=
  let c0_i32_47 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v50 : BitVec 32 := Scalar.subi c1_i32_39 v2
  let c8_i32_46 : BitVec 32 := 8#32
  let v57 : BitVec 32 := Scalar.muli v50 c8_i32_46
  let v58 : BitVec 32 := Scalar.addi c0_i32_47 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v59 : BitVec 32 := Scalar.muli v5 c4_i32_48
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v61 : BitVec 32 := Scalar.muli v8 c1_i32_49
  let v62 : BitVec 32 := Scalar.addi v60 v61
  v62.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v63 : BitVec 1 := Scalar.cmpi .sge v8 c1_i32_50
  let v75 : BitVec 32 := Scalar.extui v63
  let c0_i32_62 : BitVec 32 := 0#32
  let v76 : BitVec 1 := Scalar.cmpi .ne v75 c0_i32_62
  v76

def k0_dev3 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v64 : BitVec 32 := Scalar.subi v8 c1_i32_51
  let c0_i32_52 : BitVec 32 := 0#32
  let v65 : BitVec 32 := Scalar.maxsi v64 c0_i32_52
  let c1_i32_1152 : BitVec 32 := 1#32
  let v804 : BitVec 32 := Scalar.muli v65 c1_i32_1152
  let v805 : BitVec 32 := Scalar.addi v803 v804
  v805.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_53 : BitVec 32 := 2#32
  let v66 : BitVec 1 := Scalar.cmpi .sge v8 c2_i32_53
  let v77 : BitVec 32 := Scalar.extui v66
  let c0_i32_63 : BitVec 32 := 0#32
  let v78 : BitVec 1 := Scalar.cmpi .ne v77 c0_i32_63
  v78

def k0_dev4 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_54 : BitVec 32 := 2#32
  let v67 : BitVec 32 := Scalar.subi v8 c2_i32_54
  let c0_i32_55 : BitVec 32 := 0#32
  let v68 : BitVec 32 := Scalar.maxsi v67 c0_i32_55
  let c1_i32_1152 : BitVec 32 := 1#32
  let v804 : BitVec 32 := Scalar.muli v68 c1_i32_1152
  let v805 : BitVec 32 := Scalar.addi v803 v804
  v805.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_56 : BitVec 32 := 2#32
  let v69 : BitVec 1 := Scalar.cmpi .sle v8 c2_i32_56
  let v79 : BitVec 32 := Scalar.extui v69
  let c0_i32_64 : BitVec 32 := 0#32
  let v80 : BitVec 1 := Scalar.cmpi .ne v79 c0_i32_64
  v80

def k0_dev5 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v70 : BitVec 32 := Scalar.addi v8 c1_i32_57
  let c3_i32_58 : BitVec 32 := 3#32
  let v71 : BitVec 32 := Scalar.minsi v70 c3_i32_58
  let c1_i32_1152 : BitVec 32 := 1#32
  let v804 : BitVec 32 := Scalar.muli v71 c1_i32_1152
  let v805 : BitVec 32 := Scalar.addi v803 v804
  v805.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v72 : BitVec 1 := Scalar.cmpi .sle v8 c1_i32_59
  let v81 : BitVec 32 := Scalar.extui v72
  let c0_i32_65 : BitVec 32 := 0#32
  let v82 : BitVec 1 := Scalar.cmpi .ne v81 c0_i32_65
  v82

def k0_dev6 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_60 : BitVec 32 := 2#32
  let v73 : BitVec 32 := Scalar.addi v8 c2_i32_60
  let c3_i32_61 : BitVec 32 := 3#32
  let v74 : BitVec 32 := Scalar.minsi v73 c3_i32_61
  let c1_i32_1152 : BitVec 32 := 1#32
  let v804 : BitVec 32 := Scalar.muli v74 c1_i32_1152
  let v805 : BitVec 32 := Scalar.addi v803 v804
  v805.toNat
def k0_amt1 (d0 : Dev nD) : BitVec 32 :=
  let c2_i32_67 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v83 : BitVec 1 := Scalar.cmpi .sge v8 c1_i32_66
  let v84 : BitVec 32 := Scalar.extui v83
  let v85 : BitVec 32 := Scalar.addi c2_i32_67 v84
  let c2_i32_68 : BitVec 32 := 2#32
  let v86 : BitVec 1 := Scalar.cmpi .sge v8 c2_i32_68
  let v87 : BitVec 32 := Scalar.extui v86
  let v88 : BitVec 32 := Scalar.addi v85 v87
  let c2_i32_69 : BitVec 32 := 2#32
  let v89 : BitVec 1 := Scalar.cmpi .sle v8 c2_i32_69
  let v90 : BitVec 32 := Scalar.extui v89
  let v91 : BitVec 32 := Scalar.addi v88 v90
  let c1_i32_70 : BitVec 32 := 1#32
  let v92 : BitVec 1 := Scalar.cmpi .sle v8 c1_i32_70
  let v93 : BitVec 32 := Scalar.extui v92
  let v94 : BitVec 32 := Scalar.addi v91 v93
  v94

def k0_off1 (d0 : Dev nD) (c0_i32_72 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v96 : BitVec 32 := Scalar.muli v8 c8192_i32
  let v97 : BitVec 32 := Scalar.addi v96 c0_i32_72
  let c0_i32_80 : BitVec 32 := 0#32
  ![v97.toNat, 0]
def k0_dev7 (d0 : Dev nD) : Nat :=
  let c0_i32_77 : BitVec 32 := 0#32
  let c1_i32_71 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v95 : BitVec 32 := Scalar.subi c1_i32_71 v2
  let c8_i32_76 : BitVec 32 := 8#32
  let v98 : BitVec 32 := Scalar.muli v95 c8_i32_76
  let v99 : BitVec 32 := Scalar.addi c0_i32_77 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v100 : BitVec 32 := Scalar.muli v5 c4_i32_78
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v102 : BitVec 32 := Scalar.muli v8 c1_i32_79
  let v103 : BitVec 32 := Scalar.addi v101 v102
  v103.toNat
def k0_dev8 (d0 : Dev nD) : Nat :=
  let c0_i32_89 : BitVec 32 := 0#32
  let c1_i32_71 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v95 : BitVec 32 := Scalar.subi c1_i32_71 v2
  let c8_i32_88 : BitVec 32 := 8#32
  let v112 : BitVec 32 := Scalar.muli v95 c8_i32_88
  let v113 : BitVec 32 := Scalar.addi c0_i32_89 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v114 : BitVec 32 := Scalar.muli v5 c4_i32_90
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v116 : BitVec 32 := Scalar.muli v8 c1_i32_91
  let v117 : BitVec 32 := Scalar.addi v115 v116
  v117.toNat
def k0_dev9 (d0 : Dev nD) : Nat :=
  let c0_i32_102 : BitVec 32 := 0#32
  let c1_i32_71 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v95 : BitVec 32 := Scalar.subi c1_i32_71 v2
  let c8_i32_101 : BitVec 32 := 8#32
  let v126 : BitVec 32 := Scalar.muli v95 c8_i32_101
  let v127 : BitVec 32 := Scalar.addi c0_i32_102 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v128 : BitVec 32 := Scalar.muli v5 c4_i32_103
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v130 : BitVec 32 := Scalar.muli v8 c1_i32_104
  let v131 : BitVec 32 := Scalar.addi v129 v130
  v131.toNat
def k0_dev10 (d0 : Dev nD) : Nat :=
  let c0_i32_114 : BitVec 32 := 0#32
  let c1_i32_71 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v95 : BitVec 32 := Scalar.subi c1_i32_71 v2
  let c8_i32_113 : BitVec 32 := 8#32
  let v140 : BitVec 32 := Scalar.muli v95 c8_i32_113
  let v141 : BitVec 32 := Scalar.addi c0_i32_114 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v142 : BitVec 32 := Scalar.muli v5 c4_i32_115
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v144 : BitVec 32 := Scalar.muli v8 c1_i32_116
  let v145 : BitVec 32 := Scalar.addi v143 v144
  v145.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 1 := Scalar.cmpi .sle v8 c1_i32_11
  let v156 : BitVec 32 := Scalar.extui v21
  let c0_i32_127 : BitVec 32 := 0#32
  let v157 : BitVec 1 := Scalar.cmpi .ne v156 c0_i32_127
  v157

def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_121 : BitVec 32 := 8192#32
  let v153 : BitVec 32 := Scalar.muli v8 c8192_i32_121
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v154 : BitVec 32 := Scalar.addi v153 v9
  let c0_i32_122 : BitVec 32 := 0#32
  let v155 : BitVec 32 := Scalar.addi v154 c0_i32_122
  let c0_i32_1152 : BitVec 32 := 0#32
  ![v155.toNat, 0]
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c0_i32_120 : BitVec 32 := 0#32
  let v152 : BitVec 32 := Scalar.addi v9 c0_i32_120
  let c0_i32_1153 : BitVec 32 := 0#32
  ![v152.toNat, 0]
def k0_dev11 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_12 : BitVec 32 := 2#32
  let v22 : BitVec 32 := Scalar.addi v8 c2_i32_12
  let c3_i32_13 : BitVec 32 := 3#32
  let v23 : BitVec 32 := Scalar.minsi v22 c3_i32_13
  let c1_i32_1151 : BitVec 32 := 1#32
  let v804 : BitVec 32 := Scalar.muli v23 c1_i32_1151
  let v805 : BitVec 32 := Scalar.addi v803 v804
  v805.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 1 := Scalar.cmpi .sle v8 c1_i32_11
  let v162 : BitVec 32 := Scalar.extui v21
  let c0_i32_134 : BitVec 32 := 0#32
  let v163 : BitVec 1 := Scalar.cmpi .ne v162 c0_i32_134
  v163

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_128 : BitVec 32 := 8192#32
  let v159 : BitVec 32 := Scalar.muli v8 c8192_i32_128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v160 : BitVec 32 := Scalar.addi v159 v9
  let c1024_i32_129 : BitVec 32 := 1024#32
  let v161 : BitVec 32 := Scalar.addi v160 c1024_i32_129
  let c0_i32_1152 : BitVec 32 := 0#32
  ![v161.toNat, 0]
def k0_off5 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c1024_i32 : BitVec 32 := 1024#32
  let v158 : BitVec 32 := Scalar.addi v9 c1024_i32
  let c0_i32_1153 : BitVec 32 := 0#32
  ![v158.toNat, 0]
def k0_dev12 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_12 : BitVec 32 := 2#32
  let v22 : BitVec 32 := Scalar.addi v8 c2_i32_12
  let c3_i32_13 : BitVec 32 := 3#32
  let v23 : BitVec 32 := Scalar.minsi v22 c3_i32_13
  let c1_i32_1151 : BitVec 32 := 1#32
  let v804 : BitVec 32 := Scalar.muli v23 c1_i32_1151
  let v805 : BitVec 32 := Scalar.addi v803 v804
  v805.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 1 := Scalar.cmpi .sle v8 c1_i32_11
  let v168 : BitVec 32 := Scalar.extui v21
  let c0_i32_142 : BitVec 32 := 0#32
  let v169 : BitVec 1 := Scalar.cmpi .ne v168 c0_i32_142
  v169

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_136 : BitVec 32 := 8192#32
  let v165 : BitVec 32 := Scalar.muli v8 c8192_i32_136
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v166 : BitVec 32 := Scalar.addi v165 v9
  let c2048_i32_137 : BitVec 32 := 2048#32
  let v167 : BitVec 32 := Scalar.addi v166 c2048_i32_137
  let c0_i32_1152 : BitVec 32 := 0#32
  ![v167.toNat, 0]
def k0_off7 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c2048_i32_135 : BitVec 32 := 2048#32
  let v164 : BitVec 32 := Scalar.addi v9 c2048_i32_135
  let c0_i32_1153 : BitVec 32 := 0#32
  ![v164.toNat, 0]
def k0_dev13 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_12 : BitVec 32 := 2#32
  let v22 : BitVec 32 := Scalar.addi v8 c2_i32_12
  let c3_i32_13 : BitVec 32 := 3#32
  let v23 : BitVec 32 := Scalar.minsi v22 c3_i32_13
  let c1_i32_1151 : BitVec 32 := 1#32
  let v804 : BitVec 32 := Scalar.muli v23 c1_i32_1151
  let v805 : BitVec 32 := Scalar.addi v803 v804
  v805.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 1 := Scalar.cmpi .sle v8 c1_i32_11
  let v174 : BitVec 32 := Scalar.extui v21
  let c0_i32_149 : BitVec 32 := 0#32
  let v175 : BitVec 1 := Scalar.cmpi .ne v174 c0_i32_149
  v175

def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_143 : BitVec 32 := 8192#32
  let v171 : BitVec 32 := Scalar.muli v8 c8192_i32_143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v172 : BitVec 32 := Scalar.addi v171 v9
  let c3072_i32_144 : BitVec 32 := 3072#32
  let v173 : BitVec 32 := Scalar.addi v172 c3072_i32_144
  let c0_i32_1152 : BitVec 32 := 0#32
  ![v173.toNat, 0]
def k0_off9 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c3072_i32 : BitVec 32 := 3072#32
  let v170 : BitVec 32 := Scalar.addi v9 c3072_i32
  let c0_i32_1153 : BitVec 32 := 0#32
  ![v170.toNat, 0]
def k0_dev14 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_12 : BitVec 32 := 2#32
  let v22 : BitVec 32 := Scalar.addi v8 c2_i32_12
  let c3_i32_13 : BitVec 32 := 3#32
  let v23 : BitVec 32 := Scalar.minsi v22 c3_i32_13
  let c1_i32_1151 : BitVec 32 := 1#32
  let v804 : BitVec 32 := Scalar.muli v23 c1_i32_1151
  let v805 : BitVec 32 := Scalar.addi v803 v804
  v805.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v37 : BitVec 1 := Scalar.cmpi .sge v8 c2_i32_27
  let v180 : BitVec 32 := Scalar.extui v37
  let c0_i32_157 : BitVec 32 := 0#32
  let v181 : BitVec 1 := Scalar.cmpi .ne v180 c0_i32_157
  v181

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_151 : BitVec 32 := 8192#32
  let v177 : BitVec 32 := Scalar.muli v8 c8192_i32_151
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v178 : BitVec 32 := Scalar.addi v177 v9
  let c0_i32_152 : BitVec 32 := 0#32
  let v179 : BitVec 32 := Scalar.addi v178 c0_i32_152
  let c0_i32_1152 : BitVec 32 := 0#32
  ![v179.toNat, 0]
def k0_off11 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c0_i32_150 : BitVec 32 := 0#32
  let v176 : BitVec 32 := Scalar.addi v9 c0_i32_150
  let c0_i32_1153 : BitVec 32 := 0#32
  ![v176.toNat, 0]
def k0_dev15 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_28 : BitVec 32 := 2#32
  let v38 : BitVec 32 := Scalar.subi v8 c2_i32_28
  let c0_i32_29 : BitVec 32 := 0#32
  let v39 : BitVec 32 := Scalar.maxsi v38 c0_i32_29
  let c1_i32_1151 : BitVec 32 := 1#32
  let v804 : BitVec 32 := Scalar.muli v39 c1_i32_1151
  let v805 : BitVec 32 := Scalar.addi v803 v804
  v805.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v37 : BitVec 1 := Scalar.cmpi .sge v8 c2_i32_27
  let v186 : BitVec 32 := Scalar.extui v37
  let c0_i32_165 : BitVec 32 := 0#32
  let v187 : BitVec 1 := Scalar.cmpi .ne v186 c0_i32_165
  v187

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_159 : BitVec 32 := 8192#32
  let v183 : BitVec 32 := Scalar.muli v8 c8192_i32_159
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v184 : BitVec 32 := Scalar.addi v183 v9
  let c1024_i32_160 : BitVec 32 := 1024#32
  let v185 : BitVec 32 := Scalar.addi v184 c1024_i32_160
  let c0_i32_1152 : BitVec 32 := 0#32
  ![v185.toNat, 0]
def k0_off13 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c1024_i32_158 : BitVec 32 := 1024#32
  let v182 : BitVec 32 := Scalar.addi v9 c1024_i32_158
  let c0_i32_1153 : BitVec 32 := 0#32
  ![v182.toNat, 0]
def k0_dev16 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_28 : BitVec 32 := 2#32
  let v38 : BitVec 32 := Scalar.subi v8 c2_i32_28
  let c0_i32_29 : BitVec 32 := 0#32
  let v39 : BitVec 32 := Scalar.maxsi v38 c0_i32_29
  let c1_i32_1151 : BitVec 32 := 1#32
  let v804 : BitVec 32 := Scalar.muli v39 c1_i32_1151
  let v805 : BitVec 32 := Scalar.addi v803 v804
  v805.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v37 : BitVec 1 := Scalar.cmpi .sge v8 c2_i32_27
  let v192 : BitVec 32 := Scalar.extui v37
  let c0_i32_173 : BitVec 32 := 0#32
  let v193 : BitVec 1 := Scalar.cmpi .ne v192 c0_i32_173
  v193

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_167 : BitVec 32 := 8192#32
  let v189 : BitVec 32 := Scalar.muli v8 c8192_i32_167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v190 : BitVec 32 := Scalar.addi v189 v9
  let c2048_i32_168 : BitVec 32 := 2048#32
  let v191 : BitVec 32 := Scalar.addi v190 c2048_i32_168
  let c0_i32_1152 : BitVec 32 := 0#32
  ![v191.toNat, 0]
def k0_off15 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c2048_i32_166 : BitVec 32 := 2048#32
  let v188 : BitVec 32 := Scalar.addi v9 c2048_i32_166
  let c0_i32_1153 : BitVec 32 := 0#32
  ![v188.toNat, 0]
def k0_dev17 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_28 : BitVec 32 := 2#32
  let v38 : BitVec 32 := Scalar.subi v8 c2_i32_28
  let c0_i32_29 : BitVec 32 := 0#32
  let v39 : BitVec 32 := Scalar.maxsi v38 c0_i32_29
  let c1_i32_1151 : BitVec 32 := 1#32
  let v804 : BitVec 32 := Scalar.muli v39 c1_i32_1151
  let v805 : BitVec 32 := Scalar.addi v803 v804
  v805.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v37 : BitVec 1 := Scalar.cmpi .sge v8 c2_i32_27
  let v198 : BitVec 32 := Scalar.extui v37
  let c0_i32_181 : BitVec 32 := 0#32
  let v199 : BitVec 1 := Scalar.cmpi .ne v198 c0_i32_181
  v199

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_175 : BitVec 32 := 8192#32
  let v195 : BitVec 32 := Scalar.muli v8 c8192_i32_175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v196 : BitVec 32 := Scalar.addi v195 v9
  let c3072_i32_176 : BitVec 32 := 3072#32
  let v197 : BitVec 32 := Scalar.addi v196 c3072_i32_176
  let c0_i32_1152 : BitVec 32 := 0#32
  ![v197.toNat, 0]
def k0_off17 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c3072_i32_174 : BitVec 32 := 3072#32
  let v194 : BitVec 32 := Scalar.addi v9 c3072_i32_174
  let c0_i32_1153 : BitVec 32 := 0#32
  ![v194.toNat, 0]
def k0_dev18 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_28 : BitVec 32 := 2#32
  let v38 : BitVec 32 := Scalar.subi v8 c2_i32_28
  let c0_i32_29 : BitVec 32 := 0#32
  let v39 : BitVec 32 := Scalar.maxsi v38 c0_i32_29
  let c1_i32_1151 : BitVec 32 := 1#32
  let v804 : BitVec 32 := Scalar.muli v39 c1_i32_1151
  let v805 : BitVec 32 := Scalar.addi v803 v804
  v805.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 1 := Scalar.cmpi .sle v8 c2_i32_5
  let v204 : BitVec 32 := Scalar.extui v13
  let c0_i32_189 : BitVec 32 := 0#32
  let v205 : BitVec 1 := Scalar.cmpi .ne v204 c0_i32_189
  v205

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_183 : BitVec 32 := 8192#32
  let v201 : BitVec 32 := Scalar.muli v8 c8192_i32_183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v202 : BitVec 32 := Scalar.addi v201 v9
  let c0_i32_184 : BitVec 32 := 0#32
  let v203 : BitVec 32 := Scalar.addi v202 c0_i32_184
  let c0_i32_1152 : BitVec 32 := 0#32
  ![v203.toNat, 0]
def k0_off19 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c0_i32_182 : BitVec 32 := 0#32
  let v200 : BitVec 32 := Scalar.addi v9 c0_i32_182
  let c0_i32_1153 : BitVec 32 := 0#32
  ![v200.toNat, 0]
def k0_dev19 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c3_i32 : BitVec 32 := 3#32
  let v15 : BitVec 32 := Scalar.minsi v14 c3_i32
  let c1_i32_1151 : BitVec 32 := 1#32
  let v804 : BitVec 32 := Scalar.muli v15 c1_i32_1151
  let v805 : BitVec 32 := Scalar.addi v803 v804
  v805.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 1 := Scalar.cmpi .sle v8 c2_i32_5
  let v210 : BitVec 32 := Scalar.extui v13
  let c0_i32_197 : BitVec 32 := 0#32
  let v211 : BitVec 1 := Scalar.cmpi .ne v210 c0_i32_197
  v211

def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_191 : BitVec 32 := 8192#32
  let v207 : BitVec 32 := Scalar.muli v8 c8192_i32_191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v208 : BitVec 32 := Scalar.addi v207 v9
  let c1024_i32_192 : BitVec 32 := 1024#32
  let v209 : BitVec 32 := Scalar.addi v208 c1024_i32_192
  let c0_i32_1152 : BitVec 32 := 0#32
  ![v209.toNat, 0]
def k0_off21 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c1024_i32_190 : BitVec 32 := 1024#32
  let v206 : BitVec 32 := Scalar.addi v9 c1024_i32_190
  let c0_i32_1153 : BitVec 32 := 0#32
  ![v206.toNat, 0]
def k0_dev20 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c3_i32 : BitVec 32 := 3#32
  let v15 : BitVec 32 := Scalar.minsi v14 c3_i32
  let c1_i32_1151 : BitVec 32 := 1#32
  let v804 : BitVec 32 := Scalar.muli v15 c1_i32_1151
  let v805 : BitVec 32 := Scalar.addi v803 v804
  v805.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 1 := Scalar.cmpi .sle v8 c2_i32_5
  let v216 : BitVec 32 := Scalar.extui v13
  let c0_i32_205 : BitVec 32 := 0#32
  let v217 : BitVec 1 := Scalar.cmpi .ne v216 c0_i32_205
  v217

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_199 : BitVec 32 := 8192#32
  let v213 : BitVec 32 := Scalar.muli v8 c8192_i32_199
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v214 : BitVec 32 := Scalar.addi v213 v9
  let c2048_i32_200 : BitVec 32 := 2048#32
  let v215 : BitVec 32 := Scalar.addi v214 c2048_i32_200
  let c0_i32_1152 : BitVec 32 := 0#32
  ![v215.toNat, 0]
def k0_off23 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c2048_i32_198 : BitVec 32 := 2048#32
  let v212 : BitVec 32 := Scalar.addi v9 c2048_i32_198
  let c0_i32_1153 : BitVec 32 := 0#32
  ![v212.toNat, 0]
def k0_dev21 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c3_i32 : BitVec 32 := 3#32
  let v15 : BitVec 32 := Scalar.minsi v14 c3_i32
  let c1_i32_1151 : BitVec 32 := 1#32
  let v804 : BitVec 32 := Scalar.muli v15 c1_i32_1151
  let v805 : BitVec 32 := Scalar.addi v803 v804
  v805.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 1 := Scalar.cmpi .sle v8 c2_i32_5
  let v222 : BitVec 32 := Scalar.extui v13
  let c0_i32_213 : BitVec 32 := 0#32
  let v223 : BitVec 1 := Scalar.cmpi .ne v222 c0_i32_213
  v223

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_207 : BitVec 32 := 8192#32
  let v219 : BitVec 32 := Scalar.muli v8 c8192_i32_207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v220 : BitVec 32 := Scalar.addi v219 v9
  let c3072_i32_208 : BitVec 32 := 3072#32
  let v221 : BitVec 32 := Scalar.addi v220 c3072_i32_208
  let c0_i32_1152 : BitVec 32 := 0#32
  ![v221.toNat, 0]
def k0_off25 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c3072_i32_206 : BitVec 32 := 3072#32
  let v218 : BitVec 32 := Scalar.addi v9 c3072_i32_206
  let c0_i32_1153 : BitVec 32 := 0#32
  ![v218.toNat, 0]
def k0_dev22 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c3_i32 : BitVec 32 := 3#32
  let v15 : BitVec 32 := Scalar.minsi v14 c3_i32
  let c1_i32_1151 : BitVec 32 := 1#32
  let v804 : BitVec 32 := Scalar.muli v15 c1_i32_1151
  let v805 : BitVec 32 := Scalar.addi v803 v804
  v805.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 1 := Scalar.cmpi .sge v8 c1_i32_19
  let v228 : BitVec 32 := Scalar.extui v29
  let c0_i32_221 : BitVec 32 := 0#32
  let v229 : BitVec 1 := Scalar.cmpi .ne v228 c0_i32_221
  v229

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_215 : BitVec 32 := 8192#32
  let v225 : BitVec 32 := Scalar.muli v8 c8192_i32_215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v226 : BitVec 32 := Scalar.addi v225 v9
  let c0_i32_216 : BitVec 32 := 0#32
  let v227 : BitVec 32 := Scalar.addi v226 c0_i32_216
  let c0_i32_1152 : BitVec 32 := 0#32
  ![v227.toNat, 0]
def k0_off27 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c0_i32_214 : BitVec 32 := 0#32
  let v224 : BitVec 32 := Scalar.addi v9 c0_i32_214
  let c0_i32_1153 : BitVec 32 := 0#32
  ![v224.toNat, 0]
def k0_dev23 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v30 : BitVec 32 := Scalar.subi v8 c1_i32_20
  let c0_i32_21 : BitVec 32 := 0#32
  let v31 : BitVec 32 := Scalar.maxsi v30 c0_i32_21
  let c1_i32_1151 : BitVec 32 := 1#32
  let v804 : BitVec 32 := Scalar.muli v31 c1_i32_1151
  let v805 : BitVec 32 := Scalar.addi v803 v804
  v805.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 1 := Scalar.cmpi .sge v8 c1_i32_19
  let v234 : BitVec 32 := Scalar.extui v29
  let c0_i32_229 : BitVec 32 := 0#32
  let v235 : BitVec 1 := Scalar.cmpi .ne v234 c0_i32_229
  v235

def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_223 : BitVec 32 := 8192#32
  let v231 : BitVec 32 := Scalar.muli v8 c8192_i32_223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v232 : BitVec 32 := Scalar.addi v231 v9
  let c1024_i32_224 : BitVec 32 := 1024#32
  let v233 : BitVec 32 := Scalar.addi v232 c1024_i32_224
  let c0_i32_1152 : BitVec 32 := 0#32
  ![v233.toNat, 0]
def k0_off29 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c1024_i32_222 : BitVec 32 := 1024#32
  let v230 : BitVec 32 := Scalar.addi v9 c1024_i32_222
  let c0_i32_1153 : BitVec 32 := 0#32
  ![v230.toNat, 0]
def k0_dev24 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v30 : BitVec 32 := Scalar.subi v8 c1_i32_20
  let c0_i32_21 : BitVec 32 := 0#32
  let v31 : BitVec 32 := Scalar.maxsi v30 c0_i32_21
  let c1_i32_1151 : BitVec 32 := 1#32
  let v804 : BitVec 32 := Scalar.muli v31 c1_i32_1151
  let v805 : BitVec 32 := Scalar.addi v803 v804
  v805.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 1 := Scalar.cmpi .sge v8 c1_i32_19
  let v240 : BitVec 32 := Scalar.extui v29
  let c0_i32_237 : BitVec 32 := 0#32
  let v241 : BitVec 1 := Scalar.cmpi .ne v240 c0_i32_237
  v241

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_231 : BitVec 32 := 8192#32
  let v237 : BitVec 32 := Scalar.muli v8 c8192_i32_231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v238 : BitVec 32 := Scalar.addi v237 v9
  let c2048_i32_232 : BitVec 32 := 2048#32
  let v239 : BitVec 32 := Scalar.addi v238 c2048_i32_232
  let c0_i32_1152 : BitVec 32 := 0#32
  ![v239.toNat, 0]
def k0_off31 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c2048_i32_230 : BitVec 32 := 2048#32
  let v236 : BitVec 32 := Scalar.addi v9 c2048_i32_230
  let c0_i32_1153 : BitVec 32 := 0#32
  ![v236.toNat, 0]
def k0_dev25 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v30 : BitVec 32 := Scalar.subi v8 c1_i32_20
  let c0_i32_21 : BitVec 32 := 0#32
  let v31 : BitVec 32 := Scalar.maxsi v30 c0_i32_21
  let c1_i32_1151 : BitVec 32 := 1#32
  let v804 : BitVec 32 := Scalar.muli v31 c1_i32_1151
  let v805 : BitVec 32 := Scalar.addi v803 v804
  v805.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 1 := Scalar.cmpi .sge v8 c1_i32_19
  let v246 : BitVec 32 := Scalar.extui v29
  let c0_i32_245 : BitVec 32 := 0#32
  let v247 : BitVec 1 := Scalar.cmpi .ne v246 c0_i32_245
  v247

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_239 : BitVec 32 := 8192#32
  let v243 : BitVec 32 := Scalar.muli v8 c8192_i32_239
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v244 : BitVec 32 := Scalar.addi v243 v9
  let c3072_i32_240 : BitVec 32 := 3072#32
  let v245 : BitVec 32 := Scalar.addi v244 c3072_i32_240
  let c0_i32_1152 : BitVec 32 := 0#32
  ![v245.toNat, 0]
def k0_off33 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c3072_i32_238 : BitVec 32 := 3072#32
  let v242 : BitVec 32 := Scalar.addi v9 c3072_i32_238
  let c0_i32_1153 : BitVec 32 := 0#32
  ![v242.toNat, 0]
def k0_dev26 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v802 : BitVec 32 := Scalar.muli v5 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v30 : BitVec 32 := Scalar.subi v8 c1_i32_20
  let c0_i32_21 : BitVec 32 := 0#32
  let v31 : BitVec 32 := Scalar.maxsi v30 c0_i32_21
  let c1_i32_1151 : BitVec 32 := 1#32
  let v804 : BitVec 32 := Scalar.muli v31 c1_i32_1151
  let v805 : BitVec 32 := Scalar.addi v803 v804
  v805.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v251 : BitVec 32 := Scalar.extui v24
  let c0_i32_252 : BitVec 32 := 0#32
  let v252 : BitVec 1 := Scalar.cmpi .ne v251 c0_i32_252
  v252

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_246 : BitVec 32 := 8192#32
  let v248 : BitVec 32 := Scalar.muli v28 c8192_i32_246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v249 : BitVec 32 := Scalar.addi v248 v9
  let c0_i32_247 : BitVec 32 := 0#32
  let v250 : BitVec 32 := Scalar.addi v249 c0_i32_247
  let c0_i32_1152 : BitVec 32 := 0#32
  ![v250.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v45 : BitVec 1 := Scalar.cmpi .eq v8 c2_i32_35
  let v256 : BitVec 32 := Scalar.extui v45
  let c0_i32_260 : BitVec 32 := 0#32
  let v257 : BitVec 1 := Scalar.cmpi .ne v256 c0_i32_260
  v257

def k0_off35 (d0 : Dev nD) : Fin 2 → Nat :=
  let c0_i32_253 : BitVec 32 := 0#32
  let c8192_i32_254 : BitVec 32 := 8192#32
  let v253 : BitVec 32 := Scalar.muli c0_i32_253 c8192_i32_254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v254 : BitVec 32 := Scalar.addi v253 v9
  let c0_i32_255 : BitVec 32 := 0#32
  let v255 : BitVec 32 := Scalar.addi v254 c0_i32_255
  let c0_i32_1153 : BitVec 32 := 0#32
  ![v255.toNat, 0]
def k0_dev27 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let c3_i32_1148 : BitVec 32 := 3#32
  let c1_i32_1152 : BitVec 32 := 1#32
  let v804 : BitVec 32 := Scalar.muli c3_i32_1148 c1_i32_1152
  let v805 : BitVec 32 := Scalar.addi v803 v804
  v805.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v261 : BitVec 32 := Scalar.extui v24
  let c0_i32_266 : BitVec 32 := 0#32
  let v262 : BitVec 1 := Scalar.cmpi .ne v261 c0_i32_266
  v262

def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_261 : BitVec 32 := 8192#32
  let v258 : BitVec 32 := Scalar.muli v28 c8192_i32_261
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v259 : BitVec 32 := Scalar.addi v258 v9
  let c0_i32_262 : BitVec 32 := 0#32
  let v260 : BitVec 32 := Scalar.addi v259 c0_i32_262
  let c0_i32_1152 : BitVec 32 := 0#32
  ![v260.toNat, 0]
def k0_dev28 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v266 : BitVec 32 := Scalar.extui v40
  let c0_i32_273 : BitVec 32 := 0#32
  let v267 : BitVec 1 := Scalar.cmpi .ne v266 c0_i32_273
  v267

def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_267 : BitVec 32 := 8192#32
  let v263 : BitVec 32 := Scalar.muli v44 c8192_i32_267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v264 : BitVec 32 := Scalar.addi v263 v9
  let c0_i32_268 : BitVec 32 := 0#32
  let v265 : BitVec 32 := Scalar.addi v264 c0_i32_268
  let c0_i32_1152 : BitVec 32 := 0#32
  ![v265.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 1 := Scalar.cmpi .eq v8 c1_i32_37
  let v271 : BitVec 32 := Scalar.extui v47
  let c0_i32_280 : BitVec 32 := 0#32
  let v272 : BitVec 1 := Scalar.cmpi .ne v271 c0_i32_280
  v272

def k0_off38 (d0 : Dev nD) : Fin 2 → Nat :=
  let c3_i32_274 : BitVec 32 := 3#32
  let c8192_i32_275 : BitVec 32 := 8192#32
  let v268 : BitVec 32 := Scalar.muli c3_i32_274 c8192_i32_275
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v269 : BitVec 32 := Scalar.addi v268 v9
  let c0_i32_276 : BitVec 32 := 0#32
  let v270 : BitVec 32 := Scalar.addi v269 c0_i32_276
  let c0_i32_1153 : BitVec 32 := 0#32
  ![v270.toNat, 0]
def k0_dev29 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let c0_i32_1148 : BitVec 32 := 0#32
  let c1_i32_1152 : BitVec 32 := 1#32
  let v804 : BitVec 32 := Scalar.muli c0_i32_1148 c1_i32_1152
  let v805 : BitVec 32 := Scalar.addi v803 v804
  v805.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v276 : BitVec 32 := Scalar.extui v40
  let c0_i32_286 : BitVec 32 := 0#32
  let v277 : BitVec 1 := Scalar.cmpi .ne v276 c0_i32_286
  v277

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_281 : BitVec 32 := 8192#32
  let v273 : BitVec 32 := Scalar.muli v44 c8192_i32_281
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v274 : BitVec 32 := Scalar.addi v273 v9
  let c0_i32_282 : BitVec 32 := 0#32
  let v275 : BitVec 32 := Scalar.addi v274 c0_i32_282
  let c0_i32_1152 : BitVec 32 := 0#32
  ![v275.toNat, 0]
def k0_dev30 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v281 : BitVec 32 := Scalar.extui v16
  let c0_i32_293 : BitVec 32 := 0#32
  let v282 : BitVec 1 := Scalar.cmpi .ne v281 c0_i32_293
  v282

def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_287 : BitVec 32 := 8192#32
  let v278 : BitVec 32 := Scalar.muli v20 c8192_i32_287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v279 : BitVec 32 := Scalar.addi v278 v9
  let c0_i32_288 : BitVec 32 := 0#32
  let v280 : BitVec 32 := Scalar.addi v279 c0_i32_288
  let c0_i32_1152 : BitVec 32 := 0#32
  ![v280.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v286 : BitVec 32 := Scalar.extui v16
  let c0_i32_299 : BitVec 32 := 0#32
  let v287 : BitVec 1 := Scalar.cmpi .ne v286 c0_i32_299
  v287

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_294 : BitVec 32 := 8192#32
  let v283 : BitVec 32 := Scalar.muli v20 c8192_i32_294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v284 : BitVec 32 := Scalar.addi v283 v9
  let c0_i32_295 : BitVec 32 := 0#32
  let v285 : BitVec 32 := Scalar.addi v284 c0_i32_295
  let c0_i32_1152 : BitVec 32 := 0#32
  ![v285.toNat, 0]
def k0_dev31 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v291 : BitVec 32 := Scalar.extui v32
  let c0_i32_306 : BitVec 32 := 0#32
  let v292 : BitVec 1 := Scalar.cmpi .ne v291 c0_i32_306
  v292

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_300 : BitVec 32 := 8192#32
  let v288 : BitVec 32 := Scalar.muli v36 c8192_i32_300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v289 : BitVec 32 := Scalar.addi v288 v9
  let c0_i32_301 : BitVec 32 := 0#32
  let v290 : BitVec 32 := Scalar.addi v289 c0_i32_301
  let c0_i32_1152 : BitVec 32 := 0#32
  ![v290.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v296 : BitVec 32 := Scalar.extui v32
  let c0_i32_313 : BitVec 32 := 0#32
  let v297 : BitVec 1 := Scalar.cmpi .ne v296 c0_i32_313
  v297

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_307 : BitVec 32 := 8192#32
  let v293 : BitVec 32 := Scalar.muli v36 c8192_i32_307
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v294 : BitVec 32 := Scalar.addi v293 v9
  let c0_i32_308 : BitVec 32 := 0#32
  let v295 : BitVec 32 := Scalar.addi v294 c0_i32_308
  let c0_i32_1152 : BitVec 32 := 0#32
  ![v295.toNat, 0]
def k0_dev32 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v301 : BitVec 32 := Scalar.extui v24
  let c0_i32_320 : BitVec 32 := 0#32
  let v302 : BitVec 1 := Scalar.cmpi .ne v301 c0_i32_320
  v302

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_314 : BitVec 32 := 8192#32
  let v298 : BitVec 32 := Scalar.muli v28 c8192_i32_314
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v299 : BitVec 32 := Scalar.addi v298 v9
  let c1024_i32_315 : BitVec 32 := 1024#32
  let v300 : BitVec 32 := Scalar.addi v299 c1024_i32_315
  let c0_i32_1152 : BitVec 32 := 0#32
  ![v300.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v45 : BitVec 1 := Scalar.cmpi .eq v8 c2_i32_35
  let v306 : BitVec 32 := Scalar.extui v45
  let c0_i32_328 : BitVec 32 := 0#32
  let v307 : BitVec 1 := Scalar.cmpi .ne v306 c0_i32_328
  v307

def k0_off45 (d0 : Dev nD) : Fin 2 → Nat :=
  let c0_i32_321 : BitVec 32 := 0#32
  let c8192_i32_322 : BitVec 32 := 8192#32
  let v303 : BitVec 32 := Scalar.muli c0_i32_321 c8192_i32_322
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v304 : BitVec 32 := Scalar.addi v303 v9
  let c1024_i32_323 : BitVec 32 := 1024#32
  let v305 : BitVec 32 := Scalar.addi v304 c1024_i32_323
  let c0_i32_1153 : BitVec 32 := 0#32
  ![v305.toNat, 0]
def k0_dev33 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let c3_i32_1148 : BitVec 32 := 3#32
  let c1_i32_1152 : BitVec 32 := 1#32
  let v804 : BitVec 32 := Scalar.muli c3_i32_1148 c1_i32_1152
  let v805 : BitVec 32 := Scalar.addi v803 v804
  v805.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v311 : BitVec 32 := Scalar.extui v24
  let c0_i32_335 : BitVec 32 := 0#32
  let v312 : BitVec 1 := Scalar.cmpi .ne v311 c0_i32_335
  v312

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_329 : BitVec 32 := 8192#32
  let v308 : BitVec 32 := Scalar.muli v28 c8192_i32_329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v309 : BitVec 32 := Scalar.addi v308 v9
  let c1024_i32_330 : BitVec 32 := 1024#32
  let v310 : BitVec 32 := Scalar.addi v309 c1024_i32_330
  let c0_i32_1152 : BitVec 32 := 0#32
  ![v310.toNat, 0]
def k0_dev34 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v316 : BitVec 32 := Scalar.extui v40
  let c0_i32_342 : BitVec 32 := 0#32
  let v317 : BitVec 1 := Scalar.cmpi .ne v316 c0_i32_342
  v317

def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_336 : BitVec 32 := 8192#32
  let v313 : BitVec 32 := Scalar.muli v44 c8192_i32_336
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v314 : BitVec 32 := Scalar.addi v313 v9
  let c1024_i32_337 : BitVec 32 := 1024#32
  let v315 : BitVec 32 := Scalar.addi v314 c1024_i32_337
  let c0_i32_1152 : BitVec 32 := 0#32
  ![v315.toNat, 0]
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 1 := Scalar.cmpi .eq v8 c1_i32_37
  let v321 : BitVec 32 := Scalar.extui v47
  let c0_i32_350 : BitVec 32 := 0#32
  let v322 : BitVec 1 := Scalar.cmpi .ne v321 c0_i32_350
  v322

def k0_off48 (d0 : Dev nD) : Fin 2 → Nat :=
  let c3_i32_343 : BitVec 32 := 3#32
  let c8192_i32_344 : BitVec 32 := 8192#32
  let v318 : BitVec 32 := Scalar.muli c3_i32_343 c8192_i32_344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v319 : BitVec 32 := Scalar.addi v318 v9
  let c1024_i32_345 : BitVec 32 := 1024#32
  let v320 : BitVec 32 := Scalar.addi v319 c1024_i32_345
  let c0_i32_1153 : BitVec 32 := 0#32
  ![v320.toNat, 0]
def k0_dev35 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let c0_i32_1148 : BitVec 32 := 0#32
  let c1_i32_1152 : BitVec 32 := 1#32
  let v804 : BitVec 32 := Scalar.muli c0_i32_1148 c1_i32_1152
  let v805 : BitVec 32 := Scalar.addi v803 v804
  v805.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v326 : BitVec 32 := Scalar.extui v40
  let c0_i32_357 : BitVec 32 := 0#32
  let v327 : BitVec 1 := Scalar.cmpi .ne v326 c0_i32_357
  v327

def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_351 : BitVec 32 := 8192#32
  let v323 : BitVec 32 := Scalar.muli v44 c8192_i32_351
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v324 : BitVec 32 := Scalar.addi v323 v9
  let c1024_i32_352 : BitVec 32 := 1024#32
  let v325 : BitVec 32 := Scalar.addi v324 c1024_i32_352
  let c0_i32_1152 : BitVec 32 := 0#32
  ![v325.toNat, 0]
def k0_dev36 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v331 : BitVec 32 := Scalar.extui v16
  let c0_i32_364 : BitVec 32 := 0#32
  let v332 : BitVec 1 := Scalar.cmpi .ne v331 c0_i32_364
  v332

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_358 : BitVec 32 := 8192#32
  let v328 : BitVec 32 := Scalar.muli v20 c8192_i32_358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v329 : BitVec 32 := Scalar.addi v328 v9
  let c1024_i32_359 : BitVec 32 := 1024#32
  let v330 : BitVec 32 := Scalar.addi v329 c1024_i32_359
  let c0_i32_1152 : BitVec 32 := 0#32
  ![v330.toNat, 0]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v336 : BitVec 32 := Scalar.extui v16
  let c0_i32_371 : BitVec 32 := 0#32
  let v337 : BitVec 1 := Scalar.cmpi .ne v336 c0_i32_371
  v337

def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_365 : BitVec 32 := 8192#32
  let v333 : BitVec 32 := Scalar.muli v20 c8192_i32_365
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v334 : BitVec 32 := Scalar.addi v333 v9
  let c1024_i32_366 : BitVec 32 := 1024#32
  let v335 : BitVec 32 := Scalar.addi v334 c1024_i32_366
  let c0_i32_1152 : BitVec 32 := 0#32
  ![v335.toNat, 0]
def k0_dev37 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v341 : BitVec 32 := Scalar.extui v32
  let c0_i32_378 : BitVec 32 := 0#32
  let v342 : BitVec 1 := Scalar.cmpi .ne v341 c0_i32_378
  v342

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_372 : BitVec 32 := 8192#32
  let v338 : BitVec 32 := Scalar.muli v36 c8192_i32_372
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v339 : BitVec 32 := Scalar.addi v338 v9
  let c1024_i32_373 : BitVec 32 := 1024#32
  let v340 : BitVec 32 := Scalar.addi v339 c1024_i32_373
  let c0_i32_1152 : BitVec 32 := 0#32
  ![v340.toNat, 0]
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v346 : BitVec 32 := Scalar.extui v32
  let c0_i32_385 : BitVec 32 := 0#32
  let v347 : BitVec 1 := Scalar.cmpi .ne v346 c0_i32_385
  v347

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_379 : BitVec 32 := 8192#32
  let v343 : BitVec 32 := Scalar.muli v36 c8192_i32_379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v344 : BitVec 32 := Scalar.addi v343 v9
  let c1024_i32_380 : BitVec 32 := 1024#32
  let v345 : BitVec 32 := Scalar.addi v344 c1024_i32_380
  let c0_i32_1152 : BitVec 32 := 0#32
  ![v345.toNat, 0]
def k0_dev38 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v351 : BitVec 32 := Scalar.extui v24
  let c0_i32_392 : BitVec 32 := 0#32
  let v352 : BitVec 1 := Scalar.cmpi .ne v351 c0_i32_392
  v352

def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_386 : BitVec 32 := 8192#32
  let v348 : BitVec 32 := Scalar.muli v28 c8192_i32_386
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v349 : BitVec 32 := Scalar.addi v348 v9
  let c2048_i32_387 : BitVec 32 := 2048#32
  let v350 : BitVec 32 := Scalar.addi v349 c2048_i32_387
  let c0_i32_1152 : BitVec 32 := 0#32
  ![v350.toNat, 0]
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v45 : BitVec 1 := Scalar.cmpi .eq v8 c2_i32_35
  let v356 : BitVec 32 := Scalar.extui v45
  let c0_i32_400 : BitVec 32 := 0#32
  let v357 : BitVec 1 := Scalar.cmpi .ne v356 c0_i32_400
  v357

def k0_off55 (d0 : Dev nD) : Fin 2 → Nat :=
  let c0_i32_393 : BitVec 32 := 0#32
  let c8192_i32_394 : BitVec 32 := 8192#32
  let v353 : BitVec 32 := Scalar.muli c0_i32_393 c8192_i32_394
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v354 : BitVec 32 := Scalar.addi v353 v9
  let c2048_i32_395 : BitVec 32 := 2048#32
  let v355 : BitVec 32 := Scalar.addi v354 c2048_i32_395
  let c0_i32_1153 : BitVec 32 := 0#32
  ![v355.toNat, 0]
def k0_dev39 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let c3_i32_1148 : BitVec 32 := 3#32
  let c1_i32_1152 : BitVec 32 := 1#32
  let v804 : BitVec 32 := Scalar.muli c3_i32_1148 c1_i32_1152
  let v805 : BitVec 32 := Scalar.addi v803 v804
  v805.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v361 : BitVec 32 := Scalar.extui v24
  let c0_i32_407 : BitVec 32 := 0#32
  let v362 : BitVec 1 := Scalar.cmpi .ne v361 c0_i32_407
  v362

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_401 : BitVec 32 := 8192#32
  let v358 : BitVec 32 := Scalar.muli v28 c8192_i32_401
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v359 : BitVec 32 := Scalar.addi v358 v9
  let c2048_i32_402 : BitVec 32 := 2048#32
  let v360 : BitVec 32 := Scalar.addi v359 c2048_i32_402
  let c0_i32_1152 : BitVec 32 := 0#32
  ![v360.toNat, 0]
def k0_dev40 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v366 : BitVec 32 := Scalar.extui v40
  let c0_i32_414 : BitVec 32 := 0#32
  let v367 : BitVec 1 := Scalar.cmpi .ne v366 c0_i32_414
  v367

def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_408 : BitVec 32 := 8192#32
  let v363 : BitVec 32 := Scalar.muli v44 c8192_i32_408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v364 : BitVec 32 := Scalar.addi v363 v9
  let c2048_i32_409 : BitVec 32 := 2048#32
  let v365 : BitVec 32 := Scalar.addi v364 c2048_i32_409
  let c0_i32_1152 : BitVec 32 := 0#32
  ![v365.toNat, 0]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 1 := Scalar.cmpi .eq v8 c1_i32_37
  let v371 : BitVec 32 := Scalar.extui v47
  let c0_i32_422 : BitVec 32 := 0#32
  let v372 : BitVec 1 := Scalar.cmpi .ne v371 c0_i32_422
  v372

def k0_off58 (d0 : Dev nD) : Fin 2 → Nat :=
  let c3_i32_415 : BitVec 32 := 3#32
  let c8192_i32_416 : BitVec 32 := 8192#32
  let v368 : BitVec 32 := Scalar.muli c3_i32_415 c8192_i32_416
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v369 : BitVec 32 := Scalar.addi v368 v9
  let c2048_i32_417 : BitVec 32 := 2048#32
  let v370 : BitVec 32 := Scalar.addi v369 c2048_i32_417
  let c0_i32_1153 : BitVec 32 := 0#32
  ![v370.toNat, 0]
def k0_dev41 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let c0_i32_1148 : BitVec 32 := 0#32
  let c1_i32_1152 : BitVec 32 := 1#32
  let v804 : BitVec 32 := Scalar.muli c0_i32_1148 c1_i32_1152
  let v805 : BitVec 32 := Scalar.addi v803 v804
  v805.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v376 : BitVec 32 := Scalar.extui v40
  let c0_i32_429 : BitVec 32 := 0#32
  let v377 : BitVec 1 := Scalar.cmpi .ne v376 c0_i32_429
  v377

def k0_off59 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_423 : BitVec 32 := 8192#32
  let v373 : BitVec 32 := Scalar.muli v44 c8192_i32_423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v374 : BitVec 32 := Scalar.addi v373 v9
  let c2048_i32_424 : BitVec 32 := 2048#32
  let v375 : BitVec 32 := Scalar.addi v374 c2048_i32_424
  let c0_i32_1152 : BitVec 32 := 0#32
  ![v375.toNat, 0]
def k0_dev42 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v381 : BitVec 32 := Scalar.extui v16
  let c0_i32_436 : BitVec 32 := 0#32
  let v382 : BitVec 1 := Scalar.cmpi .ne v381 c0_i32_436
  v382

def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_430 : BitVec 32 := 8192#32
  let v378 : BitVec 32 := Scalar.muli v20 c8192_i32_430
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v379 : BitVec 32 := Scalar.addi v378 v9
  let c2048_i32_431 : BitVec 32 := 2048#32
  let v380 : BitVec 32 := Scalar.addi v379 c2048_i32_431
  let c0_i32_1152 : BitVec 32 := 0#32
  ![v380.toNat, 0]
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v386 : BitVec 32 := Scalar.extui v16
  let c0_i32_443 : BitVec 32 := 0#32
  let v387 : BitVec 1 := Scalar.cmpi .ne v386 c0_i32_443
  v387

def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_437 : BitVec 32 := 8192#32
  let v383 : BitVec 32 := Scalar.muli v20 c8192_i32_437
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v384 : BitVec 32 := Scalar.addi v383 v9
  let c2048_i32_438 : BitVec 32 := 2048#32
  let v385 : BitVec 32 := Scalar.addi v384 c2048_i32_438
  let c0_i32_1152 : BitVec 32 := 0#32
  ![v385.toNat, 0]
def k0_dev43 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v391 : BitVec 32 := Scalar.extui v32
  let c0_i32_450 : BitVec 32 := 0#32
  let v392 : BitVec 1 := Scalar.cmpi .ne v391 c0_i32_450
  v392

def k0_off62 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_444 : BitVec 32 := 8192#32
  let v388 : BitVec 32 := Scalar.muli v36 c8192_i32_444
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v389 : BitVec 32 := Scalar.addi v388 v9
  let c2048_i32_445 : BitVec 32 := 2048#32
  let v390 : BitVec 32 := Scalar.addi v389 c2048_i32_445
  let c0_i32_1152 : BitVec 32 := 0#32
  ![v390.toNat, 0]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v396 : BitVec 32 := Scalar.extui v32
  let c0_i32_457 : BitVec 32 := 0#32
  let v397 : BitVec 1 := Scalar.cmpi .ne v396 c0_i32_457
  v397

def k0_off63 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_451 : BitVec 32 := 8192#32
  let v393 : BitVec 32 := Scalar.muli v36 c8192_i32_451
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v394 : BitVec 32 := Scalar.addi v393 v9
  let c2048_i32_452 : BitVec 32 := 2048#32
  let v395 : BitVec 32 := Scalar.addi v394 c2048_i32_452
  let c0_i32_1152 : BitVec 32 := 0#32
  ![v395.toNat, 0]
def k0_dev44 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v401 : BitVec 32 := Scalar.extui v24
  let c0_i32_464 : BitVec 32 := 0#32
  let v402 : BitVec 1 := Scalar.cmpi .ne v401 c0_i32_464
  v402

def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_458 : BitVec 32 := 8192#32
  let v398 : BitVec 32 := Scalar.muli v28 c8192_i32_458
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v399 : BitVec 32 := Scalar.addi v398 v9
  let c3072_i32_459 : BitVec 32 := 3072#32
  let v400 : BitVec 32 := Scalar.addi v399 c3072_i32_459
  let c0_i32_1152 : BitVec 32 := 0#32
  ![v400.toNat, 0]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v45 : BitVec 1 := Scalar.cmpi .eq v8 c2_i32_35
  let v406 : BitVec 32 := Scalar.extui v45
  let c0_i32_472 : BitVec 32 := 0#32
  let v407 : BitVec 1 := Scalar.cmpi .ne v406 c0_i32_472
  v407

def k0_off65 (d0 : Dev nD) : Fin 2 → Nat :=
  let c0_i32_465 : BitVec 32 := 0#32
  let c8192_i32_466 : BitVec 32 := 8192#32
  let v403 : BitVec 32 := Scalar.muli c0_i32_465 c8192_i32_466
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v404 : BitVec 32 := Scalar.addi v403 v9
  let c3072_i32_467 : BitVec 32 := 3072#32
  let v405 : BitVec 32 := Scalar.addi v404 c3072_i32_467
  let c0_i32_1153 : BitVec 32 := 0#32
  ![v405.toNat, 0]
def k0_dev45 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let c3_i32_1148 : BitVec 32 := 3#32
  let c1_i32_1152 : BitVec 32 := 1#32
  let v804 : BitVec 32 := Scalar.muli c3_i32_1148 c1_i32_1152
  let v805 : BitVec 32 := Scalar.addi v803 v804
  v805.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v411 : BitVec 32 := Scalar.extui v24
  let c0_i32_479 : BitVec 32 := 0#32
  let v412 : BitVec 1 := Scalar.cmpi .ne v411 c0_i32_479
  v412

def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_473 : BitVec 32 := 8192#32
  let v408 : BitVec 32 := Scalar.muli v28 c8192_i32_473
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v409 : BitVec 32 := Scalar.addi v408 v9
  let c3072_i32_474 : BitVec 32 := 3072#32
  let v410 : BitVec 32 := Scalar.addi v409 c3072_i32_474
  let c0_i32_1152 : BitVec 32 := 0#32
  ![v410.toNat, 0]
def k0_dev46 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v416 : BitVec 32 := Scalar.extui v40
  let c0_i32_486 : BitVec 32 := 0#32
  let v417 : BitVec 1 := Scalar.cmpi .ne v416 c0_i32_486
  v417

def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_480 : BitVec 32 := 8192#32
  let v413 : BitVec 32 := Scalar.muli v44 c8192_i32_480
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v414 : BitVec 32 := Scalar.addi v413 v9
  let c3072_i32_481 : BitVec 32 := 3072#32
  let v415 : BitVec 32 := Scalar.addi v414 c3072_i32_481
  let c0_i32_1152 : BitVec 32 := 0#32
  ![v415.toNat, 0]
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 1 := Scalar.cmpi .eq v8 c1_i32_37
  let v421 : BitVec 32 := Scalar.extui v47
  let c0_i32_494 : BitVec 32 := 0#32
  let v422 : BitVec 1 := Scalar.cmpi .ne v421 c0_i32_494
  v422

def k0_off68 (d0 : Dev nD) : Fin 2 → Nat :=
  let c3_i32_487 : BitVec 32 := 3#32
  let c8192_i32_488 : BitVec 32 := 8192#32
  let v418 : BitVec 32 := Scalar.muli c3_i32_487 c8192_i32_488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v419 : BitVec 32 := Scalar.addi v418 v9
  let c3072_i32_489 : BitVec 32 := 3072#32
  let v420 : BitVec 32 := Scalar.addi v419 c3072_i32_489
  let c0_i32_1153 : BitVec 32 := 0#32
  ![v420.toNat, 0]
def k0_dev47 (d0 : Dev nD) : Nat :=
  let c0_i32_1150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1149 : BitVec 32 := 8#32
  let v800 : BitVec 32 := Scalar.muli v2 c8_i32_1149
  let v801 : BitVec 32 := Scalar.addi c0_i32_1150 v800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v802 : BitVec 32 := Scalar.muli v5 c4_i32_1151
  let v803 : BitVec 32 := Scalar.addi v801 v802
  let c0_i32_1148 : BitVec 32 := 0#32
  let c1_i32_1152 : BitVec 32 := 1#32
  let v804 : BitVec 32 := Scalar.muli c0_i32_1148 c1_i32_1152
  let v805 : BitVec 32 := Scalar.addi v803 v804
  v805.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v426 : BitVec 32 := Scalar.extui v40
  let c0_i32_501 : BitVec 32 := 0#32
  let v427 : BitVec 1 := Scalar.cmpi .ne v426 c0_i32_501
  v427

def k0_off69 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_495 : BitVec 32 := 8192#32
  let v423 : BitVec 32 := Scalar.muli v44 c8192_i32_495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v424 : BitVec 32 := Scalar.addi v423 v9
  let c3072_i32_496 : BitVec 32 := 3072#32
  let v425 : BitVec 32 := Scalar.addi v424 c3072_i32_496
  let c0_i32_1152 : BitVec 32 := 0#32
  ![v425.toNat, 0]
def k0_dev48 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v431 : BitVec 32 := Scalar.extui v16
  let c0_i32_508 : BitVec 32 := 0#32
  let v432 : BitVec 1 := Scalar.cmpi .ne v431 c0_i32_508
  v432

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_502 : BitVec 32 := 8192#32
  let v428 : BitVec 32 := Scalar.muli v20 c8192_i32_502
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v429 : BitVec 32 := Scalar.addi v428 v9
  let c3072_i32_503 : BitVec 32 := 3072#32
  let v430 : BitVec 32 := Scalar.addi v429 c3072_i32_503
  let c0_i32_1152 : BitVec 32 := 0#32
  ![v430.toNat, 0]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v436 : BitVec 32 := Scalar.extui v16
  let c0_i32_515 : BitVec 32 := 0#32
  let v437 : BitVec 1 := Scalar.cmpi .ne v436 c0_i32_515
  v437

def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_509 : BitVec 32 := 8192#32
  let v433 : BitVec 32 := Scalar.muli v20 c8192_i32_509
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v434 : BitVec 32 := Scalar.addi v433 v9
  let c3072_i32_510 : BitVec 32 := 3072#32
  let v435 : BitVec 32 := Scalar.addi v434 c3072_i32_510
  let c0_i32_1152 : BitVec 32 := 0#32
  ![v435.toNat, 0]
def k0_dev49 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v441 : BitVec 32 := Scalar.extui v32
  let c0_i32_522 : BitVec 32 := 0#32
  let v442 : BitVec 1 := Scalar.cmpi .ne v441 c0_i32_522
  v442

def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_516 : BitVec 32 := 8192#32
  let v438 : BitVec 32 := Scalar.muli v36 c8192_i32_516
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v439 : BitVec 32 := Scalar.addi v438 v9
  let c3072_i32_517 : BitVec 32 := 3072#32
  let v440 : BitVec 32 := Scalar.addi v439 c3072_i32_517
  let c0_i32_1152 : BitVec 32 := 0#32
  ![v440.toNat, 0]
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v446 : BitVec 32 := Scalar.extui v32
  let c0_i32_529 : BitVec 32 := 0#32
  let v447 : BitVec 1 := Scalar.cmpi .ne v446 c0_i32_529
  v447

def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_523 : BitVec 32 := 8192#32
  let v443 : BitVec 32 := Scalar.muli v36 c8192_i32_523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v444 : BitVec 32 := Scalar.addi v443 v9
  let c3072_i32_524 : BitVec 32 := 3072#32
  let v445 : BitVec 32 := Scalar.addi v444 c3072_i32_524
  let c0_i32_1152 : BitVec 32 := 0#32
  ![v445.toNat, 0]
def k0_dev50 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v451 : BitVec 32 := Scalar.extui v46
  let c0_i32_537 : BitVec 32 := 0#32
  let v452 : BitVec 1 := Scalar.cmpi .ne v451 c0_i32_537
  v452

def k0_off74 (d0 : Dev nD) : Fin 2 → Nat :=
  let c0_i32_530 : BitVec 32 := 0#32
  let c8192_i32_531 : BitVec 32 := 8192#32
  let v448 : BitVec 32 := Scalar.muli c0_i32_530 c8192_i32_531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v449 : BitVec 32 := Scalar.addi v448 v9
  let c0_i32_532 : BitVec 32 := 0#32
  let v450 : BitVec 32 := Scalar.addi v449 c0_i32_532
  let c0_i32_1153 : BitVec 32 := 0#32
  ![v450.toNat, 0]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v456 : BitVec 32 := Scalar.extui v46
  let c0_i32_544 : BitVec 32 := 0#32
  let v457 : BitVec 1 := Scalar.cmpi .ne v456 c0_i32_544
  v457

def k0_off75 (d0 : Dev nD) : Fin 2 → Nat :=
  let c0_i32_538 : BitVec 32 := 0#32
  let c8192_i32_539 : BitVec 32 := 8192#32
  let v453 : BitVec 32 := Scalar.muli c0_i32_538 c8192_i32_539
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v454 : BitVec 32 := Scalar.addi v453 v9
  let c0_i32_540 : BitVec 32 := 0#32
  let v455 : BitVec 32 := Scalar.addi v454 c0_i32_540
  let c0_i32_1152 : BitVec 32 := 0#32
  ![v455.toNat, 0]
def k0_dev51 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v461 : BitVec 32 := Scalar.extui v48
  let c0_i32_552 : BitVec 32 := 0#32
  let v462 : BitVec 1 := Scalar.cmpi .ne v461 c0_i32_552
  v462

def k0_off76 (d0 : Dev nD) : Fin 2 → Nat :=
  let c3_i32_545 : BitVec 32 := 3#32
  let c8192_i32_546 : BitVec 32 := 8192#32
  let v458 : BitVec 32 := Scalar.muli c3_i32_545 c8192_i32_546
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v459 : BitVec 32 := Scalar.addi v458 v9
  let c0_i32_547 : BitVec 32 := 0#32
  let v460 : BitVec 32 := Scalar.addi v459 c0_i32_547
  let c0_i32_1153 : BitVec 32 := 0#32
  ![v460.toNat, 0]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v466 : BitVec 32 := Scalar.extui v48
  let c0_i32_559 : BitVec 32 := 0#32
  let v467 : BitVec 1 := Scalar.cmpi .ne v466 c0_i32_559
  v467

def k0_off77 (d0 : Dev nD) : Fin 2 → Nat :=
  let c3_i32_553 : BitVec 32 := 3#32
  let c8192_i32_554 : BitVec 32 := 8192#32
  let v463 : BitVec 32 := Scalar.muli c3_i32_553 c8192_i32_554
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v464 : BitVec 32 := Scalar.addi v463 v9
  let c0_i32_555 : BitVec 32 := 0#32
  let v465 : BitVec 32 := Scalar.addi v464 c0_i32_555
  let c0_i32_1152 : BitVec 32 := 0#32
  ![v465.toNat, 0]
def k0_dev52 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v471 : BitVec 32 := Scalar.extui v46
  let c0_i32_567 : BitVec 32 := 0#32
  let v472 : BitVec 1 := Scalar.cmpi .ne v471 c0_i32_567
  v472

def k0_off78 (d0 : Dev nD) : Fin 2 → Nat :=
  let c0_i32_560 : BitVec 32 := 0#32
  let c8192_i32_561 : BitVec 32 := 8192#32
  let v468 : BitVec 32 := Scalar.muli c0_i32_560 c8192_i32_561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v469 : BitVec 32 := Scalar.addi v468 v9
  let c1024_i32_562 : BitVec 32 := 1024#32
  let v470 : BitVec 32 := Scalar.addi v469 c1024_i32_562
  let c0_i32_1153 : BitVec 32 := 0#32
  ![v470.toNat, 0]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v476 : BitVec 32 := Scalar.extui v46
  let c0_i32_575 : BitVec 32 := 0#32
  let v477 : BitVec 1 := Scalar.cmpi .ne v476 c0_i32_575
  v477

def k0_off79 (d0 : Dev nD) : Fin 2 → Nat :=
  let c0_i32_568 : BitVec 32 := 0#32
  let c8192_i32_569 : BitVec 32 := 8192#32
  let v473 : BitVec 32 := Scalar.muli c0_i32_568 c8192_i32_569
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v474 : BitVec 32 := Scalar.addi v473 v9
  let c1024_i32_570 : BitVec 32 := 1024#32
  let v475 : BitVec 32 := Scalar.addi v474 c1024_i32_570
  let c0_i32_1152 : BitVec 32 := 0#32
  ![v475.toNat, 0]
def k0_dev53 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v481 : BitVec 32 := Scalar.extui v48
  let c0_i32_583 : BitVec 32 := 0#32
  let v482 : BitVec 1 := Scalar.cmpi .ne v481 c0_i32_583
  v482

def k0_off80 (d0 : Dev nD) : Fin 2 → Nat :=
  let c3_i32_576 : BitVec 32 := 3#32
  let c8192_i32_577 : BitVec 32 := 8192#32
  let v478 : BitVec 32 := Scalar.muli c3_i32_576 c8192_i32_577
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v479 : BitVec 32 := Scalar.addi v478 v9
  let c1024_i32_578 : BitVec 32 := 1024#32
  let v480 : BitVec 32 := Scalar.addi v479 c1024_i32_578
  let c0_i32_1153 : BitVec 32 := 0#32
  ![v480.toNat, 0]
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v486 : BitVec 32 := Scalar.extui v48
  let c0_i32_591 : BitVec 32 := 0#32
  let v487 : BitVec 1 := Scalar.cmpi .ne v486 c0_i32_591
  v487

def k0_off81 (d0 : Dev nD) : Fin 2 → Nat :=
  let c3_i32_584 : BitVec 32 := 3#32
  let c8192_i32_585 : BitVec 32 := 8192#32
  let v483 : BitVec 32 := Scalar.muli c3_i32_584 c8192_i32_585
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v484 : BitVec 32 := Scalar.addi v483 v9
  let c1024_i32_586 : BitVec 32 := 1024#32
  let v485 : BitVec 32 := Scalar.addi v484 c1024_i32_586
  let c0_i32_1152 : BitVec 32 := 0#32
  ![v485.toNat, 0]
def k0_dev54 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v491 : BitVec 32 := Scalar.extui v46
  let c0_i32_599 : BitVec 32 := 0#32
  let v492 : BitVec 1 := Scalar.cmpi .ne v491 c0_i32_599
  v492

def k0_off82 (d0 : Dev nD) : Fin 2 → Nat :=
  let c0_i32_592 : BitVec 32 := 0#32
  let c8192_i32_593 : BitVec 32 := 8192#32
  let v488 : BitVec 32 := Scalar.muli c0_i32_592 c8192_i32_593
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v489 : BitVec 32 := Scalar.addi v488 v9
  let c2048_i32_594 : BitVec 32 := 2048#32
  let v490 : BitVec 32 := Scalar.addi v489 c2048_i32_594
  let c0_i32_1153 : BitVec 32 := 0#32
  ![v490.toNat, 0]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v496 : BitVec 32 := Scalar.extui v46
  let c0_i32_607 : BitVec 32 := 0#32
  let v497 : BitVec 1 := Scalar.cmpi .ne v496 c0_i32_607
  v497

def k0_off83 (d0 : Dev nD) : Fin 2 → Nat :=
  let c0_i32_600 : BitVec 32 := 0#32
  let c8192_i32_601 : BitVec 32 := 8192#32
  let v493 : BitVec 32 := Scalar.muli c0_i32_600 c8192_i32_601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v494 : BitVec 32 := Scalar.addi v493 v9
  let c2048_i32_602 : BitVec 32 := 2048#32
  let v495 : BitVec 32 := Scalar.addi v494 c2048_i32_602
  let c0_i32_1152 : BitVec 32 := 0#32
  ![v495.toNat, 0]
def k0_dev55 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v501 : BitVec 32 := Scalar.extui v48
  let c0_i32_615 : BitVec 32 := 0#32
  let v502 : BitVec 1 := Scalar.cmpi .ne v501 c0_i32_615
  v502

def k0_off84 (d0 : Dev nD) : Fin 2 → Nat :=
  let c3_i32_608 : BitVec 32 := 3#32
  let c8192_i32_609 : BitVec 32 := 8192#32
  let v498 : BitVec 32 := Scalar.muli c3_i32_608 c8192_i32_609
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v499 : BitVec 32 := Scalar.addi v498 v9
  let c2048_i32_610 : BitVec 32 := 2048#32
  let v500 : BitVec 32 := Scalar.addi v499 c2048_i32_610
  let c0_i32_1153 : BitVec 32 := 0#32
  ![v500.toNat, 0]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v506 : BitVec 32 := Scalar.extui v48
  let c0_i32_623 : BitVec 32 := 0#32
  let v507 : BitVec 1 := Scalar.cmpi .ne v506 c0_i32_623
  v507

def k0_off85 (d0 : Dev nD) : Fin 2 → Nat :=
  let c3_i32_616 : BitVec 32 := 3#32
  let c8192_i32_617 : BitVec 32 := 8192#32
  let v503 : BitVec 32 := Scalar.muli c3_i32_616 c8192_i32_617
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v504 : BitVec 32 := Scalar.addi v503 v9
  let c2048_i32_618 : BitVec 32 := 2048#32
  let v505 : BitVec 32 := Scalar.addi v504 c2048_i32_618
  let c0_i32_1152 : BitVec 32 := 0#32
  ![v505.toNat, 0]
def k0_dev56 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v511 : BitVec 32 := Scalar.extui v46
  let c0_i32_631 : BitVec 32 := 0#32
  let v512 : BitVec 1 := Scalar.cmpi .ne v511 c0_i32_631
  v512

def k0_off86 (d0 : Dev nD) : Fin 2 → Nat :=
  let c0_i32_624 : BitVec 32 := 0#32
  let c8192_i32_625 : BitVec 32 := 8192#32
  let v508 : BitVec 32 := Scalar.muli c0_i32_624 c8192_i32_625
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v509 : BitVec 32 := Scalar.addi v508 v9
  let c3072_i32_626 : BitVec 32 := 3072#32
  let v510 : BitVec 32 := Scalar.addi v509 c3072_i32_626
  let c0_i32_1153 : BitVec 32 := 0#32
  ![v510.toNat, 0]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v516 : BitVec 32 := Scalar.extui v46
  let c0_i32_639 : BitVec 32 := 0#32
  let v517 : BitVec 1 := Scalar.cmpi .ne v516 c0_i32_639
  v517

def k0_off87 (d0 : Dev nD) : Fin 2 → Nat :=
  let c0_i32_632 : BitVec 32 := 0#32
  let c8192_i32_633 : BitVec 32 := 8192#32
  let v513 : BitVec 32 := Scalar.muli c0_i32_632 c8192_i32_633
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v514 : BitVec 32 := Scalar.addi v513 v9
  let c3072_i32_634 : BitVec 32 := 3072#32
  let v515 : BitVec 32 := Scalar.addi v514 c3072_i32_634
  let c0_i32_1152 : BitVec 32 := 0#32
  ![v515.toNat, 0]
def k0_dev57 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v521 : BitVec 32 := Scalar.extui v48
  let c0_i32_647 : BitVec 32 := 0#32
  let v522 : BitVec 1 := Scalar.cmpi .ne v521 c0_i32_647
  v522

def k0_off88 (d0 : Dev nD) : Fin 2 → Nat :=
  let c3_i32_640 : BitVec 32 := 3#32
  let c8192_i32_641 : BitVec 32 := 8192#32
  let v518 : BitVec 32 := Scalar.muli c3_i32_640 c8192_i32_641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v519 : BitVec 32 := Scalar.addi v518 v9
  let c3072_i32_642 : BitVec 32 := 3072#32
  let v520 : BitVec 32 := Scalar.addi v519 c3072_i32_642
  let c0_i32_1153 : BitVec 32 := 0#32
  ![v520.toNat, 0]
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v526 : BitVec 32 := Scalar.extui v48
  let c0_i32_655 : BitVec 32 := 0#32
  let v527 : BitVec 1 := Scalar.cmpi .ne v526 c0_i32_655
  v527

def k0_off89 (d0 : Dev nD) : Fin 2 → Nat :=
  let c3_i32_648 : BitVec 32 := 3#32
  let c8192_i32_649 : BitVec 32 := 8192#32
  let v523 : BitVec 32 := Scalar.muli c3_i32_648 c8192_i32_649
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v524 : BitVec 32 := Scalar.addi v523 v9
  let c3072_i32_650 : BitVec 32 := 3072#32
  let v525 : BitVec 32 := Scalar.addi v524 c3072_i32_650
  let c0_i32_1152 : BitVec 32 := 0#32
  ![v525.toNat, 0]
def k0_dev58 (d0 : Dev nD) : Nat :=
  let c0_i32_1149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1148 : BitVec 32 := 8#32
  let v800 : BitVec 32 := Scalar.muli v2 c8_i32_1148
  let v801 : BitVec 32 := Scalar.addi c0_i32_1149 v800
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c4_i32_1150 : BitVec 32 := 4#32
  let v802 : BitVec 32 := Scalar.muli v12 c4_i32_1150
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v804 : BitVec 32 := Scalar.muli v8 c1_i32_1151
  let v805 : BitVec 32 := Scalar.addi v803 v804
  v805.toNat
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v531 : BitVec 32 := Scalar.extui v16
  let c0_i32_662 : BitVec 32 := 0#32
  let v532 : BitVec 1 := Scalar.cmpi .ne v531 c0_i32_662
  v532

def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_656 : BitVec 32 := 8192#32
  let v528 : BitVec 32 := Scalar.muli v20 c8192_i32_656
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v529 : BitVec 32 := Scalar.addi v528 v11
  let c0_i32_657 : BitVec 32 := 0#32
  let v530 : BitVec 32 := Scalar.addi v529 c0_i32_657
  let c0_i32_1152 : BitVec 32 := 0#32
  ![v530.toNat, 0]
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v536 : BitVec 32 := Scalar.extui v24
  let c0_i32_669 : BitVec 32 := 0#32
  let v537 : BitVec 1 := Scalar.cmpi .ne v536 c0_i32_669
  v537

def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_663 : BitVec 32 := 8192#32
  let v533 : BitVec 32 := Scalar.muli v28 c8192_i32_663
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v534 : BitVec 32 := Scalar.addi v533 v11
  let c0_i32_664 : BitVec 32 := 0#32
  let v535 : BitVec 32 := Scalar.addi v534 c0_i32_664
  let c0_i32_1152 : BitVec 32 := 0#32
  ![v535.toNat, 0]
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v541 : BitVec 32 := Scalar.extui v32
  let c0_i32_676 : BitVec 32 := 0#32
  let v542 : BitVec 1 := Scalar.cmpi .ne v541 c0_i32_676
  v542

def k0_off92 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_670 : BitVec 32 := 8192#32
  let v538 : BitVec 32 := Scalar.muli v36 c8192_i32_670
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v539 : BitVec 32 := Scalar.addi v538 v11
  let c0_i32_671 : BitVec 32 := 0#32
  let v540 : BitVec 32 := Scalar.addi v539 c0_i32_671
  let c0_i32_1152 : BitVec 32 := 0#32
  ![v540.toNat, 0]
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v546 : BitVec 32 := Scalar.extui v40
  let c0_i32_683 : BitVec 32 := 0#32
  let v547 : BitVec 1 := Scalar.cmpi .ne v546 c0_i32_683
  v547

def k0_off93 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_677 : BitVec 32 := 8192#32
  let v543 : BitVec 32 := Scalar.muli v44 c8192_i32_677
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v544 : BitVec 32 := Scalar.addi v543 v11
  let c0_i32_678 : BitVec 32 := 0#32
  let v545 : BitVec 32 := Scalar.addi v544 c0_i32_678
  let c0_i32_1152 : BitVec 32 := 0#32
  ![v545.toNat, 0]
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v551 : BitVec 32 := Scalar.extui v46
  let c0_i32_691 : BitVec 32 := 0#32
  let v552 : BitVec 1 := Scalar.cmpi .ne v551 c0_i32_691
  v552

def k0_off94 (d0 : Dev nD) : Fin 2 → Nat :=
  let c0_i32_684 : BitVec 32 := 0#32
  let c8192_i32_685 : BitVec 32 := 8192#32
  let v548 : BitVec 32 := Scalar.muli c0_i32_684 c8192_i32_685
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v549 : BitVec 32 := Scalar.addi v548 v11
  let c0_i32_686 : BitVec 32 := 0#32
  let v550 : BitVec 32 := Scalar.addi v549 c0_i32_686
  let c0_i32_1152 : BitVec 32 := 0#32
  ![v550.toNat, 0]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v556 : BitVec 32 := Scalar.extui v48
  let c0_i32_699 : BitVec 32 := 0#32
  let v557 : BitVec 1 := Scalar.cmpi .ne v556 c0_i32_699
  v557

def k0_off95 (d0 : Dev nD) : Fin 2 → Nat :=
  let c3_i32_692 : BitVec 32 := 3#32
  let c8192_i32_693 : BitVec 32 := 8192#32
  let v553 : BitVec 32 := Scalar.muli c3_i32_692 c8192_i32_693
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v554 : BitVec 32 := Scalar.addi v553 v11
  let c0_i32_694 : BitVec 32 := 0#32
  let v555 : BitVec 32 := Scalar.addi v554 c0_i32_694
  let c0_i32_1152 : BitVec 32 := 0#32
  ![v555.toNat, 0]
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v561 : BitVec 32 := Scalar.extui v16
  let c0_i32_706 : BitVec 32 := 0#32
  let v562 : BitVec 1 := Scalar.cmpi .ne v561 c0_i32_706
  v562

def k0_off96 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_700 : BitVec 32 := 8192#32
  let v558 : BitVec 32 := Scalar.muli v20 c8192_i32_700
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v559 : BitVec 32 := Scalar.addi v558 v11
  let c1024_i32_701 : BitVec 32 := 1024#32
  let v560 : BitVec 32 := Scalar.addi v559 c1024_i32_701
  let c0_i32_1152 : BitVec 32 := 0#32
  ![v560.toNat, 0]
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v566 : BitVec 32 := Scalar.extui v24
  let c0_i32_713 : BitVec 32 := 0#32
  let v567 : BitVec 1 := Scalar.cmpi .ne v566 c0_i32_713
  v567

def k0_off97 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_707 : BitVec 32 := 8192#32
  let v563 : BitVec 32 := Scalar.muli v28 c8192_i32_707
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v564 : BitVec 32 := Scalar.addi v563 v11
  let c1024_i32_708 : BitVec 32 := 1024#32
  let v565 : BitVec 32 := Scalar.addi v564 c1024_i32_708
  let c0_i32_1152 : BitVec 32 := 0#32
  ![v565.toNat, 0]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v571 : BitVec 32 := Scalar.extui v32
  let c0_i32_720 : BitVec 32 := 0#32
  let v572 : BitVec 1 := Scalar.cmpi .ne v571 c0_i32_720
  v572

def k0_off98 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_714 : BitVec 32 := 8192#32
  let v568 : BitVec 32 := Scalar.muli v36 c8192_i32_714
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v569 : BitVec 32 := Scalar.addi v568 v11
  let c1024_i32_715 : BitVec 32 := 1024#32
  let v570 : BitVec 32 := Scalar.addi v569 c1024_i32_715
  let c0_i32_1152 : BitVec 32 := 0#32
  ![v570.toNat, 0]
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v576 : BitVec 32 := Scalar.extui v40
  let c0_i32_727 : BitVec 32 := 0#32
  let v577 : BitVec 1 := Scalar.cmpi .ne v576 c0_i32_727
  v577

def k0_off99 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_721 : BitVec 32 := 8192#32
  let v573 : BitVec 32 := Scalar.muli v44 c8192_i32_721
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v574 : BitVec 32 := Scalar.addi v573 v11
  let c1024_i32_722 : BitVec 32 := 1024#32
  let v575 : BitVec 32 := Scalar.addi v574 c1024_i32_722
  let c0_i32_1152 : BitVec 32 := 0#32
  ![v575.toNat, 0]
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v581 : BitVec 32 := Scalar.extui v46
  let c0_i32_735 : BitVec 32 := 0#32
  let v582 : BitVec 1 := Scalar.cmpi .ne v581 c0_i32_735
  v582

def k0_off100 (d0 : Dev nD) : Fin 2 → Nat :=
  let c0_i32_728 : BitVec 32 := 0#32
  let c8192_i32_729 : BitVec 32 := 8192#32
  let v578 : BitVec 32 := Scalar.muli c0_i32_728 c8192_i32_729
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v579 : BitVec 32 := Scalar.addi v578 v11
  let c1024_i32_730 : BitVec 32 := 1024#32
  let v580 : BitVec 32 := Scalar.addi v579 c1024_i32_730
  let c0_i32_1152 : BitVec 32 := 0#32
  ![v580.toNat, 0]
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v586 : BitVec 32 := Scalar.extui v48
  let c0_i32_743 : BitVec 32 := 0#32
  let v587 : BitVec 1 := Scalar.cmpi .ne v586 c0_i32_743
  v587

def k0_off101 (d0 : Dev nD) : Fin 2 → Nat :=
  let c3_i32_736 : BitVec 32 := 3#32
  let c8192_i32_737 : BitVec 32 := 8192#32
  let v583 : BitVec 32 := Scalar.muli c3_i32_736 c8192_i32_737
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v584 : BitVec 32 := Scalar.addi v583 v11
  let c1024_i32_738 : BitVec 32 := 1024#32
  let v585 : BitVec 32 := Scalar.addi v584 c1024_i32_738
  let c0_i32_1152 : BitVec 32 := 0#32
  ![v585.toNat, 0]
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v591 : BitVec 32 := Scalar.extui v16
  let c0_i32_750 : BitVec 32 := 0#32
  let v592 : BitVec 1 := Scalar.cmpi .ne v591 c0_i32_750
  v592

def k0_off102 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_744 : BitVec 32 := 8192#32
  let v588 : BitVec 32 := Scalar.muli v20 c8192_i32_744
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v589 : BitVec 32 := Scalar.addi v588 v11
  let c2048_i32_745 : BitVec 32 := 2048#32
  let v590 : BitVec 32 := Scalar.addi v589 c2048_i32_745
  let c0_i32_1152 : BitVec 32 := 0#32
  ![v590.toNat, 0]
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v596 : BitVec 32 := Scalar.extui v24
  let c0_i32_757 : BitVec 32 := 0#32
  let v597 : BitVec 1 := Scalar.cmpi .ne v596 c0_i32_757
  v597

def k0_off103 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_751 : BitVec 32 := 8192#32
  let v593 : BitVec 32 := Scalar.muli v28 c8192_i32_751
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v594 : BitVec 32 := Scalar.addi v593 v11
  let c2048_i32_752 : BitVec 32 := 2048#32
  let v595 : BitVec 32 := Scalar.addi v594 c2048_i32_752
  let c0_i32_1152 : BitVec 32 := 0#32
  ![v595.toNat, 0]
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v601 : BitVec 32 := Scalar.extui v32
  let c0_i32_764 : BitVec 32 := 0#32
  let v602 : BitVec 1 := Scalar.cmpi .ne v601 c0_i32_764
  v602

def k0_off104 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_758 : BitVec 32 := 8192#32
  let v598 : BitVec 32 := Scalar.muli v36 c8192_i32_758
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v599 : BitVec 32 := Scalar.addi v598 v11
  let c2048_i32_759 : BitVec 32 := 2048#32
  let v600 : BitVec 32 := Scalar.addi v599 c2048_i32_759
  let c0_i32_1152 : BitVec 32 := 0#32
  ![v600.toNat, 0]
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v606 : BitVec 32 := Scalar.extui v40
  let c0_i32_771 : BitVec 32 := 0#32
  let v607 : BitVec 1 := Scalar.cmpi .ne v606 c0_i32_771
  v607

def k0_off105 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_765 : BitVec 32 := 8192#32
  let v603 : BitVec 32 := Scalar.muli v44 c8192_i32_765
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v604 : BitVec 32 := Scalar.addi v603 v11
  let c2048_i32_766 : BitVec 32 := 2048#32
  let v605 : BitVec 32 := Scalar.addi v604 c2048_i32_766
  let c0_i32_1152 : BitVec 32 := 0#32
  ![v605.toNat, 0]
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v611 : BitVec 32 := Scalar.extui v46
  let c0_i32_779 : BitVec 32 := 0#32
  let v612 : BitVec 1 := Scalar.cmpi .ne v611 c0_i32_779
  v612

def k0_off106 (d0 : Dev nD) : Fin 2 → Nat :=
  let c0_i32_772 : BitVec 32 := 0#32
  let c8192_i32_773 : BitVec 32 := 8192#32
  let v608 : BitVec 32 := Scalar.muli c0_i32_772 c8192_i32_773
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v609 : BitVec 32 := Scalar.addi v608 v11
  let c2048_i32_774 : BitVec 32 := 2048#32
  let v610 : BitVec 32 := Scalar.addi v609 c2048_i32_774
  let c0_i32_1152 : BitVec 32 := 0#32
  ![v610.toNat, 0]
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v616 : BitVec 32 := Scalar.extui v48
  let c0_i32_787 : BitVec 32 := 0#32
  let v617 : BitVec 1 := Scalar.cmpi .ne v616 c0_i32_787
  v617

def k0_off107 (d0 : Dev nD) : Fin 2 → Nat :=
  let c3_i32_780 : BitVec 32 := 3#32
  let c8192_i32_781 : BitVec 32 := 8192#32
  let v613 : BitVec 32 := Scalar.muli c3_i32_780 c8192_i32_781
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v614 : BitVec 32 := Scalar.addi v613 v11
  let c2048_i32_782 : BitVec 32 := 2048#32
  let v615 : BitVec 32 := Scalar.addi v614 c2048_i32_782
  let c0_i32_1152 : BitVec 32 := 0#32
  ![v615.toNat, 0]
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v621 : BitVec 32 := Scalar.extui v16
  let c0_i32_794 : BitVec 32 := 0#32
  let v622 : BitVec 1 := Scalar.cmpi .ne v621 c0_i32_794
  v622

def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_788 : BitVec 32 := 8192#32
  let v618 : BitVec 32 := Scalar.muli v20 c8192_i32_788
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v619 : BitVec 32 := Scalar.addi v618 v11
  let c3072_i32_789 : BitVec 32 := 3072#32
  let v620 : BitVec 32 := Scalar.addi v619 c3072_i32_789
  let c0_i32_1152 : BitVec 32 := 0#32
  ![v620.toNat, 0]
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v626 : BitVec 32 := Scalar.extui v24
  let c0_i32_801 : BitVec 32 := 0#32
  let v627 : BitVec 1 := Scalar.cmpi .ne v626 c0_i32_801
  v627

def k0_off109 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_795 : BitVec 32 := 8192#32
  let v623 : BitVec 32 := Scalar.muli v28 c8192_i32_795
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v624 : BitVec 32 := Scalar.addi v623 v11
  let c3072_i32_796 : BitVec 32 := 3072#32
  let v625 : BitVec 32 := Scalar.addi v624 c3072_i32_796
  let c0_i32_1152 : BitVec 32 := 0#32
  ![v625.toNat, 0]
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v631 : BitVec 32 := Scalar.extui v32
  let c0_i32_808 : BitVec 32 := 0#32
  let v632 : BitVec 1 := Scalar.cmpi .ne v631 c0_i32_808
  v632

def k0_off110 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_802 : BitVec 32 := 8192#32
  let v628 : BitVec 32 := Scalar.muli v36 c8192_i32_802
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v629 : BitVec 32 := Scalar.addi v628 v11
  let c3072_i32_803 : BitVec 32 := 3072#32
  let v630 : BitVec 32 := Scalar.addi v629 c3072_i32_803
  let c0_i32_1152 : BitVec 32 := 0#32
  ![v630.toNat, 0]
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v636 : BitVec 32 := Scalar.extui v40
  let c0_i32_815 : BitVec 32 := 0#32
  let v637 : BitVec 1 := Scalar.cmpi .ne v636 c0_i32_815
  v637

def k0_off111 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_809 : BitVec 32 := 8192#32
  let v633 : BitVec 32 := Scalar.muli v44 c8192_i32_809
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v634 : BitVec 32 := Scalar.addi v633 v11
  let c3072_i32_810 : BitVec 32 := 3072#32
  let v635 : BitVec 32 := Scalar.addi v634 c3072_i32_810
  let c0_i32_1152 : BitVec 32 := 0#32
  ![v635.toNat, 0]
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v641 : BitVec 32 := Scalar.extui v46
  let c0_i32_823 : BitVec 32 := 0#32
  let v642 : BitVec 1 := Scalar.cmpi .ne v641 c0_i32_823
  v642

def k0_off112 (d0 : Dev nD) : Fin 2 → Nat :=
  let c0_i32_816 : BitVec 32 := 0#32
  let c8192_i32_817 : BitVec 32 := 8192#32
  let v638 : BitVec 32 := Scalar.muli c0_i32_816 c8192_i32_817
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v639 : BitVec 32 := Scalar.addi v638 v11
  let c3072_i32_818 : BitVec 32 := 3072#32
  let v640 : BitVec 32 := Scalar.addi v639 c3072_i32_818
  let c0_i32_1152 : BitVec 32 := 0#32
  ![v640.toNat, 0]
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v646 : BitVec 32 := Scalar.extui v48
  let c0_i32_831 : BitVec 32 := 0#32
  let v647 : BitVec 1 := Scalar.cmpi .ne v646 c0_i32_831
  v647

def k0_off113 (d0 : Dev nD) : Fin 2 → Nat :=
  let c3_i32_824 : BitVec 32 := 3#32
  let c8192_i32_825 : BitVec 32 := 8192#32
  let v643 : BitVec 32 := Scalar.muli c3_i32_824 c8192_i32_825
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4096_i32_3 : BitVec 32 := 4096#32
  let v11 : BitVec 32 := Scalar.muli v10 c4096_i32_3
  let v644 : BitVec 32 := Scalar.addi v643 v11
  let c3072_i32_826 : BitVec 32 := 3072#32
  let v645 : BitVec 32 := Scalar.addi v644 c3072_i32_826
  let c0_i32_1152 : BitVec 32 := 0#32
  ![v645.toNat, 0]
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 1 := Scalar.cmpi .sle v8 c1_i32_11
  let v688 : BitVec 32 := Scalar.extui v21
  let c0_i32_880 : BitVec 32 := 0#32
  let v689 : BitVec 1 := Scalar.cmpi .ne v688 c0_i32_880
  v689

def k0_off114 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c0_i32_120 : BitVec 32 := 0#32
  let v152 : BitVec 32 := Scalar.addi v9 c0_i32_120
  let c0_i32_1149 : BitVec 32 := 0#32
  ![v152.toNat, 0]
def k0_off115 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_121 : BitVec 32 := 8192#32
  let v153 : BitVec 32 := Scalar.muli v8 c8192_i32_121
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v154 : BitVec 32 := Scalar.addi v153 v9
  let c0_i32_122 : BitVec 32 := 0#32
  let v155 : BitVec 32 := Scalar.addi v154 c0_i32_122
  let c0_i32_1150 : BitVec 32 := 0#32
  ![v155.toNat, 0]
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 1 := Scalar.cmpi .sle v8 c1_i32_11
  let v690 : BitVec 32 := Scalar.extui v21
  let c0_i32_885 : BitVec 32 := 0#32
  let v691 : BitVec 1 := Scalar.cmpi .ne v690 c0_i32_885
  v691

def k0_off116 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c1024_i32 : BitVec 32 := 1024#32
  let v158 : BitVec 32 := Scalar.addi v9 c1024_i32
  let c0_i32_1149 : BitVec 32 := 0#32
  ![v158.toNat, 0]
def k0_off117 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_128 : BitVec 32 := 8192#32
  let v159 : BitVec 32 := Scalar.muli v8 c8192_i32_128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v160 : BitVec 32 := Scalar.addi v159 v9
  let c1024_i32_129 : BitVec 32 := 1024#32
  let v161 : BitVec 32 := Scalar.addi v160 c1024_i32_129
  let c0_i32_1150 : BitVec 32 := 0#32
  ![v161.toNat, 0]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 1 := Scalar.cmpi .sle v8 c1_i32_11
  let v692 : BitVec 32 := Scalar.extui v21
  let c0_i32_890 : BitVec 32 := 0#32
  let v693 : BitVec 1 := Scalar.cmpi .ne v692 c0_i32_890
  v693

def k0_off118 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c2048_i32_135 : BitVec 32 := 2048#32
  let v164 : BitVec 32 := Scalar.addi v9 c2048_i32_135
  let c0_i32_1149 : BitVec 32 := 0#32
  ![v164.toNat, 0]
def k0_off119 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_136 : BitVec 32 := 8192#32
  let v165 : BitVec 32 := Scalar.muli v8 c8192_i32_136
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v166 : BitVec 32 := Scalar.addi v165 v9
  let c2048_i32_137 : BitVec 32 := 2048#32
  let v167 : BitVec 32 := Scalar.addi v166 c2048_i32_137
  let c0_i32_1150 : BitVec 32 := 0#32
  ![v167.toNat, 0]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 1 := Scalar.cmpi .sle v8 c1_i32_11
  let v694 : BitVec 32 := Scalar.extui v21
  let c0_i32_895 : BitVec 32 := 0#32
  let v695 : BitVec 1 := Scalar.cmpi .ne v694 c0_i32_895
  v695

def k0_off120 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c3072_i32 : BitVec 32 := 3072#32
  let v170 : BitVec 32 := Scalar.addi v9 c3072_i32
  let c0_i32_1149 : BitVec 32 := 0#32
  ![v170.toNat, 0]
def k0_off121 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_143 : BitVec 32 := 8192#32
  let v171 : BitVec 32 := Scalar.muli v8 c8192_i32_143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v172 : BitVec 32 := Scalar.addi v171 v9
  let c3072_i32_144 : BitVec 32 := 3072#32
  let v173 : BitVec 32 := Scalar.addi v172 c3072_i32_144
  let c0_i32_1150 : BitVec 32 := 0#32
  ![v173.toNat, 0]
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v37 : BitVec 1 := Scalar.cmpi .sge v8 c2_i32_27
  let v696 : BitVec 32 := Scalar.extui v37
  let c0_i32_900 : BitVec 32 := 0#32
  let v697 : BitVec 1 := Scalar.cmpi .ne v696 c0_i32_900
  v697

def k0_off122 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c0_i32_150 : BitVec 32 := 0#32
  let v176 : BitVec 32 := Scalar.addi v9 c0_i32_150
  let c0_i32_1149 : BitVec 32 := 0#32
  ![v176.toNat, 0]
def k0_off123 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_151 : BitVec 32 := 8192#32
  let v177 : BitVec 32 := Scalar.muli v8 c8192_i32_151
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v178 : BitVec 32 := Scalar.addi v177 v9
  let c0_i32_152 : BitVec 32 := 0#32
  let v179 : BitVec 32 := Scalar.addi v178 c0_i32_152
  let c0_i32_1150 : BitVec 32 := 0#32
  ![v179.toNat, 0]
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v37 : BitVec 1 := Scalar.cmpi .sge v8 c2_i32_27
  let v698 : BitVec 32 := Scalar.extui v37
  let c0_i32_905 : BitVec 32 := 0#32
  let v699 : BitVec 1 := Scalar.cmpi .ne v698 c0_i32_905
  v699

def k0_off124 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c1024_i32_158 : BitVec 32 := 1024#32
  let v182 : BitVec 32 := Scalar.addi v9 c1024_i32_158
  let c0_i32_1149 : BitVec 32 := 0#32
  ![v182.toNat, 0]
def k0_off125 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_159 : BitVec 32 := 8192#32
  let v183 : BitVec 32 := Scalar.muli v8 c8192_i32_159
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v184 : BitVec 32 := Scalar.addi v183 v9
  let c1024_i32_160 : BitVec 32 := 1024#32
  let v185 : BitVec 32 := Scalar.addi v184 c1024_i32_160
  let c0_i32_1150 : BitVec 32 := 0#32
  ![v185.toNat, 0]
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v37 : BitVec 1 := Scalar.cmpi .sge v8 c2_i32_27
  let v700 : BitVec 32 := Scalar.extui v37
  let c0_i32_910 : BitVec 32 := 0#32
  let v701 : BitVec 1 := Scalar.cmpi .ne v700 c0_i32_910
  v701

def k0_off126 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c2048_i32_166 : BitVec 32 := 2048#32
  let v188 : BitVec 32 := Scalar.addi v9 c2048_i32_166
  let c0_i32_1149 : BitVec 32 := 0#32
  ![v188.toNat, 0]
def k0_off127 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_167 : BitVec 32 := 8192#32
  let v189 : BitVec 32 := Scalar.muli v8 c8192_i32_167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v190 : BitVec 32 := Scalar.addi v189 v9
  let c2048_i32_168 : BitVec 32 := 2048#32
  let v191 : BitVec 32 := Scalar.addi v190 c2048_i32_168
  let c0_i32_1150 : BitVec 32 := 0#32
  ![v191.toNat, 0]
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v37 : BitVec 1 := Scalar.cmpi .sge v8 c2_i32_27
  let v702 : BitVec 32 := Scalar.extui v37
  let c0_i32_915 : BitVec 32 := 0#32
  let v703 : BitVec 1 := Scalar.cmpi .ne v702 c0_i32_915
  v703

def k0_off128 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c3072_i32_174 : BitVec 32 := 3072#32
  let v194 : BitVec 32 := Scalar.addi v9 c3072_i32_174
  let c0_i32_1149 : BitVec 32 := 0#32
  ![v194.toNat, 0]
def k0_off129 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_175 : BitVec 32 := 8192#32
  let v195 : BitVec 32 := Scalar.muli v8 c8192_i32_175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v196 : BitVec 32 := Scalar.addi v195 v9
  let c3072_i32_176 : BitVec 32 := 3072#32
  let v197 : BitVec 32 := Scalar.addi v196 c3072_i32_176
  let c0_i32_1150 : BitVec 32 := 0#32
  ![v197.toNat, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 1 := Scalar.cmpi .sle v8 c2_i32_5
  let v704 : BitVec 32 := Scalar.extui v13
  let c0_i32_920 : BitVec 32 := 0#32
  let v705 : BitVec 1 := Scalar.cmpi .ne v704 c0_i32_920
  v705

def k0_off130 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c0_i32_182 : BitVec 32 := 0#32
  let v200 : BitVec 32 := Scalar.addi v9 c0_i32_182
  let c0_i32_1149 : BitVec 32 := 0#32
  ![v200.toNat, 0]
def k0_off131 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_183 : BitVec 32 := 8192#32
  let v201 : BitVec 32 := Scalar.muli v8 c8192_i32_183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v202 : BitVec 32 := Scalar.addi v201 v9
  let c0_i32_184 : BitVec 32 := 0#32
  let v203 : BitVec 32 := Scalar.addi v202 c0_i32_184
  let c0_i32_1150 : BitVec 32 := 0#32
  ![v203.toNat, 0]
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 1 := Scalar.cmpi .sle v8 c2_i32_5
  let v706 : BitVec 32 := Scalar.extui v13
  let c0_i32_925 : BitVec 32 := 0#32
  let v707 : BitVec 1 := Scalar.cmpi .ne v706 c0_i32_925
  v707

def k0_off132 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c1024_i32_190 : BitVec 32 := 1024#32
  let v206 : BitVec 32 := Scalar.addi v9 c1024_i32_190
  let c0_i32_1149 : BitVec 32 := 0#32
  ![v206.toNat, 0]
def k0_off133 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_191 : BitVec 32 := 8192#32
  let v207 : BitVec 32 := Scalar.muli v8 c8192_i32_191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v208 : BitVec 32 := Scalar.addi v207 v9
  let c1024_i32_192 : BitVec 32 := 1024#32
  let v209 : BitVec 32 := Scalar.addi v208 c1024_i32_192
  let c0_i32_1150 : BitVec 32 := 0#32
  ![v209.toNat, 0]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 1 := Scalar.cmpi .sle v8 c2_i32_5
  let v708 : BitVec 32 := Scalar.extui v13
  let c0_i32_930 : BitVec 32 := 0#32
  let v709 : BitVec 1 := Scalar.cmpi .ne v708 c0_i32_930
  v709

def k0_off134 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c2048_i32_198 : BitVec 32 := 2048#32
  let v212 : BitVec 32 := Scalar.addi v9 c2048_i32_198
  let c0_i32_1149 : BitVec 32 := 0#32
  ![v212.toNat, 0]
def k0_off135 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_199 : BitVec 32 := 8192#32
  let v213 : BitVec 32 := Scalar.muli v8 c8192_i32_199
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v214 : BitVec 32 := Scalar.addi v213 v9
  let c2048_i32_200 : BitVec 32 := 2048#32
  let v215 : BitVec 32 := Scalar.addi v214 c2048_i32_200
  let c0_i32_1150 : BitVec 32 := 0#32
  ![v215.toNat, 0]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 1 := Scalar.cmpi .sle v8 c2_i32_5
  let v710 : BitVec 32 := Scalar.extui v13
  let c0_i32_935 : BitVec 32 := 0#32
  let v711 : BitVec 1 := Scalar.cmpi .ne v710 c0_i32_935
  v711

def k0_off136 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c3072_i32_206 : BitVec 32 := 3072#32
  let v218 : BitVec 32 := Scalar.addi v9 c3072_i32_206
  let c0_i32_1149 : BitVec 32 := 0#32
  ![v218.toNat, 0]
def k0_off137 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_207 : BitVec 32 := 8192#32
  let v219 : BitVec 32 := Scalar.muli v8 c8192_i32_207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v220 : BitVec 32 := Scalar.addi v219 v9
  let c3072_i32_208 : BitVec 32 := 3072#32
  let v221 : BitVec 32 := Scalar.addi v220 c3072_i32_208
  let c0_i32_1150 : BitVec 32 := 0#32
  ![v221.toNat, 0]
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 1 := Scalar.cmpi .sge v8 c1_i32_19
  let v712 : BitVec 32 := Scalar.extui v29
  let c0_i32_940 : BitVec 32 := 0#32
  let v713 : BitVec 1 := Scalar.cmpi .ne v712 c0_i32_940
  v713

def k0_off138 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c0_i32_214 : BitVec 32 := 0#32
  let v224 : BitVec 32 := Scalar.addi v9 c0_i32_214
  let c0_i32_1149 : BitVec 32 := 0#32
  ![v224.toNat, 0]
def k0_off139 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_215 : BitVec 32 := 8192#32
  let v225 : BitVec 32 := Scalar.muli v8 c8192_i32_215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v226 : BitVec 32 := Scalar.addi v225 v9
  let c0_i32_216 : BitVec 32 := 0#32
  let v227 : BitVec 32 := Scalar.addi v226 c0_i32_216
  let c0_i32_1150 : BitVec 32 := 0#32
  ![v227.toNat, 0]
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 1 := Scalar.cmpi .sge v8 c1_i32_19
  let v714 : BitVec 32 := Scalar.extui v29
  let c0_i32_945 : BitVec 32 := 0#32
  let v715 : BitVec 1 := Scalar.cmpi .ne v714 c0_i32_945
  v715

def k0_off140 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c1024_i32_222 : BitVec 32 := 1024#32
  let v230 : BitVec 32 := Scalar.addi v9 c1024_i32_222
  let c0_i32_1149 : BitVec 32 := 0#32
  ![v230.toNat, 0]
def k0_off141 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_223 : BitVec 32 := 8192#32
  let v231 : BitVec 32 := Scalar.muli v8 c8192_i32_223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v232 : BitVec 32 := Scalar.addi v231 v9
  let c1024_i32_224 : BitVec 32 := 1024#32
  let v233 : BitVec 32 := Scalar.addi v232 c1024_i32_224
  let c0_i32_1150 : BitVec 32 := 0#32
  ![v233.toNat, 0]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 1 := Scalar.cmpi .sge v8 c1_i32_19
  let v716 : BitVec 32 := Scalar.extui v29
  let c0_i32_950 : BitVec 32 := 0#32
  let v717 : BitVec 1 := Scalar.cmpi .ne v716 c0_i32_950
  v717

def k0_off142 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c2048_i32_230 : BitVec 32 := 2048#32
  let v236 : BitVec 32 := Scalar.addi v9 c2048_i32_230
  let c0_i32_1149 : BitVec 32 := 0#32
  ![v236.toNat, 0]
def k0_off143 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_231 : BitVec 32 := 8192#32
  let v237 : BitVec 32 := Scalar.muli v8 c8192_i32_231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v238 : BitVec 32 := Scalar.addi v237 v9
  let c2048_i32_232 : BitVec 32 := 2048#32
  let v239 : BitVec 32 := Scalar.addi v238 c2048_i32_232
  let c0_i32_1150 : BitVec 32 := 0#32
  ![v239.toNat, 0]
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 1 := Scalar.cmpi .sge v8 c1_i32_19
  let v718 : BitVec 32 := Scalar.extui v29
  let c0_i32_955 : BitVec 32 := 0#32
  let v719 : BitVec 1 := Scalar.cmpi .ne v718 c0_i32_955
  v719

def k0_off144 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let c3072_i32_238 : BitVec 32 := 3072#32
  let v242 : BitVec 32 := Scalar.addi v9 c3072_i32_238
  let c0_i32_1149 : BitVec 32 := 0#32
  ![v242.toNat, 0]
def k0_off145 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_239 : BitVec 32 := 8192#32
  let v243 : BitVec 32 := Scalar.muli v8 c8192_i32_239
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v244 : BitVec 32 := Scalar.addi v243 v9
  let c3072_i32_240 : BitVec 32 := 3072#32
  let v245 : BitVec 32 := Scalar.addi v244 c3072_i32_240
  let c0_i32_1150 : BitVec 32 := 0#32
  ![v245.toNat, 0]
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v45 : BitVec 1 := Scalar.cmpi .eq v8 c2_i32_35
  let v720 : BitVec 32 := Scalar.extui v45
  let c0_i32_960 : BitVec 32 := 0#32
  let v721 : BitVec 1 := Scalar.cmpi .ne v720 c0_i32_960
  v721

def k0_off146 (d0 : Dev nD) : Fin 2 → Nat :=
  let c0_i32_253 : BitVec 32 := 0#32
  let c8192_i32_254 : BitVec 32 := 8192#32
  let v253 : BitVec 32 := Scalar.muli c0_i32_253 c8192_i32_254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v254 : BitVec 32 := Scalar.addi v253 v9
  let c0_i32_255 : BitVec 32 := 0#32
  let v255 : BitVec 32 := Scalar.addi v254 c0_i32_255
  let c0_i32_1150 : BitVec 32 := 0#32
  ![v255.toNat, 0]
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v722 : BitVec 32 := Scalar.extui v24
  let c0_i32_965 : BitVec 32 := 0#32
  let v723 : BitVec 1 := Scalar.cmpi .ne v722 c0_i32_965
  v723

def k0_off147 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_261 : BitVec 32 := 8192#32
  let v258 : BitVec 32 := Scalar.muli v28 c8192_i32_261
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v259 : BitVec 32 := Scalar.addi v258 v9
  let c0_i32_262 : BitVec 32 := 0#32
  let v260 : BitVec 32 := Scalar.addi v259 c0_i32_262
  let c0_i32_1149 : BitVec 32 := 0#32
  ![v260.toNat, 0]
def k0_cond119 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 1 := Scalar.cmpi .eq v8 c1_i32_37
  let v724 : BitVec 32 := Scalar.extui v47
  let c0_i32_970 : BitVec 32 := 0#32
  let v725 : BitVec 1 := Scalar.cmpi .ne v724 c0_i32_970
  v725

def k0_off148 (d0 : Dev nD) : Fin 2 → Nat :=
  let c3_i32_274 : BitVec 32 := 3#32
  let c8192_i32_275 : BitVec 32 := 8192#32
  let v268 : BitVec 32 := Scalar.muli c3_i32_274 c8192_i32_275
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v269 : BitVec 32 := Scalar.addi v268 v9
  let c0_i32_276 : BitVec 32 := 0#32
  let v270 : BitVec 32 := Scalar.addi v269 c0_i32_276
  let c0_i32_1150 : BitVec 32 := 0#32
  ![v270.toNat, 0]
def k0_cond120 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v726 : BitVec 32 := Scalar.extui v40
  let c0_i32_975 : BitVec 32 := 0#32
  let v727 : BitVec 1 := Scalar.cmpi .ne v726 c0_i32_975
  v727

def k0_off149 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_281 : BitVec 32 := 8192#32
  let v273 : BitVec 32 := Scalar.muli v44 c8192_i32_281
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v274 : BitVec 32 := Scalar.addi v273 v9
  let c0_i32_282 : BitVec 32 := 0#32
  let v275 : BitVec 32 := Scalar.addi v274 c0_i32_282
  let c0_i32_1149 : BitVec 32 := 0#32
  ![v275.toNat, 0]
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v728 : BitVec 32 := Scalar.extui v16
  let c0_i32_980 : BitVec 32 := 0#32
  let v729 : BitVec 1 := Scalar.cmpi .ne v728 c0_i32_980
  v729

def k0_off150 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_294 : BitVec 32 := 8192#32
  let v283 : BitVec 32 := Scalar.muli v20 c8192_i32_294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v284 : BitVec 32 := Scalar.addi v283 v9
  let c0_i32_295 : BitVec 32 := 0#32
  let v285 : BitVec 32 := Scalar.addi v284 c0_i32_295
  let c0_i32_1149 : BitVec 32 := 0#32
  ![v285.toNat, 0]
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v730 : BitVec 32 := Scalar.extui v32
  let c0_i32_985 : BitVec 32 := 0#32
  let v731 : BitVec 1 := Scalar.cmpi .ne v730 c0_i32_985
  v731

def k0_off151 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_307 : BitVec 32 := 8192#32
  let v293 : BitVec 32 := Scalar.muli v36 c8192_i32_307
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v294 : BitVec 32 := Scalar.addi v293 v9
  let c0_i32_308 : BitVec 32 := 0#32
  let v295 : BitVec 32 := Scalar.addi v294 c0_i32_308
  let c0_i32_1149 : BitVec 32 := 0#32
  ![v295.toNat, 0]
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v45 : BitVec 1 := Scalar.cmpi .eq v8 c2_i32_35
  let v732 : BitVec 32 := Scalar.extui v45
  let c0_i32_990 : BitVec 32 := 0#32
  let v733 : BitVec 1 := Scalar.cmpi .ne v732 c0_i32_990
  v733

def k0_off152 (d0 : Dev nD) : Fin 2 → Nat :=
  let c0_i32_321 : BitVec 32 := 0#32
  let c8192_i32_322 : BitVec 32 := 8192#32
  let v303 : BitVec 32 := Scalar.muli c0_i32_321 c8192_i32_322
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v304 : BitVec 32 := Scalar.addi v303 v9
  let c1024_i32_323 : BitVec 32 := 1024#32
  let v305 : BitVec 32 := Scalar.addi v304 c1024_i32_323
  let c0_i32_1150 : BitVec 32 := 0#32
  ![v305.toNat, 0]
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v734 : BitVec 32 := Scalar.extui v24
  let c0_i32_995 : BitVec 32 := 0#32
  let v735 : BitVec 1 := Scalar.cmpi .ne v734 c0_i32_995
  v735

def k0_off153 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_329 : BitVec 32 := 8192#32
  let v308 : BitVec 32 := Scalar.muli v28 c8192_i32_329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v309 : BitVec 32 := Scalar.addi v308 v9
  let c1024_i32_330 : BitVec 32 := 1024#32
  let v310 : BitVec 32 := Scalar.addi v309 c1024_i32_330
  let c0_i32_1149 : BitVec 32 := 0#32
  ![v310.toNat, 0]
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 1 := Scalar.cmpi .eq v8 c1_i32_37
  let v736 : BitVec 32 := Scalar.extui v47
  let c0_i32_1000 : BitVec 32 := 0#32
  let v737 : BitVec 1 := Scalar.cmpi .ne v736 c0_i32_1000
  v737

def k0_off154 (d0 : Dev nD) : Fin 2 → Nat :=
  let c3_i32_343 : BitVec 32 := 3#32
  let c8192_i32_344 : BitVec 32 := 8192#32
  let v318 : BitVec 32 := Scalar.muli c3_i32_343 c8192_i32_344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v319 : BitVec 32 := Scalar.addi v318 v9
  let c1024_i32_345 : BitVec 32 := 1024#32
  let v320 : BitVec 32 := Scalar.addi v319 c1024_i32_345
  let c0_i32_1150 : BitVec 32 := 0#32
  ![v320.toNat, 0]
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v738 : BitVec 32 := Scalar.extui v40
  let c0_i32_1005 : BitVec 32 := 0#32
  let v739 : BitVec 1 := Scalar.cmpi .ne v738 c0_i32_1005
  v739

def k0_off155 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_351 : BitVec 32 := 8192#32
  let v323 : BitVec 32 := Scalar.muli v44 c8192_i32_351
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v324 : BitVec 32 := Scalar.addi v323 v9
  let c1024_i32_352 : BitVec 32 := 1024#32
  let v325 : BitVec 32 := Scalar.addi v324 c1024_i32_352
  let c0_i32_1149 : BitVec 32 := 0#32
  ![v325.toNat, 0]
def k0_cond127 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v740 : BitVec 32 := Scalar.extui v16
  let c0_i32_1010 : BitVec 32 := 0#32
  let v741 : BitVec 1 := Scalar.cmpi .ne v740 c0_i32_1010
  v741

def k0_off156 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_365 : BitVec 32 := 8192#32
  let v333 : BitVec 32 := Scalar.muli v20 c8192_i32_365
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v334 : BitVec 32 := Scalar.addi v333 v9
  let c1024_i32_366 : BitVec 32 := 1024#32
  let v335 : BitVec 32 := Scalar.addi v334 c1024_i32_366
  let c0_i32_1149 : BitVec 32 := 0#32
  ![v335.toNat, 0]
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v742 : BitVec 32 := Scalar.extui v32
  let c0_i32_1015 : BitVec 32 := 0#32
  let v743 : BitVec 1 := Scalar.cmpi .ne v742 c0_i32_1015
  v743

def k0_off157 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_379 : BitVec 32 := 8192#32
  let v343 : BitVec 32 := Scalar.muli v36 c8192_i32_379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v344 : BitVec 32 := Scalar.addi v343 v9
  let c1024_i32_380 : BitVec 32 := 1024#32
  let v345 : BitVec 32 := Scalar.addi v344 c1024_i32_380
  let c0_i32_1149 : BitVec 32 := 0#32
  ![v345.toNat, 0]
def k0_cond129 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v45 : BitVec 1 := Scalar.cmpi .eq v8 c2_i32_35
  let v744 : BitVec 32 := Scalar.extui v45
  let c0_i32_1020 : BitVec 32 := 0#32
  let v745 : BitVec 1 := Scalar.cmpi .ne v744 c0_i32_1020
  v745

def k0_off158 (d0 : Dev nD) : Fin 2 → Nat :=
  let c0_i32_393 : BitVec 32 := 0#32
  let c8192_i32_394 : BitVec 32 := 8192#32
  let v353 : BitVec 32 := Scalar.muli c0_i32_393 c8192_i32_394
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v354 : BitVec 32 := Scalar.addi v353 v9
  let c2048_i32_395 : BitVec 32 := 2048#32
  let v355 : BitVec 32 := Scalar.addi v354 c2048_i32_395
  let c0_i32_1150 : BitVec 32 := 0#32
  ![v355.toNat, 0]
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v746 : BitVec 32 := Scalar.extui v24
  let c0_i32_1025 : BitVec 32 := 0#32
  let v747 : BitVec 1 := Scalar.cmpi .ne v746 c0_i32_1025
  v747

def k0_off159 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_401 : BitVec 32 := 8192#32
  let v358 : BitVec 32 := Scalar.muli v28 c8192_i32_401
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v359 : BitVec 32 := Scalar.addi v358 v9
  let c2048_i32_402 : BitVec 32 := 2048#32
  let v360 : BitVec 32 := Scalar.addi v359 c2048_i32_402
  let c0_i32_1149 : BitVec 32 := 0#32
  ![v360.toNat, 0]
def k0_cond131 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 1 := Scalar.cmpi .eq v8 c1_i32_37
  let v748 : BitVec 32 := Scalar.extui v47
  let c0_i32_1030 : BitVec 32 := 0#32
  let v749 : BitVec 1 := Scalar.cmpi .ne v748 c0_i32_1030
  v749

def k0_off160 (d0 : Dev nD) : Fin 2 → Nat :=
  let c3_i32_415 : BitVec 32 := 3#32
  let c8192_i32_416 : BitVec 32 := 8192#32
  let v368 : BitVec 32 := Scalar.muli c3_i32_415 c8192_i32_416
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v369 : BitVec 32 := Scalar.addi v368 v9
  let c2048_i32_417 : BitVec 32 := 2048#32
  let v370 : BitVec 32 := Scalar.addi v369 c2048_i32_417
  let c0_i32_1150 : BitVec 32 := 0#32
  ![v370.toNat, 0]
def k0_cond132 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v750 : BitVec 32 := Scalar.extui v40
  let c0_i32_1035 : BitVec 32 := 0#32
  let v751 : BitVec 1 := Scalar.cmpi .ne v750 c0_i32_1035
  v751

def k0_off161 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_423 : BitVec 32 := 8192#32
  let v373 : BitVec 32 := Scalar.muli v44 c8192_i32_423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v374 : BitVec 32 := Scalar.addi v373 v9
  let c2048_i32_424 : BitVec 32 := 2048#32
  let v375 : BitVec 32 := Scalar.addi v374 c2048_i32_424
  let c0_i32_1149 : BitVec 32 := 0#32
  ![v375.toNat, 0]
def k0_cond133 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v752 : BitVec 32 := Scalar.extui v16
  let c0_i32_1040 : BitVec 32 := 0#32
  let v753 : BitVec 1 := Scalar.cmpi .ne v752 c0_i32_1040
  v753

def k0_off162 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_437 : BitVec 32 := 8192#32
  let v383 : BitVec 32 := Scalar.muli v20 c8192_i32_437
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v384 : BitVec 32 := Scalar.addi v383 v9
  let c2048_i32_438 : BitVec 32 := 2048#32
  let v385 : BitVec 32 := Scalar.addi v384 c2048_i32_438
  let c0_i32_1149 : BitVec 32 := 0#32
  ![v385.toNat, 0]
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v754 : BitVec 32 := Scalar.extui v32
  let c0_i32_1045 : BitVec 32 := 0#32
  let v755 : BitVec 1 := Scalar.cmpi .ne v754 c0_i32_1045
  v755

def k0_off163 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_451 : BitVec 32 := 8192#32
  let v393 : BitVec 32 := Scalar.muli v36 c8192_i32_451
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v394 : BitVec 32 := Scalar.addi v393 v9
  let c2048_i32_452 : BitVec 32 := 2048#32
  let v395 : BitVec 32 := Scalar.addi v394 c2048_i32_452
  let c0_i32_1149 : BitVec 32 := 0#32
  ![v395.toNat, 0]
def k0_cond135 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v45 : BitVec 1 := Scalar.cmpi .eq v8 c2_i32_35
  let v756 : BitVec 32 := Scalar.extui v45
  let c0_i32_1050 : BitVec 32 := 0#32
  let v757 : BitVec 1 := Scalar.cmpi .ne v756 c0_i32_1050
  v757

def k0_off164 (d0 : Dev nD) : Fin 2 → Nat :=
  let c0_i32_465 : BitVec 32 := 0#32
  let c8192_i32_466 : BitVec 32 := 8192#32
  let v403 : BitVec 32 := Scalar.muli c0_i32_465 c8192_i32_466
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v404 : BitVec 32 := Scalar.addi v403 v9
  let c3072_i32_467 : BitVec 32 := 3072#32
  let v405 : BitVec 32 := Scalar.addi v404 c3072_i32_467
  let c0_i32_1150 : BitVec 32 := 0#32
  ![v405.toNat, 0]
def k0_cond136 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v24 : BitVec 1 := Scalar.cmpi .sge v8 c2_i32_14
  let v758 : BitVec 32 := Scalar.extui v24
  let c0_i32_1055 : BitVec 32 := 0#32
  let v759 : BitVec 1 := Scalar.cmpi .ne v758 c0_i32_1055
  v759

def k0_off165 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v27 : BitVec 32 := Scalar.subi v8 c2_i32_17
  let c0_i32_18 : BitVec 32 := 0#32
  let v28 : BitVec 32 := Scalar.maxsi v27 c0_i32_18
  let c8192_i32_473 : BitVec 32 := 8192#32
  let v408 : BitVec 32 := Scalar.muli v28 c8192_i32_473
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v409 : BitVec 32 := Scalar.addi v408 v9
  let c3072_i32_474 : BitVec 32 := 3072#32
  let v410 : BitVec 32 := Scalar.addi v409 c3072_i32_474
  let c0_i32_1149 : BitVec 32 := 0#32
  ![v410.toNat, 0]
def k0_cond137 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 1 := Scalar.cmpi .eq v8 c1_i32_37
  let v760 : BitVec 32 := Scalar.extui v47
  let c0_i32_1060 : BitVec 32 := 0#32
  let v761 : BitVec 1 := Scalar.cmpi .ne v760 c0_i32_1060
  v761

def k0_off166 (d0 : Dev nD) : Fin 2 → Nat :=
  let c3_i32_487 : BitVec 32 := 3#32
  let c8192_i32_488 : BitVec 32 := 8192#32
  let v418 : BitVec 32 := Scalar.muli c3_i32_487 c8192_i32_488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v419 : BitVec 32 := Scalar.addi v418 v9
  let c3072_i32_489 : BitVec 32 := 3072#32
  let v420 : BitVec 32 := Scalar.addi v419 c3072_i32_489
  let c0_i32_1150 : BitVec 32 := 0#32
  ![v420.toNat, 0]
def k0_cond138 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v40 : BitVec 1 := Scalar.cmpi .sle v8 c1_i32_30
  let v762 : BitVec 32 := Scalar.extui v40
  let c0_i32_1065 : BitVec 32 := 0#32
  let v763 : BitVec 1 := Scalar.cmpi .ne v762 c0_i32_1065
  v763

def k0_off167 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v43 : BitVec 32 := Scalar.addi v8 c2_i32_33
  let c3_i32_34 : BitVec 32 := 3#32
  let v44 : BitVec 32 := Scalar.minsi v43 c3_i32_34
  let c8192_i32_495 : BitVec 32 := 8192#32
  let v423 : BitVec 32 := Scalar.muli v44 c8192_i32_495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v424 : BitVec 32 := Scalar.addi v423 v9
  let c3072_i32_496 : BitVec 32 := 3072#32
  let v425 : BitVec 32 := Scalar.addi v424 c3072_i32_496
  let c0_i32_1149 : BitVec 32 := 0#32
  ![v425.toNat, 0]
def k0_cond139 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 1 := Scalar.cmpi .sge v8 c1_i32_7
  let v764 : BitVec 32 := Scalar.extui v16
  let c0_i32_1070 : BitVec 32 := 0#32
  let v765 : BitVec 1 := Scalar.cmpi .ne v764 c0_i32_1070
  v765

def k0_off168 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.subi v8 c1_i32_9
  let c0_i32_10 : BitVec 32 := 0#32
  let v20 : BitVec 32 := Scalar.maxsi v19 c0_i32_10
  let c8192_i32_509 : BitVec 32 := 8192#32
  let v433 : BitVec 32 := Scalar.muli v20 c8192_i32_509
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v434 : BitVec 32 := Scalar.addi v433 v9
  let c3072_i32_510 : BitVec 32 := 3072#32
  let v435 : BitVec 32 := Scalar.addi v434 c3072_i32_510
  let c0_i32_1149 : BitVec 32 := 0#32
  ![v435.toNat, 0]
def k0_cond140 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_22 : BitVec 32 := 2#32
  let v32 : BitVec 1 := Scalar.cmpi .sle v8 c2_i32_22
  let v766 : BitVec 32 := Scalar.extui v32
  let c0_i32_1075 : BitVec 32 := 0#32
  let v767 : BitVec 1 := Scalar.cmpi .ne v766 c0_i32_1075
  v767

def k0_off169 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.addi v8 c1_i32_25
  let c3_i32_26 : BitVec 32 := 3#32
  let v36 : BitVec 32 := Scalar.minsi v35 c3_i32_26
  let c8192_i32_523 : BitVec 32 := 8192#32
  let v443 : BitVec 32 := Scalar.muli v36 c8192_i32_523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v444 : BitVec 32 := Scalar.addi v443 v9
  let c3072_i32_524 : BitVec 32 := 3072#32
  let v445 : BitVec 32 := Scalar.addi v444 c3072_i32_524
  let c0_i32_1149 : BitVec 32 := 0#32
  ![v445.toNat, 0]
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v768 : BitVec 32 := Scalar.extui v46
  let c0_i32_1080 : BitVec 32 := 0#32
  let v769 : BitVec 1 := Scalar.cmpi .ne v768 c0_i32_1080
  v769

def k0_off170 (d0 : Dev nD) : Fin 2 → Nat :=
  let c0_i32_538 : BitVec 32 := 0#32
  let c8192_i32_539 : BitVec 32 := 8192#32
  let v453 : BitVec 32 := Scalar.muli c0_i32_538 c8192_i32_539
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v454 : BitVec 32 := Scalar.addi v453 v9
  let c0_i32_540 : BitVec 32 := 0#32
  let v455 : BitVec 32 := Scalar.addi v454 c0_i32_540
  let c0_i32_1149 : BitVec 32 := 0#32
  ![v455.toNat, 0]
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v770 : BitVec 32 := Scalar.extui v48
  let c0_i32_1085 : BitVec 32 := 0#32
  let v771 : BitVec 1 := Scalar.cmpi .ne v770 c0_i32_1085
  v771

def k0_off171 (d0 : Dev nD) : Fin 2 → Nat :=
  let c3_i32_553 : BitVec 32 := 3#32
  let c8192_i32_554 : BitVec 32 := 8192#32
  let v463 : BitVec 32 := Scalar.muli c3_i32_553 c8192_i32_554
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v464 : BitVec 32 := Scalar.addi v463 v9
  let c0_i32_555 : BitVec 32 := 0#32
  let v465 : BitVec 32 := Scalar.addi v464 c0_i32_555
  let c0_i32_1149 : BitVec 32 := 0#32
  ![v465.toNat, 0]
def k0_cond143 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v772 : BitVec 32 := Scalar.extui v46
  let c0_i32_1090 : BitVec 32 := 0#32
  let v773 : BitVec 1 := Scalar.cmpi .ne v772 c0_i32_1090
  v773

def k0_off172 (d0 : Dev nD) : Fin 2 → Nat :=
  let c0_i32_568 : BitVec 32 := 0#32
  let c8192_i32_569 : BitVec 32 := 8192#32
  let v473 : BitVec 32 := Scalar.muli c0_i32_568 c8192_i32_569
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v474 : BitVec 32 := Scalar.addi v473 v9
  let c1024_i32_570 : BitVec 32 := 1024#32
  let v475 : BitVec 32 := Scalar.addi v474 c1024_i32_570
  let c0_i32_1149 : BitVec 32 := 0#32
  ![v475.toNat, 0]
def k0_cond144 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v774 : BitVec 32 := Scalar.extui v48
  let c0_i32_1095 : BitVec 32 := 0#32
  let v775 : BitVec 1 := Scalar.cmpi .ne v774 c0_i32_1095
  v775

def k0_off173 (d0 : Dev nD) : Fin 2 → Nat :=
  let c3_i32_584 : BitVec 32 := 3#32
  let c8192_i32_585 : BitVec 32 := 8192#32
  let v483 : BitVec 32 := Scalar.muli c3_i32_584 c8192_i32_585
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v484 : BitVec 32 := Scalar.addi v483 v9
  let c1024_i32_586 : BitVec 32 := 1024#32
  let v485 : BitVec 32 := Scalar.addi v484 c1024_i32_586
  let c0_i32_1149 : BitVec 32 := 0#32
  ![v485.toNat, 0]
def k0_cond145 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v776 : BitVec 32 := Scalar.extui v46
  let c0_i32_1100 : BitVec 32 := 0#32
  let v777 : BitVec 1 := Scalar.cmpi .ne v776 c0_i32_1100
  v777

def k0_off174 (d0 : Dev nD) : Fin 2 → Nat :=
  let c0_i32_600 : BitVec 32 := 0#32
  let c8192_i32_601 : BitVec 32 := 8192#32
  let v493 : BitVec 32 := Scalar.muli c0_i32_600 c8192_i32_601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v494 : BitVec 32 := Scalar.addi v493 v9
  let c2048_i32_602 : BitVec 32 := 2048#32
  let v495 : BitVec 32 := Scalar.addi v494 c2048_i32_602
  let c0_i32_1149 : BitVec 32 := 0#32
  ![v495.toNat, 0]
def k0_cond146 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v778 : BitVec 32 := Scalar.extui v48
  let c0_i32_1105 : BitVec 32 := 0#32
  let v779 : BitVec 1 := Scalar.cmpi .ne v778 c0_i32_1105
  v779

def k0_off175 (d0 : Dev nD) : Fin 2 → Nat :=
  let c3_i32_616 : BitVec 32 := 3#32
  let c8192_i32_617 : BitVec 32 := 8192#32
  let v503 : BitVec 32 := Scalar.muli c3_i32_616 c8192_i32_617
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v504 : BitVec 32 := Scalar.addi v503 v9
  let c2048_i32_618 : BitVec 32 := 2048#32
  let v505 : BitVec 32 := Scalar.addi v504 c2048_i32_618
  let c0_i32_1149 : BitVec 32 := 0#32
  ![v505.toNat, 0]
def k0_cond147 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v46 : BitVec 1 := Scalar.cmpi .eq v8 c3_i32_36
  let v780 : BitVec 32 := Scalar.extui v46
  let c0_i32_1110 : BitVec 32 := 0#32
  let v781 : BitVec 1 := Scalar.cmpi .ne v780 c0_i32_1110
  v781

def k0_off176 (d0 : Dev nD) : Fin 2 → Nat :=
  let c0_i32_632 : BitVec 32 := 0#32
  let c8192_i32_633 : BitVec 32 := 8192#32
  let v513 : BitVec 32 := Scalar.muli c0_i32_632 c8192_i32_633
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v514 : BitVec 32 := Scalar.addi v513 v9
  let c3072_i32_634 : BitVec 32 := 3072#32
  let v515 : BitVec 32 := Scalar.addi v514 c3072_i32_634
  let c0_i32_1149 : BitVec 32 := 0#32
  ![v515.toNat, 0]
def k0_cond148 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_38 : BitVec 32 := 0#32
  let v48 : BitVec 1 := Scalar.cmpi .eq v8 c0_i32_38
  let v782 : BitVec 32 := Scalar.extui v48
  let c0_i32_1115 : BitVec 32 := 0#32
  let v783 : BitVec 1 := Scalar.cmpi .ne v782 c0_i32_1115
  v783

def k0_off177 (d0 : Dev nD) : Fin 2 → Nat :=
  let c3_i32_648 : BitVec 32 := 3#32
  let c8192_i32_649 : BitVec 32 := 8192#32
  let v523 : BitVec 32 := Scalar.muli c3_i32_648 c8192_i32_649
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v9 : BitVec 32 := Scalar.muli v5 c4096_i32
  let v524 : BitVec 32 := Scalar.addi v523 v9
  let c3072_i32_650 : BitVec 32 := 3072#32
  let v525 : BitVec 32 := Scalar.addi v524 c3072_i32_650
  let c0_i32_1149 : BitVec 32 := 0#32
  ![v525.toNat, 0]
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.IPlaces.lean ====
/-
The places of the gather's protocol, as plain arithmetic on the 2 x 2 x 4 mesh.

A device `c` stands at `x = c / 8`, `y = c / 4 % 2`, `z = c % 4`. It sends and receives thirteen streams of four
blocks; a message is a stream and a block, and has one send and one receive semaphore. Streams 0, 1 go one and two
places up in `z`, streams 2, 3 one and two places down, streams 4, 5 pass the block of the far end on, streams 6 to 11
hand what streams 0 to 5 brought to the neighbour in `y`, stream 12 hands a quarter of the device's own block to the
neighbour in `x`. Everything here is a finite table, and every fact is checked over the whole mesh.
-/
module

public import proofs.«01_k».proof.Proof.Gen.KernelIdeal.Launch
public import proofs.«01_k».proof.Proof.Gen.KernelIdeal.Points

@[expose] public section

noncomputable section

namespace Cert.GatherIdealProof

open Cert.KernelIdeal Cert.KernelIdeal.Gen
open Idealize.ShloMosaic
open Idealize.ShloMosaic.TcCoe

/-- A message: its stream and its block. -/
abbrev Msg : Type := Fin 13 × Fin 4

/-- A device's place along z. -/
def zc (c : Dev nD) : ℕ := c.val % 4
/-- A device's place along y. -/
def yc (c : Dev nD) : ℕ := c.val / 4 % 2
/-- A device's place along x. -/
def xc (c : Dev nD) : ℕ := c.val / 8

/-- Whether device `c` receives stream `s`. -/
def rac (c : Dev nD) (s : Fin 13) : Bool :=
  (![1 ≤ zc c, 2 ≤ zc c, zc c ≤ 2, zc c ≤ 1, zc c = 3, zc c = 0,
     1 ≤ zc c, 2 ≤ zc c, zc c ≤ 2, zc c ≤ 1, zc c = 3, zc c = 0, true] : Fin 13 → Bool) s

/-- Whether device `c` sends stream `s`. -/
def act (c : Dev nD) (s : Fin 13) : Bool :=
  (![zc c ≤ 2, zc c ≤ 1, 1 ≤ zc c, 2 ≤ zc c, zc c = 2, zc c = 1,
     1 ≤ zc c, 2 ≤ zc c, zc c ≤ 2, zc c ≤ 1, zc c = 3, zc c = 0, true] : Fin 13 → Bool) s

set_option backward.proofsInPublic true in
/-- The six ways a device signals at the start: the neighbours in `y` and `x`, then one and two places down and one and
    two places up in `z` (taken around the axis, so that each way is a bijection of the mesh). -/
def peer (j : Fin 6) (c : Dev nD) : Dev nD :=
  ⟨((![xc c * 8 + (1 - yc c) * 4 + zc c, (1 - xc c) * 8 + yc c * 4 + zc c, xc c * 8 + yc c * 4 + (zc c + 3) % 4,
      xc c * 8 + yc c * 4 + (zc c + 2) % 4, xc c * 8 + yc c * 4 + (zc c + 1) % 4,
      xc c * 8 + yc c * 4 + (zc c + 2) % 4] : Fin 6 → ℕ) j) % 16, Nat.mod_lt _ (by decide)⟩

/-- The way back. -/
def back (j : Fin 6) : Fin 6 := (![0, 1, 4, 5, 2, 3] : Fin 6 → Fin 6) j
/-- Whether device `c` signals that way: there is a device there. -/
def sigs (c : Dev nD) (j : Fin 6) : Bool :=
  (![true, true, 1 ≤ zc c, 2 ≤ zc c, zc c ≤ 2, zc c ≤ 1] : Fin 6 → Bool) j

/-- Going one way and then the way back leads home. -/
theorem peer_back (j : Fin 6) (c : Dev nD) : peer (back j) (peer j c) = c := by revert j c; decide +kernel
/-- The way back of the way back is the way. -/
theorem back_back (j : Fin 6) : back (back j) = j := by revert j; decide +kernel
/-- Going the way back and then the way leads home. -/
theorem back_peer (j : Fin 6) (c : Dev nD) : peer j (peer (back j) c) = c := by
  have h := peer_back (back j) c; rwa [back_back] at h

/-- The way as a bijection. -/
def way (j : Fin 6) : Dev nD ≃ Dev nD := ⟨peer j, peer (back j), peer_back j, back_peer j⟩

/-- The way a stream goes, and the way its receiver signals its sender. -/
def jT (s : Fin 13) : Fin 6 := (![4, 5, 2, 3, 4, 2, 0, 0, 0, 0, 0, 0, 1] : Fin 13 → Fin 6) s
/-- The way a stream's receiver signals is the way back of the stream's. -/
def jOf (s : Fin 13) : Fin 6 := back (jT s)

/-- Where `c` sends stream `s`, and who sends stream `s` to `c`. -/
def tgt (c : Dev nD) (s : Fin 13) : Dev nD := peer (jT s) c
/-- The device that sends stream `s` to device `c`. -/
def snd (c : Dev nD) (s : Fin 13) : Dev nD := peer (jOf s) c

/-- The target of a stream's sender is the receiver. -/
theorem tgt_snd (c : Dev nD) (s : Fin 13) : tgt (snd c s) s = c := back_peer _ _
/-- The sender to a stream's target is the device itself. -/
theorem snd_tgt (c : Dev nD) (s : Fin 13) : snd (tgt c s) s = c := peer_back _ _
/-- The target receives a stream exactly when the device sends it. -/
theorem rac_tgt (c : Dev nD) (s : Fin 13) : rac (tgt c s) s = act c s := by revert c s; decide +kernel
/-- The sender sends a stream exactly when the device receives it. -/
theorem act_snd (c : Dev nD) (s : Fin 13) : act (snd c s) s = rac c s := by rw [← rac_tgt, tgt_snd]
/-- A sender's receiver signals it. -/
theorem sigs_tgt (c : Dev nD) (s : Fin 13) (h : act c s = true) : sigs (tgt c s) (jOf s) = true := by
  revert c s; decide +kernel
/-- The target of a stream reaches the device by the stream's way back. -/
theorem tgt_jOf (c : Dev nD) (s : Fin 13) : peer (jOf s) (tgt c s) = c := peer_back _ _

/-- The number of rows of a block of stream `s`. -/
def len (s : Fin 13) : ℕ := if s = 12 then 2048 else 1024
/-- Whether the stream is sent from the device's own block. -/
def isX (s : Fin 13) : Bool := (![true, true, true, true, false, false, false, false, false, false, false, false, true] : Fin 13 → Bool) s

/-- The place in `z` whose block a stream brings to `c`. -/
def org (c : Dev nD) (s : Fin 13) : ℕ :=
  (![zc c - 1, zc c - 2, zc c + 1, zc c + 2, 0, 3, zc c - 1, zc c - 2, zc c + 1, zc c + 2, 0, 3, zc c] : Fin 13 → ℕ) s
/-- The half of that block: the `y` of the device the rows were first sent by. -/
def hf (c : Dev nD) (s : Fin 13) : ℕ := if 6 ≤ s.val then 1 - yc c else yc c

/-- The first row of the result at which message `m` lands at `p`. -/
def landRow (p : Dev nD) (m : Msg) : ℕ :=
  if m.1 = 12 then zc p * 8192 + m.2.val * 2048 else org p m.1 * 8192 + hf p m.1 * 4096 + m.2.val * 1024
/-- The first row `c` sends message `m` from: of its own block, or of the result. -/
def srcRow (c : Dev nD) (m : Msg) : ℕ :=
  if m.1 = 12 then m.2.val * 2048 else if isX m.1 then yc c * 4096 + m.2.val * 1024 else landRow (tgt c m.1) m

set_option backward.proofsInPublic true in
/-- The device whose block the result holds in its `k`-th half block. -/
def origin (p : Dev nD) (k : ℕ) : Dev nD :=
  ⟨(if k / 2 = zc p then (1 - xc p) * 8 + yc p * 4 + zc p else xc p * 8 + (k % 2) * 4 + k / 2) % 16, Nat.mod_lt _ (by decide)⟩

/-- A block landed from the sender's own block is the sender's, at the same rows of its block. -/
theorem origin_direct (c : Dev nD) (m : Msg) (ha : act c m.1 = true) (hx : isX m.1 = true) :
    origin (tgt c m.1) (landRow (tgt c m.1) m / 4096) = c ∧ landRow (tgt c m.1) m % 8192 = srcRow c m := by
  obtain ⟨s, b⟩ := m; revert c s b; decide +kernel
/-- A block handed on is of the same device for the sender as for the receiver. -/
theorem origin_forward (c : Dev nD) (m : Msg) (ha : act c m.1 = true) (hx : isX m.1 = false) :
    origin (tgt c m.1) (landRow (tgt c m.1) m / 4096) = origin c (landRow (tgt c m.1) m / 4096) := by
  obtain ⟨s, b⟩ := m; revert c s b; decide +kernel
/-- The rows that a message fills lie inside one half block of the result. -/
theorem land_fits (p : Dev nD) (m : Msg) (h : rac p m.1 = true) :
    landRow p m % 4096 + len m.1 ≤ 4096 ∧ landRow p m + len m.1 ≤ 32768 := by
  obtain ⟨s, b⟩ := m; revert p s b; decide +kernel
/-- Two messages that land on one device fill different rows. -/
theorem land_disjoint (p : Dev nD) (m m' : Msg) (h : rac p m.1 = true) (h' : rac p m'.1 = true) (hne : m ≠ m') :
    landRow p m + len m.1 ≤ landRow p m' ∨ landRow p m' + len m'.1 ≤ landRow p m := by
  obtain ⟨s, b⟩ := m; obtain ⟨s', b'⟩ := m'; revert p s b s' b'; decide +kernel
/-- Every 1024 rows of the result are filled by a message that lands there. -/
theorem land_cover (p : Dev nD) (k : Fin 32) :
    ∃ m : Msg, rac p m.1 = true ∧ landRow p m ≤ k.val * 1024 ∧ k.val * 1024 + 1024 ≤ landRow p m + len m.1 := by
  revert p k; decide +kernel
/-- The rows that a message from the own block reads lie inside the block. -/
theorem src_fits (c : Dev nD) (m : Msg) (hx : isX m.1 = true) : srcRow c m + len m.1 ≤ 8192 := by
  obtain ⟨s, b⟩ := m; revert c s b; decide +kernel

/-! ## The program's order

Every operation of the program has a number: the six signals, the wait on the barrier semaphore, then the sends and the
waits. The tables give the number of a stream's operation at block 0, and the step from block to block. -/

/-- The number of the signal of a way. -/
def iSig (j : Fin 6) : ℕ := j.val
/-- The number of the wait on the barrier semaphore. -/
def iBar : ℕ := 6
/-- The number of a message's send. -/
def iSend (m : Msg) : ℕ :=
  (![19, 11, 23, 15, 28, 31, 34, 29, 36, 32, 68, 70, 7] : Fin 13 → ℕ) m.1
    + (![1, 1, 1, 1, 10, 10, 10, 10, 10, 10, 4, 4, 1] : Fin 13 → ℕ) m.1 * m.2.val
/-- The number of the wait for a message's landing. -/
def iRecv (m : Msg) : ℕ :=
  (![33, 27, 35, 30, 67, 69, 83, 84, 85, 86, 87, 88, 107] : Fin 13 → ℕ) m.1
    + (![10, 10, 10, 10, 4, 4, 6, 6, 6, 6, 6, 6, 1] : Fin 13 → ℕ) m.1 * m.2.val
/-- The number of the wait for a message's send. -/
def iFin (m : Msg) : ℕ :=
  (![119, 111, 123, 115, 127, 129, 131, 128, 132, 130, 151, 152, 159] : Fin 13 → ℕ) m.1
    + (![1, 1, 1, 1, 6, 6, 6, 6, 6, 6, 2, 2, 1] : Fin 13 → ℕ) m.1 * m.2.val

/-- The messages handed on out of message `m`: to the neighbour in `y`, and past the far end. -/
def outs (m : Msg) : Finset Msg :=
  (![{(6, m.2)}, {(7, m.2), (4, m.2)}, {(8, m.2)}, {(9, m.2), (5, m.2)}, {(10, m.2)}, {(11, m.2)},
     ∅, ∅, ∅, ∅, ∅, ∅, ∅] : Fin 13 → Finset Msg) m.1
/-- From which operation on a message's source is at hand: 0 for the device's own block. -/
def srcFrom (m : Msg) : ℕ :=
  (![0, 0, 0, 0, 28, 31, 34, 28, 36, 31, 68, 70, 0] : Fin 13 → ℕ) m.1
    + (![0, 0, 0, 0, 10, 10, 10, 10, 10, 10, 4, 4, 0] : Fin 13 → ℕ) m.1 * m.2.val

/-- Different messages have different sends. -/
theorem iSend_inj (m m' : Msg) (h : iSend m = iSend m') : m = m' := by
  obtain ⟨s, b⟩ := m; obtain ⟨s', b'⟩ := m'; revert s b s' b'; decide +kernel
/-- Different messages have different waits for their landings. -/
theorem iRecv_inj (m m' : Msg) (h : iRecv m = iRecv m') : m = m' := by
  obtain ⟨s, b⟩ := m; obtain ⟨s', b'⟩ := m'; revert s b s' b'; decide +kernel
/-- Different messages have different waits for their sends. -/
theorem iFin_inj (m m' : Msg) (h : iFin m = iFin m') : m = m' := by
  obtain ⟨s, b⟩ := m; obtain ⟨s', b'⟩ := m'; revert s b s' b'; decide +kernel
/-- No send has the number of a wait for a landing. -/
theorem iSend_ne_iRecv (m m' : Msg) : iSend m ≠ iRecv m' := by
  obtain ⟨s, b⟩ := m; obtain ⟨s', b'⟩ := m'; revert s b s' b'; decide +kernel
/-- The waits for the sends come after every send and every wait for a landing. -/
theorem iFin_gt (m m' : Msg) : iSend m < iFin m' ∧ iRecv m < iFin m' := by
  obtain ⟨s, b⟩ := m; obtain ⟨s', b'⟩ := m'; revert s b s' b'; decide +kernel
/-- The barrier comes before every send and every wait for a landing. -/
theorem iBar_lt (m : Msg) : iBar < iSend m ∧ iBar < iRecv m := by
  obtain ⟨s, b⟩ := m; revert s b; decide +kernel
/-- There are 163 operations. -/
theorem iFin_lt (m : Msg) : iFin m < 163 := by
  obtain ⟨s, b⟩ := m; revert s b; decide +kernel
/-- The signals come before the barrier. -/
theorem iSig_lt (j : Fin 6) : iSig j < iBar := j.isLt
/-- A message's source is at hand when it is sent. -/
theorem srcFrom_le (m : Msg) : srcFrom m ≤ iSend m := by
  obtain ⟨s, b⟩ := m; revert s b; decide +kernel
/-- A message's source comes to hand by the landing it is handed on out of. -/
theorem srcFrom_iff (m m' : Msg) : srcFrom m' = iRecv m + 1 ↔ m' ∈ outs m := by
  obtain ⟨s, b⟩ := m; obtain ⟨s', b'⟩ := m'; revert s b s' b'; decide +kernel
/-- A source comes to hand at a receive only. -/
theorem srcFrom_cases (m : Msg) : (isX m.1 = true ∧ srcFrom m = 0) ∨ (isX m.1 = false ∧ ∃ m', srcFrom m = iRecv m' + 1) := by
  obtain ⟨s, b⟩ := m; revert s b; decide +kernel
/-- What is handed on out of a message is at the rows it landed at; only a device that received it hands it on. -/
theorem outs_row (c : Dev nD) (m m' : Msg) (h : m' ∈ outs m) (ha : act c m'.1 = true) : srcRow c m' = landRow c m ∧ len m'.1 = len m.1 := by
  obtain ⟨s, b⟩ := m; obtain ⟨s', b'⟩ := m'; revert c s b s' b'; decide +kernel
/-- A device that hands a message on has received it. -/
theorem outs_act (c : Dev nD) (m m' : Msg) (h : m' ∈ outs m) (ha : act c m'.1 = true) : rac c m.1 = true := by
  obtain ⟨s, b⟩ := m; obtain ⟨s', b'⟩ := m'; revert c s b s' b'; decide +kernel
/-- What is handed on is not read from the own block. -/
theorem outs_isX (m m' : Msg) (h : m' ∈ outs m) : isX m'.1 = false := by
  obtain ⟨s, b⟩ := m; obtain ⟨s', b'⟩ := m'; revert s b s' b'; decide +kernel

/-! ## The semaphores -/

/-- A message's place in the table of 13 by 4 semaphores. -/
abbrev S13x4_fits (m : Msg) : ∀ a, (![m.1.val, m.2.val] : Fin 2 → Nat) a + S1x1.size a ≤ S13x4.size a := by
  obtain ⟨s, b⟩ := m; revert s b; decide +kernel

set_option backward.proofsInPublic true in
/-- The send and the receive semaphore of a message, as positions in the program's table of semaphores. -/
def sendSem (m : Msg) : DmaSem sig := ⟨1 + 4 * m.1.val + m.2.val, by
  have h : sig.nDmaSem = 105 := rfl
  have := m.1.isLt; have := m.2.isLt; omega⟩
set_option backward.proofsInPublic true in
/-- The receive semaphore of a message. -/
def recvSem (m : Msg) : DmaSem sig := ⟨53 + 4 * m.1.val + m.2.val, by
  have h : sig.nDmaSem = 105 := rfl
  have := m.1.isLt; have := m.2.isLt; omega⟩
/-- The barrier semaphore. -/
abbrev barS : Sem sig := (SemArray.scalar (sig.barrier 0 rfl) : Sems sig S_).sem

/-- What a semaphore of the table is: `none` for the local one, else which message's, and whether it is the receive one. -/
def dec (q : DmaSem sig) : Option (Bool × Msg) :=
  if h : 53 ≤ q.val ∧ q.val < 105 then some (true, (⟨(q.val - 53) / 4, by omega⟩, ⟨(q.val - 53) % 4, by omega⟩))
  else if h : 1 ≤ q.val ∧ q.val < 53 then some (false, (⟨(q.val - 1) / 4, by omega⟩, ⟨(q.val - 1) % 4, by omega⟩))
  else none

/-- The send semaphore of a message is its send semaphore in the table. -/
theorem dec_send (m : Msg) : dec (sendSem m) = some (false, m) := by
  obtain ⟨s, b⟩ := m; revert s b; decide +kernel
/-- The receive semaphore of a message is its receive semaphore in the table. -/
theorem dec_recv (m : Msg) : dec (recvSem m) = some (true, m) := by
  obtain ⟨s, b⟩ := m; revert s b; decide +kernel

end Cert.GatherIdealProof

end
-- ==== Proof.ISched.lean ====
/-
The schedule of the gather: which cell is paid by whom, with how much, and what each payment hands over.

Every cell has one round. A device's barrier cell is paid once by each device that signals it; that payment hands over
the rows of the payer's result that the owner will write. A message's receive cell is paid by its sender's copy, and
hands over the landed rows with their final contents; its send cell is paid by the same copy and gives the source's
share back.
-/
module

public import proofs.«01_k».proof.Proof.IPlaces
public import proofs.«01_k».proof.Proof.Gen.KernelIdeal.Skeleton
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's copy and the gather's, whose duties are the six ways. -/
abbrev UB : Type := URounds (GSem nD τ sig) (Fin 6)
/-- The accounts that the proof keeps: the launch's own and the schedule's. -/
abbrev UU : Type := UR sig nD τ × UB

local notation "𝕄" => MT nD τ sig Unit (Elt F) ℕ UU ℕ

/-- Where the launch's accounts are among all. -/
abbrev EP : Emb (UR sig nD τ) (MT nD τ sig Unit (Elt F) ℕ UU ℕ) := embL
/-- Where the schedule's accounts are among all. -/
abbrev ER : Emb UB (MT nD τ sig Unit (Elt F) ℕ UU ℕ) := embR

/-- A product of nothings is nothing. -/
theorem sep_none {I : Type} (s : Finset I) : bigSep s (fun _ => (iprop(emp) : sProp 𝕄)) = iprop(emp) := bigSep_emp_const s

/-- Holding nothing besides changes nothing. -/
theorem sep_no (P : sProp 𝕄) : iprop(P ∗ emp) = P := equiv_iff.mp BI.sep_emp
/-- Holding nothing before changes nothing. -/
theorem no_sep (P : sProp 𝕄) : iprop(emp ∗ P) = P := equiv_iff.mp BI.emp_sep

variable (m : (ℓ : Loc nD τ sig) → Buf (Elt F) ℓ)

/-! ## Memory -/

/-- Device `c`'s own block, and its result. -/
abbrev xLoc (c : Dev nD) : Loc nD τ sig := (c : Thread nD τ).loc main_arg0
/-- Device `c`'s result. -/
abbrev oLoc (c : Dev nD) : Loc nD τ sig := (c : Thread nD τ).loc main_v1

/-- The `n` rows from row `r` on, of a device's own block and of its result. -/
def rowsX (r n : ℕ) : Finset S8192x1024.Idx := Finset.univ.filter fun i => r ≤ (i (0 : Fin 2)).val ∧ (i (0 : Fin 2)).val < r + n
/-- The rows `r` to `r + n` of the result. -/
def rowsO (r n : ℕ) : Finset S32768x1024.Idx := Finset.univ.filter fun i => r ≤ (i (0 : Fin 2)).val ∧ (i (0 : Fin 2)).val < r + n

/-- An index is in a range of rows of the own block when its row is. -/
theorem mem_rowsX {r n : ℕ} {i : S8192x1024.Idx} : i ∈ rowsX r n ↔ r ≤ (i (0 : Fin 2)).val ∧ (i (0 : Fin 2)).val < r + n := by
  unfold rowsX; rw [Finset.mem_filter]; exact ⟨fun h => h.2, fun h => ⟨Finset.mem_univ _, h⟩⟩
/-- An index is in a range of rows of the result when its row is. -/
theorem mem_rowsO {r n : ℕ} {i : S32768x1024.Idx} : i ∈ rowsO r n ↔ r ≤ (i (0 : Fin 2)).val ∧ (i (0 : Fin 2)).val < r + n := by
  unfold rowsO; rw [Finset.mem_filter]; exact ⟨fun h => h.2, fun h => ⟨Finset.mem_univ _, h⟩⟩

set_option backward.proofsInPublic true in
/-- An index of a device's own block from its two coordinates. -/
def ixX (r k : ℕ) (hr : r < 8192) (hk : k < 1024) : S8192x1024.Idx := fun a => match a with
  | ⟨0, _⟩ => ⟨r, hr⟩
  | ⟨1, _⟩ => ⟨k, hk⟩

set_option backward.proofsInPublic true in
/-- The final contents of device `p`'s result: row `i` is row `i % 8192` of the own block of the device that half block comes from. -/
def G (p : Dev nD) : Buf (Elt F) (oLoc p) := fun i : S32768x1024.Idx =>
  m (xLoc (origin p ((i (0 : Fin 2)).val / 4096))) (ixX ((i (0 : Fin 2)).val % 8192) (i (1 : Fin 2)).val (Nat.mod_lt _ (by decide)) (i (1 : Fin 2)).isLt)

/-- The share a stream reads its source at: five shares of the own block, two halves of a landed one. -/
def qs (s : Fin 13) : PosShare TreeShare :=
  (![fullShare.right.left, fullShare.right.right.left, fullShare.right.right.right.left, fullShare.right.right.right.right,
     fullShare.right, fullShare.right, fullShare.left, fullShare.left, fullShare.left, fullShare.left, fullShare.left, fullShare.left,
     fullShare.left] : Fin 13 → PosShare TreeShare) s

/-- The rows device `p` receives message `ms` in, at contents `f`. -/
def landPts (p : Dev nD) (ms : Msg) (f : Buf (Elt F) (oLoc p)) : sProp 𝕄 := oLoc p ↦[rowsO (landRow p ms) (len ms.1)]{fullShare} f
/-- The rows device `c` sends message `ms` from, at the stream's share and the contents they have. -/
def srcPts (c : Dev nD) (ms : Msg) : sProp 𝕄 :=
  if isX ms.1 = true then xLoc c ↦[rowsX (srcRow c ms) (len ms.1)]{qs ms.1} m (xLoc c)
  else oLoc c ↦[rowsO (srcRow c ms) (len ms.1)]{qs ms.1} G m c
/-- The permission to write message `ms` at its receiver, where `c` sends it. -/
def dstR (c : Dev nD) (ms : Msg) : sProp 𝕄 :=
  if act c ms.1 = true then iprop(∃ f, landPts (tgt c ms.1) ms f) else iprop(emp)
/-- What the signal of way `j` hands the owner `o` of the barrier cell it pays. -/
def barPay (o : Dev nD) (j : Fin 6) : sProp 𝕄 :=
  bigSep Finset.univ fun ms : Msg => if jOf ms.1 = j then dstR o ms else iprop(emp)

/-- What a landing hands over may be kept in a cell. -/
instance landPts_storable (p : Dev nD) (ms : Msg) (f) : BI.Storable (upEmb : UEmb _ 𝕄) (landPts (F := F) p ms f) := by
  unfold landPts; infer_instance
/-- What an ended send gives back may be kept in a cell. -/
instance srcPts_storable (c : Dev nD) (ms : Msg) : BI.Storable (upEmb : UEmb _ 𝕄) (srcPts (F := F) m c ms) := by
  unfold srcPts; split <;> infer_instance
/-- The permission to write may be kept in a cell. -/
instance dstR_storable (c : Dev nD) (ms : Msg) : BI.Storable (upEmb : UEmb _ 𝕄) (dstR (F := F) c ms) := by
  unfold dstR; split <;> infer_instance
/-- What a barrier signal hands over may be kept in a cell. -/
instance barPay_storable (o : Dev nD) (j : Fin 6) : BI.Storable (upEmb : UEmb _ 𝕄) (barPay (F := F) o j) := by
  unfold barPay
  have h : ∀ ms : Msg, BI.Storable (upEmb : UEmb _ 𝕄) (if jOf ms.1 = j then dstR (F := F) o ms else iprop(emp)) := fun ms => by
    split <;> infer_instance
  infer_instance

/-! ## Cells and amounts -/

/-- Device `c`'s barrier cell. -/
abbrev barCell (c : Dev nD) : GSem nD τ sig := ((c : Thread nD τ), .reg barS)
/-- Device `c`'s cell for a message's send. -/
abbrev sendCell (c : Dev nD) (ms : Msg) : GSem nD τ sig := ((c : Thread nD τ), .dma (sendSem ms))
/-- Device `c`'s cell for a message's landing. -/
abbrev recvCell (c : Dev nD) (ms : Msg) : GSem nD τ sig := ((c : Thread nD τ), .dma (recvSem ms))
/-- Every cell of a TensorCore. -/
abbrev kcell (k : Dev nD × SemLoc sig) : GSem nD τ sig := ((k.1 : Thread nD τ), k.2)

/-- The first 1024 rows lie inside the result. -/
theorem inbA : ∀ a, (![0, 0] : Fin 2 → Nat) a + S1024x1024.size a ≤ S32768x1024.size a := by decide
/-- The first 2048 rows lie inside the result. -/
theorem inbB : ∀ a, (![0, 0] : Fin 2 → Nat) a + S2048x1024.size a ≤ S32768x1024.size a := by decide
/-- The credit of a copy of 1024 and of 2048 rows. -/
def N1 : ℕ := ((Memref.whole main_v1 : Memref sig .tc .hbm S32768x1024 .f32).slice (Rect.unit (s := S32768x1024) ![0, 0] S1024x1024.size inbA) (fun _ => rfl)).view.dmaCredit
/-- The units of a copy of 2048 rows. -/
def N2 : ℕ := ((Memref.whole main_v1 : Memref sig .tc .hbm S32768x1024 .f32).slice (Rect.unit (s := S32768x1024) ![0, 0] S2048x1024.size inbB) (fun _ => rfl)).view.dmaCredit
/-- A copy of 1024 rows has units. -/
theorem N1_pos : 0 < N1 := View.dmaCredit_pos _ (by decide)
/-- A copy of 2048 rows has units. -/
theorem N2_pos : 0 < N2 := View.dmaCredit_pos _ (by decide)
/-- The amount of a message. -/
def amt (s : Fin 13) : ℕ := if s = 12 then N2 else N1
/-- Every message has units. -/
theorem amt_pos (s : Fin 13) : 0 < amt s := by unfold amt; split; exacts [N2_pos, N1_pos]

/-- The schedule. -/
def gRd : Rounds.Schedule (GSem nD τ sig) (Fin 6) 𝕄 where
  duties g r :=
    if r = 0 ∧ g.1.2 = .tc then
      match g.2 with
      | .reg _ => Finset.univ.filter fun j => sigs (peer (back j) g.1.1) j = true
      | .dma q => match dec q with
        | some (true, ms) => if rac g.1.1 ms.1 = true then {0} else ∅
        | some (false, ms) => if act g.1.1 ms.1 = true then {0} else ∅
        | none => ∅
    else ∅
  unitless _ := False
  amount g _ _ := match g.2 with
    | .reg _ => 1
    | .dma q => match dec q with
      | some (_, ms) => amt ms.1
      | none => 1
  payload g _ d := match g.2 with
    | .reg _ => barPay g.1.1 d
    | .dma q => match dec q with
      | some (true, ms) => landPts g.1.1 ms (G m g.1.1)
      | some (false, ms) => srcPts m g.1.1 ms
      | none => iprop(emp)
  amount_pos g _ _ _ := by
    split
    · exact Nat.one_pos
    · split
      · exact amt_pos _
      · exact Nat.one_pos

/-- Every payload of the schedule may be kept in a cell. -/
instance gRd_payload_storable (g : GSem nD τ sig) (r : ℕ) (d : Fin 6) :
    BI.Storable (upEmb : UEmb _ 𝕄) ((gRd (F := F) m).payload g r d) := by
  dsimp only [gRd]
  (repeat' split) <;> infer_instance

section Sched
variable (c : Dev nD) (ms : Msg)

/-- The barrier cell is paid by every neighbour that signals the device. -/
theorem duties_bar : (gRd (F := F) m).duties (barCell c) 0 = Finset.univ.filter fun j => sigs (peer (back j) c) j = true := by
  dsimp only [gRd]; rw [if_pos ⟨rfl, rfl⟩]
/-- A send cell is paid once if the device sends the message. -/
theorem duties_send : (gRd (F := F) m).duties (sendCell c ms) 0 = if act c ms.1 = true then {0} else ∅ := by
  dsimp only [gRd]; rw [if_pos ⟨rfl, rfl⟩, dec_send]
/-- A receive cell is paid once if the device receives the message. -/
theorem duties_recv : (gRd (F := F) m).duties (recvCell c ms) 0 = if rac c ms.1 = true then {0} else ∅ := by
  dsimp only [gRd]; rw [if_pos ⟨rfl, rfl⟩, dec_recv]
/-- No cell is paid in a later round. -/
theorem duties_later (g : GSem nD τ sig) : ∀ r, 1 ≤ r → (gRd (F := F) m).duties g r = ∅ := fun r hr => by
  dsimp only [gRd]; rw [if_neg fun h => by omega]
/-- The send cell of a message that is not sent is never paid. -/
theorem duties_send_off (h : act c ms.1 = false) : ∀ r, 0 ≤ r → (gRd (F := F) m).duties (sendCell c ms) r = ∅ := fun r _ => by
  rcases Nat.eq_zero_or_pos r with rfl | hr
  · rw [duties_send, if_neg (by rw [h]; decide)]
  · exact duties_later m _ r hr
/-- The receive cell of a message that is not received is never paid. -/
theorem duties_recv_off (h : rac c ms.1 = false) : ∀ r, 0 ≤ r → (gRd (F := F) m).duties (recvCell c ms) r = ∅ := fun r _ => by
  rcases Nat.eq_zero_or_pos r with rfl | hr
  · rw [duties_recv, if_neg (by rw [h]; decide)]
  · exact duties_later m _ r hr

/-- A barrier signal is one unit. -/
theorem amount_bar (d : Fin 6) : (gRd (F := F) m).amount (barCell c) 0 d = 1 := rfl
/-- A send cell is paid the message's units. -/
theorem amount_send (d : Fin 6) : (gRd (F := F) m).amount (sendCell c ms) 0 d = amt ms.1 := by
  dsimp only [gRd]; rw [dec_send]
/-- A receive cell is paid the message's units. -/
theorem amount_recv (d : Fin 6) : (gRd (F := F) m).amount (recvCell c ms) 0 d = amt ms.1 := by
  dsimp only [gRd]; rw [dec_recv]

/-- How many signals a device waits for. -/
def nbar (c : Dev nD) : ℕ := (Finset.univ.filter fun j : Fin 6 => sigs (peer (back j) c) j = true).card

/-- The barrier cell expects one unit for each neighbour that signals. -/
theorem expect_bar : (gRd (F := F) m).expect (barCell c) 0 = nbar c := by
  unfold Schedule.expect Schedule.amountOf
  rw [duties_bar, Finset.sum_congr rfl fun d _ => amount_bar m c d, Finset.sum_const, smul_eq_mul, Nat.mul_one]; rfl
/-- A send cell expects the message's units. -/
theorem expect_send (h : act c ms.1 = true) : (gRd (F := F) m).expect (sendCell c ms) 0 = amt ms.1 := by
  unfold Schedule.expect Schedule.amountOf; rw [duties_send, if_pos h, Finset.sum_singleton, amount_send]
/-- A receive cell expects the message's units. -/
theorem expect_recv (h : rac c ms.1 = true) : (gRd (F := F) m).expect (recvCell c ms) 0 = amt ms.1 := by
  unfold Schedule.expect Schedule.amountOf; rw [duties_recv, if_pos h, Finset.sum_singleton, amount_recv]

/-- A barrier signal hands over the rows that the signalled device writes. -/
theorem payload_bar (d : Fin 6) : (gRd (F := F) m).payload (barCell c) 0 d = barPay c d := rfl
/-- The end of a send gives the source back. -/
theorem payload_send (d : Fin 6) : (gRd (F := F) m).payload (sendCell c ms) 0 d = srcPts m c ms := by
  dsimp only [gRd]; rw [dec_send]
/-- A landing hands over its rows at the final contents. -/
theorem payload_recv (d : Fin 6) : (gRd (F := F) m).payload (recvCell c ms) 0 d = landPts c ms (G m c) := by
  dsimp only [gRd]; rw [dec_recv]

/-- All that a send cell hands over is the source. -/
theorem rest_send (h : act c ms.1 = true) :
    bigSep ((gRd (F := F) m).duties (sendCell c ms) 0 \ ∅) (fun d => (gRd (F := F) m).payload (sendCell c ms) 0 d) = srcPts m c ms := by
  rw [Finset.sdiff_empty, duties_send, if_pos h, bigSep_singleton, payload_send]
/-- All that a receive cell hands over is the landed rows. -/
theorem rest_recv (h : rac c ms.1 = true) :
    bigSep ((gRd (F := F) m).duties (recvCell c ms) 0 \ ∅) (fun d => (gRd (F := F) m).payload (recvCell c ms) 0 d) = landPts c ms (G m c) := by
  rw [Finset.sdiff_empty, duties_recv, if_pos h, bigSep_singleton, payload_recv]

/-- A way no message to `o` is signalled by hands nothing. -/
theorem barPay_off (o : Dev nD) (j : Fin 6) (h : sigs (peer (back j) o) j = false) : barPay (F := F) o j = iprop(emp) := by
  unfold barPay
  rw [bigSep_congr (Ψ := fun _ => iprop(emp)) fun ms _ => ?_, sep_none]
  by_cases hj : jOf ms.1 = j
  · rw [if_pos hj]; unfold dstR
    rw [if_neg fun ha => ?_]
    have h' := sigs_tgt o ms.1 ha
    have e : tgt o ms.1 = peer (back j) o := by unfold tgt; rw [← hj]; unfold jOf; rw [back_back]
    rw [e, hj, h] at h'; exact Bool.false_ne_true h'
  · rw [if_neg hj]

/-- All that the barrier's round hands over: the permission to write every message the device sends. -/
theorem rest_bar :
    bigSep ((gRd (F := F) m).duties (barCell c) 0 \ ∅) (fun d => (gRd (F := F) m).payload (barCell c) 0 d) = bigSep Finset.univ fun ms : Msg => dstR c ms := by
  rw [Finset.sdiff_empty, duties_bar, bigSep_filter]
  rw [bigSep_congr (Ψ := fun j => barPay (F := F) c j) fun j _ => ?_]
  · unfold barPay
    rw [bigSep_univ_comm]
    refine bigSep_congr fun ms _ => ?_
    rw [bigSep_univ_at _ (jOf ms.1), if_pos rfl, bigSep_congr (Ψ := fun _ => iprop(emp)) fun j hj => if_neg fun h => (Finset.mem_erase.mp hj).1 h.symm,
      sep_none]
    exact sep_no _
  · by_cases h : sigs (peer (back j) c) j = true
    · rw [if_pos h, payload_bar]
    · rw [if_neg h, barPay_off c j (by simpa using h)]; rfl

end Sched

/-! ## What each device owes; the levels -/

/-- What device `c` still owes before operation `n`: the signals and the copies not yet made. -/
def O (c : Dev nD) (n : ℕ) : CellTallies nD τ sig Unit :=
  (∑ j : Fin 6, if sigs c j = true ∧ n ≤ iSig j then tallyAt (barCell (peer j c)) () 1 else 0)
    + ∑ ms : Msg, if act c ms.1 = true ∧ n ≤ iSend ms then tallyAt (recvCell (tgt c ms.1) ms) () (amt ms.1) else 0

/-- The level of a message's receive cell. -/
def lev (s : Fin 13) : ℕ := (![2, 2, 2, 2, 3, 3, 4, 4, 4, 4, 4, 4, 2] : Fin 13 → ℕ) s

/-- The cells that have a level: those of the TensorCores. -/
def L (g : GSem nD τ sig) : Finset Unit := if g.1.2 = .tc then {()} else ∅
/-- The level of a cell: sends lowest, then the barrier, then the landings by stream. -/
def lv (g : GSem nD τ sig) (_ : Unit) : ℕ := match g.2 with
  | .reg _ => 1
  | .dma q => match dec q with
    | some (true, ms) => lev ms.1
    | _ => 0

/-- A cell off the TensorCores has no level. -/
theorem L_of_ne (g : GSem nD τ sig) (h : g.1.2 ≠ .tc) : L g = ∅ := if_neg h
/-- A cell of a TensorCore has a level. -/
theorem L_tc (c : Dev nD) (sm : SemLoc sig) : L ((c : Thread nD τ), sm) = {()} := if_pos rfl
/-- The barrier's level. -/
theorem lv_bar (c : Dev nD) : lv (barCell c) () = 1 := rfl
/-- The level of a landing is its stream's. -/
theorem lv_recv (c : Dev nD) (ms : Msg) : lv (recvCell c ms) () = lev ms.1 := by dsimp only [lv]; rw [dec_recv]
/-- The level of a send. -/
theorem lv_send (c : Dev nD) (ms : Msg) : lv (sendCell c ms) () = 0 := by dsimp only [lv]; rw [dec_send]

/-- A cell owed to is a barrier cell signalled later, or a receive cell of a message sent later. -/
theorem O_pos {c : Dev nD} {n : ℕ} {g : GSem nD τ sig} {u : Unit} (h : 0 < O c n g u) :
    (∃ j, n ≤ iSig j ∧ g = barCell (peer j c)) ∨ (∃ ms, n ≤ iSend ms ∧ g = recvCell (tgt c ms.1) ms) := by
  by_contra hn
  rw [not_or] at hn
  refine absurd h (Nat.not_lt.mpr (Nat.le_of_eq ?_))
  unfold O
  rw [Pi.add_apply, Finsupp.add_apply, Finset.sum_apply, Finset.sum_apply, Finsupp.finset_sum_apply, Finsupp.finset_sum_apply,
    Finset.sum_eq_zero (s := (Finset.univ : Finset (Fin 6))), Finset.sum_eq_zero (s := (Finset.univ : Finset Msg))]
  · rfl
  · intro ms _
    split
    · rename_i hh
      rw [tallyAt_apply, if_neg fun h' => hn.2 ⟨ms, hh.2, h'.1⟩]
    · rfl
  · intro j _
    split
    · rename_i hh
      rw [tallyAt_apply, if_neg fun h' => hn.1 ⟨j, hh.2, h'.1⟩]
    · rfl

/-- A device may wait on a cell below every cell it still owes to. -/
theorem mayWait_of (c : Dev nD) (n : ℕ) (sm : SemLoc sig)
    (hs : ∀ j, n ≤ iSig j → lv ((c : Thread nD τ), sm) () < 1)
    (hm : ∀ ms : Msg, n ≤ iSend ms → lv ((c : Thread nD τ), sm) () < lev ms.1) :
    (levAts L lv : sProp 𝕄) ⊢ MayWait (c : Thread nD τ) sm () (O c n) :=
  MayOwe.of_cut (L := L) (lev := lv) (lv ((c : Thread nD τ), sm) ())
    (fun p hp => by rw [Finset.mem_singleton.mp hp, L_tc]; exact Finset.mem_singleton_self _)
    (fun g u hg => by rcases O_pos hg with ⟨j, _, rfl⟩ | ⟨ms, _, rfl⟩ <;> exact Finset.mem_singleton_self _)
    (fun p hp => by rw [Finset.mem_singleton.mp hp])
    (fun g u hg => by
      rcases O_pos hg with ⟨j, hj, rfl⟩ | ⟨ms, hj, rfl⟩
      · exact hs j hj
      · rw [lv_recv]; exact hm ms hj)

/-- A wait for a landing is below every message sent later. -/
theorem lev_recv (ms ms' : Msg) (h : iRecv ms ≤ iSend ms') : lev ms.1 < lev ms'.1 := by
  obtain ⟨s, b⟩ := ms; obtain ⟨s', b'⟩ := ms'; revert s b s' b'; decide +kernel
/-- Every stream is above the barrier. -/
theorem lev_gt (ms : Msg) : 1 < lev ms.1 := by
  obtain ⟨s, b⟩ := ms; revert s b; decide +kernel

/-- The wait on the barrier is allowed below what the device then owes. -/
theorem mayWait_bar (c : Dev nD) : (levAts L lv : sProp 𝕄) ⊢ MayWait (c : Thread nD τ) (.reg barS) () (O c iBar) :=
  mayWait_of c iBar _ (fun j hj => absurd (iSig_lt j) (Nat.not_lt.mpr hj)) (fun ms _ => lev_gt ms)
/-- The wait for a landing is allowed below what the device then owes. -/
theorem mayWait_recv (c : Dev nD) (ms : Msg) : (levAts L lv : sProp 𝕄) ⊢ MayWait (c : Thread nD τ) (.dma (recvSem ms)) () (O c (iRecv ms)) :=
  mayWait_of c _ _ (fun j hj => absurd ((iSig_lt j).trans (iBar_lt ms).2) (Nat.not_lt.mpr hj)) (fun ms' h => by rw [lv_recv]; exact lev_recv ms ms' h)
/-- The wait for a send is allowed below what the device then owes. -/
theorem mayWait_fin (c : Dev nD) (ms : Msg) : (levAts L lv : sProp 𝕄) ⊢ MayWait (c : Thread nD τ) (.dma (sendSem ms)) () (O c (iFin ms)) :=
  mayWait_of c _ _ (fun j hj => absurd ((iSig_lt j).trans ((iBar_lt ms).1.trans (iFin_gt ms ms).1)) (Nat.not_lt.mpr hj))
    (fun ms' h => absurd (iFin_gt ms' ms).1 (Nat.not_lt.mpr h))

/-- What is owed drops by a signal's unit when it is made, -/
theorem O_sig (c : Dev nD) (j : Fin 6) (h : sigs c j = true) :
    O c (iSig j) = O c (iSig j + 1) + tallyAt (barCell (peer j c)) () 1 := by
  unfold O
  rw [add_right_comm]
  congr 1
  · rw [← Finset.add_sum_erase _ _ (Finset.mem_univ j), ← Finset.add_sum_erase (a := j) _ (fun j' => if sigs c j' = true ∧ iSig j + 1 ≤ iSig j' then _ else _) (Finset.mem_univ j),
      if_pos ⟨h, le_rfl⟩, if_neg (fun h' => Nat.not_succ_le_self _ h'.2), zero_add, add_comm]
    congr 1
    refine Finset.sum_congr rfl fun j' hj' => if_congr (and_congr_right fun _ => ⟨fun hle => ?_, fun hle => Nat.le_of_succ_le hle⟩) rfl rfl
    have hne := (Finset.mem_erase.mp hj').1
    exact Nat.succ_le_of_lt (lt_of_le_of_ne hle fun e => hne (Fin.ext e.symm))
  · refine Finset.sum_congr rfl fun ms _ => if_congr (and_congr_right fun _ => ?_) rfl rfl
    have h1 := iSig_lt j; have h2 := (iBar_lt ms).1
    constructor <;> intro _ <;> omega
/-- by a copy's credit when it is made, -/
theorem O_send (c : Dev nD) (ms : Msg) (h : act c ms.1 = true) :
    O c (iSend ms) = O c (iSend ms + 1) + tallyAt (recvCell (tgt c ms.1) ms) () (amt ms.1) := by
  unfold O
  rw [add_assoc]
  congr 1
  · refine Finset.sum_congr rfl fun j _ => if_congr (and_congr_right fun _ => ?_) rfl rfl
    have h1 := iSig_lt j; have h2 := (iBar_lt ms).1
    constructor <;> intro _ <;> omega
  · rw [← Finset.add_sum_erase _ _ (Finset.mem_univ ms), ← Finset.add_sum_erase (a := ms) _ (fun ms' => if act c ms'.1 = true ∧ iSend ms + 1 ≤ iSend ms' then _ else _) (Finset.mem_univ ms),
      if_pos ⟨h, le_rfl⟩, if_neg (fun h' => Nat.not_succ_le_self _ h'.2), zero_add, add_comm]
    congr 1
    refine Finset.sum_congr rfl fun ms' hj' => if_congr (and_congr_right fun _ => ⟨fun hle => ?_, fun hle => Nat.le_of_succ_le hle⟩) rfl rfl
    have hne := (Finset.mem_erase.mp hj').1
    exact Nat.succ_le_of_lt (lt_of_le_of_ne hle fun e => hne (iSend_inj _ _ e.symm))
/-- and not at all at any other operation. -/
theorem O_other (c : Dev nD) (n : ℕ) (hj : ∀ j, sigs c j = true → iSig j ≠ n) (hs : ∀ ms : Msg, act c ms.1 = true → iSend ms ≠ n) : O c n = O c (n + 1) := by
  unfold O
  congr 1
  · exact Finset.sum_congr rfl fun j _ => if_congr (and_congr_right fun h => by have := hj j h; constructor <;> intro _ <;> omega) rfl rfl
  · exact Finset.sum_congr rfl fun ms _ => if_congr (and_congr_right fun h => by have := hs ms h; constructor <;> intro _ <;> omega) rfl rfl

end Cert.GatherIdealProof

end
-- ==== Proof.IInv.lean ====
/-
What device `c` holds before operation `n` of the program: one assertion for every position, made of families over the
ways and over the messages; and one theorem per kind of operation, leading from position `n` to position `n + 1`.
-/
module

public import proofs.«01_k».proof.Proof.ISched

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the program needs a measure. -/
abbrev 𝒱₀ : Variants := Variants.none

/-- The weakest precondition of a piece of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The invariant of every cell, under its name, and that every cell has reached its round. -/
def records (K : Dev nD × SemLoc sig → ℕ) : sProp 𝕄 :=
  iprop((bigSep Finset.univ fun k : Dev nD × SemLoc sig => cellInv ER (gRd m) (K k) (kcell k))
    ∗ bigSep Finset.univ fun k : Dev nD × SemLoc sig => reached ER (kcell k) 0)

/-- The records of the cells may be used again and again. -/
instance records_persistent (K : Dev nD × SemLoc sig → ℕ) : BI.Persistent (records (F := F) m K) := by unfold records; infer_instance

/-- Any cell's invariant is among all cells'. -/
theorem inv_all (K : Dev nD × SemLoc sig → ℕ) (k : Dev nD × SemLoc sig) :
    (bigSep Finset.univ fun k : Dev nD × SemLoc sig => (cellInv ER (gRd m) (K k) (kcell k) : sProp 𝕄)) ⊢ cellInv ER (gRd m) (K k) (kcell k) :=
  bigSep_elim (Finset.mem_univ k)
/-- Any cell's reached round is among all cells'. -/
theorem reached_all (k : Dev nD × SemLoc sig) :
    (bigSep Finset.univ fun k : Dev nD × SemLoc sig => (reached ER (kcell k) 0 : sProp 𝕄)) ⊢ reached ER (kcell k) 0 :=
  bigSep_elim (Finset.mem_univ k)

/-- The records hold the invariant of any cell of any device. -/
theorem inv_at (K : Dev nD × SemLoc sig → ℕ) (d : Dev nD) (sm : SemLoc sig) :
    records (F := F) m K ⊢ cellInv ER (gRd m) (K (d, sm)) ((d : Thread nD τ), sm) := by
  unfold records
  iintro ⟨H, -⟩
  iapply (inv_all m K (d, sm))
  iexact H
/-- The records hold that any cell's first round is reached. -/
theorem reached_at (K : Dev nD × SemLoc sig → ℕ) (d : Dev nD) (sm : SemLoc sig) :
    records (F := F) m K ⊢ reached ER ((d : Thread nD τ), sm) 0 := by
  unfold records
  iintro ⟨-, H⟩
  iapply (reached_all (F := F) (d, sm))
  iexact H

section Fam
variable (c : Dev nD) (n : ℕ)

/-- A way's signal: its token and what it hands over, until it is made. -/
def invT (j : Fin 6) : sProp 𝕄 :=
  if n ≤ iSig j then iprop(dutyTok ER (barCell (peer j c)) 0 j ∗ (if sigs c j = true then barPay (peer j c) j else iprop(emp))) else iprop(emp)
/-- The barrier cell: the position and the credit until the wait, the closed counter after it. -/
def invBar : sProp 𝕄 :=
  if n ≤ iBar then iprop(atPos ER (barCell c) 0 ∅ 0 ∗ cred (tallyAt (barCell c) () (nbar c))) else iprop(semVal (barCell c) 0)
/-- A message's two tokens, until it is sent. -/
def invA (ms : Msg) : sProp 𝕄 :=
  if n ≤ iSend ms then iprop(dutyTok ER (sendCell c ms) 0 0 ∗ dutyTok ER (recvCell (tgt c ms.1) ms) 0 0) else iprop(emp)
/-- A message's send cell: the position until the wait for it, the closed counter after it. -/
def invB (ms : Msg) : sProp 𝕄 :=
  if n ≤ iFin ms then iprop(atPos ER (sendCell c ms) 0 ∅ 0) else iprop(semVal (sendCell c ms) 0)
/-- The credit of a sent message, until the wait for it. -/
def invC (ms : Msg) : sProp 𝕄 :=
  if act c ms.1 = true ∧ iSend ms < n ∧ n ≤ iFin ms then iprop(cred (tallyAt (sendCell c ms) () (amt ms.1))) else iprop(emp)
/-- The permission to write a message at its receiver, from the barrier on until it is sent. -/
def invD (ms : Msg) : sProp 𝕄 :=
  if iBar < n ∧ n ≤ iSend ms then dstR c ms else iprop(emp)
/-- A message's receive cell: the position and the credit until the wait, the closed counter after it. -/
def invE (ms : Msg) : sProp 𝕄 :=
  if n ≤ iRecv ms then iprop(atPos ER (recvCell c ms) 0 ∅ 0 ∗ (if rac c ms.1 = true then iprop(cred (tallyAt (recvCell c ms) () (amt ms.1))) else iprop(emp)))
  else iprop(semVal (recvCell c ms) 0)
/-- A message's source, if the device has one. -/
def srcR (ms : Msg) : sProp 𝕄 := if isX ms.1 = true ∨ act c ms.1 = true then srcPts m c ms else iprop(emp)
/-- A message's source, from when it is at hand, except while the message is under way. -/
def invS (ms : Msg) : sProp 𝕄 :=
  if srcFrom ms ≤ n ∧ ¬(act c ms.1 = true ∧ iSend ms < n ∧ n ≤ iFin ms) then srcR m c ms else iprop(emp)
/-- What stays of a landed message when the sources of what is handed on are taken out of it. -/
def keepR (ms : Msg) : sProp 𝕄 :=
  if rac c ms.1 = true then
    if 6 ≤ ms.1.val then landPts c ms (G m c)
    else if (ms.1 = 1 ∧ act c 4 = true) ∨ (ms.1 = 3 ∧ act c 5 = true) then iprop(emp)
    else oLoc c ↦[rowsO (landRow c ms) (len ms.1)]{fullShare.right} G m c
  else iprop(emp)
/-- That, once the message has landed. -/
def invK (ms : Msg) : sProp 𝕄 := if iRecv ms < n then keepR m c ms else iprop(emp)

variable {c n}
/-- Any other operation leaves a signal's token. -/
theorem invT_at {j : Fin 6} (h : iSig j ≠ n) : invT (F := F) c (n + 1) j = invT c n j := by
  unfold invT; exact if_congr (by omega) rfl rfl
/-- Any other operation leaves the barrier cell. -/
theorem invBar_at (h : iBar ≠ n) : invBar (F := F) c (n + 1) = invBar c n := by
  unfold invBar; exact if_congr (by omega) rfl rfl
/-- Any other operation leaves a message's tokens. -/
theorem invA_at {ms : Msg} (h : iSend ms ≠ n) : invA (F := F) c (n + 1) ms = invA c n ms := by
  unfold invA; exact if_congr (by omega) rfl rfl
/-- Any other operation leaves a message's send cell. -/
theorem invB_at {ms : Msg} (h : iFin ms ≠ n) : invB (F := F) c (n + 1) ms = invB c n ms := by
  unfold invB; exact if_congr (by omega) rfl rfl
/-- Any other operation leaves the credit of a message. -/
theorem invC_at {ms : Msg} (h : act c ms.1 = true → iSend ms ≠ n ∧ iFin ms ≠ n) : invC (F := F) c (n + 1) ms = invC c n ms := by
  unfold invC; exact if_congr (and_congr_right fun ha => by have := h ha; omega) rfl rfl
/-- Any other operation leaves the permission to write. -/
theorem invD_at {ms : Msg} (hb : iBar ≠ n) (h : iSend ms ≠ n) : invD (F := F) c (n + 1) ms = invD c n ms := by
  unfold invD; exact if_congr (by omega) rfl rfl
/-- Any other operation leaves a message's receive cell. -/
theorem invE_at {ms : Msg} (h : iRecv ms ≠ n) : invE (F := F) c (n + 1) ms = invE c n ms := by
  unfold invE; exact if_congr (by omega) rfl rfl
/-- Any other operation leaves a message's source. -/
theorem invS_at {ms : Msg} (hf : srcFrom ms ≠ n + 1) (h : act c ms.1 = true → iSend ms ≠ n ∧ iFin ms ≠ n) : invS (F := F) m c (n + 1) ms = invS m c n ms := by
  unfold invS
  exact if_congr (and_congr (by omega) (not_congr (and_congr_right fun ha => by have := h ha; omega))) rfl rfl
/-- Any other operation leaves what is kept of a landing. -/
theorem invK_at {ms : Msg} (h : iRecv ms ≠ n) : invK (F := F) m c (n + 1) ms = invK m c n ms := by
  unfold invK; exact if_congr (by omega) rfl rfl

/-- An operation that is no signal leaves all the signals' tokens. -/
theorem T_stay (h : ∀ j, iSig j ≠ n) : bigSep Finset.univ (invT (F := F) c n) = bigSep Finset.univ (invT c (n + 1)) :=
  bigSep_congr fun j _ => (invT_at (h j)).symm
/-- An operation that is no send leaves all the messages' tokens. -/
theorem A_stay (h : ∀ ms, iSend ms ≠ n) : bigSep Finset.univ (invA (F := F) c n) = bigSep Finset.univ (invA c (n + 1)) :=
  bigSep_congr fun ms _ => (invA_at (h ms)).symm
/-- An operation that is no wait for a send leaves all the send cells. -/
theorem B_stay (h : ∀ ms, iFin ms ≠ n) : bigSep Finset.univ (invB (F := F) c n) = bigSep Finset.univ (invB c (n + 1)) :=
  bigSep_congr fun ms _ => (invB_at (h ms)).symm
/-- An operation that neither sends nor waits for a send leaves all the credits. -/
theorem C_stay (h : ∀ ms : Msg, act c ms.1 = true → iSend ms ≠ n ∧ iFin ms ≠ n) : bigSep Finset.univ (invC (F := F) c n) = bigSep Finset.univ (invC c (n + 1)) :=
  bigSep_congr fun ms _ => (invC_at (h ms)).symm
/-- An operation that is neither the barrier nor a send leaves all the permissions. -/
theorem D_stay (hb : iBar ≠ n) (h : ∀ ms, iSend ms ≠ n) : bigSep Finset.univ (invD (F := F) c n) = bigSep Finset.univ (invD c (n + 1)) :=
  bigSep_congr fun ms _ => (invD_at hb (h ms)).symm
/-- An operation that waits for no landing leaves all the receive cells. -/
theorem E_stay (h : ∀ ms, iRecv ms ≠ n) : bigSep Finset.univ (invE (F := F) c n) = bigSep Finset.univ (invE c (n + 1)) :=
  bigSep_congr fun ms _ => (invE_at (h ms)).symm
/-- Without a landing no source comes to hand. -/
theorem srcFrom_ne (h : ∀ ms, iRecv ms ≠ n) (ms : Msg) : srcFrom ms ≠ n + 1 := by
  rcases srcFrom_cases ms with ⟨_, h0⟩ | ⟨_, m', h1⟩
  · omega
  · have := h m'; omega
/-- An operation that touches no source leaves all the sources. -/
theorem S_stay (hr : ∀ ms, iRecv ms ≠ n) (h : ∀ ms : Msg, act c ms.1 = true → iSend ms ≠ n ∧ iFin ms ≠ n) :
    bigSep Finset.univ (invS (F := F) m c n) = bigSep Finset.univ (invS m c (n + 1)) :=
  bigSep_congr fun ms _ => (invS_at m (srcFrom_ne hr ms) (h ms)).symm
/-- An operation that waits for no landing leaves all that is kept. -/
theorem K_stay (h : ∀ ms, iRecv ms ≠ n) : bigSep Finset.univ (invK (F := F) m c n) = bigSep Finset.univ (invK m c (n + 1)) :=
  bigSep_congr fun ms _ => (invK_at m (h ms)).symm

end Fam

/-- What device `c` holds before operation `n`; `R` is what it holds throughout. -/
def Inv (K : Dev nD × SemLoc sig → ℕ) (c : Dev nD) (R : sProp 𝕄) (n : ℕ) : sProp 𝕄 :=
  iprop(records m K ∗ levAts L lv ∗ R ∗ (∃ W, owes (c : Thread nD τ) (O c n) W)
    ∗ bigSep Finset.univ (invT c n) ∗ invBar c n ∗ bigSep Finset.univ (invA c n) ∗ bigSep Finset.univ (invB c n) ∗ bigSep Finset.univ (invC c n)
    ∗ bigSep Finset.univ (invD c n) ∗ bigSep Finset.univ (invE c n) ∗ bigSep Finset.univ (invS m c n) ∗ bigSep Finset.univ (invK m c n))

variable (K : Dev nD × SemLoc sig → ℕ) (c : Dev nD) (Z : sProp (MT nD τ sig Unit (Elt F) ℕ UU ℕ))

/-! ## Sequencing -/

variable {c} in
/-- One piece after another. -/
theorem seq {α β : Type} {p : Prog (TpuEff nD τ sig (Elt F) Λ₀ .tc) α} {k : α → Prog (TpuEff nD τ sig (Elt F) Λ₀ .tc) β} {P R : sProp 𝕄} {Q : β → sProp 𝕄}
    (h1 : P ⊢ WP c p fun _ => R) (h2 : ∀ a, R ⊢ WP c (k a) Q) : P ⊢ WP c (p >>= k) Q := by
  unfold WP; rw [wp_bind]
  exact h1.trans (wp_mono _ _ _ h2)
variable {c} in
/-- One piece after another, its value known to satisfy `φ`. -/
theorem seq' {α β : Type} {p : Prog (TpuEff nD τ sig (Elt F) Λ₀ .tc) α} {k : α → Prog (TpuEff nD τ sig (Elt F) Λ₀ .tc) β} {P R : sProp 𝕄} {Q : β → sProp 𝕄} {φ : α → Prop}
    (h1 : P ⊢ WP c p fun a => iprop(⌜φ a⌝ ∗ R)) (h2 : ∀ a, φ a → R ⊢ WP c (k a) Q) : P ⊢ WP c (p >>= k) Q := by
  unfold WP; rw [wp_bind]
  refine h1.trans (wp_mono _ _ _ fun a => ?_)
  iintro ⟨%h, H⟩
  iapply (h2 a h); iexact H
variable {c} in
/-- The end of a piece. -/
theorem done {α : Type} (a : α) {P : sProp 𝕄} : P ⊢ WP c (pure a) fun _ => P := by
  show P ⊢ wp _ _ _ (Prog.ret a) _
  rw [wp_ret]; exact fupd_intro
variable {c} in
/-- The end of a piece, with a value that satisfies `φ`. -/
theorem done' {α : Type} (a : α) {P : sProp 𝕄} {φ : α → Prop} (h : φ a) : P ⊢ WP c (pure a) fun a => iprop(⌜φ a⌝ ∗ P) := by
  show P ⊢ wp _ _ _ (Prog.ret a) _
  rw [wp_ret]
  iintro H
  imodintro
  isplitr; · ipureintro; exact h
  iexact H
variable {c} in
/-- An operation under a printed condition, and what follows it: made where the condition holds, else passed over. -/
theorem guard {β : Type} {C : Prop} [Decidable C] {p : C → Prog (TpuEff nD τ sig (Elt F) Λ₀ .tc) PUnit} {k : Prog (TpuEff nD τ sig (Elt F) Λ₀ .tc) β}
    {P R : sProp 𝕄} {Q : β → sProp 𝕄}
    (h1 : ∀ h : C, P ⊢ WP c (p h) fun _ => R) (h2 : ¬C → P ⊢ |={Set.univ}=> R) (h3 : R ⊢ WP c k Q) :
    P ⊢ WP c (if h : C then (p h >>= fun _ => k) else k) Q := by
  by_cases h : C
  · rw [dif_pos h]; exact seq (h1 h) fun _ => h3
  · rw [dif_neg h]
    exact (h2 h).trans ((fupd_mono h3).trans (fupd_wp _ _ _ _ _))

/-! ## The signals -/

/-- A signal is no other kind of operation. -/
theorem at_sig (j : Fin 6) : iBar ≠ iSig j ∧ (∀ ms, iSend ms ≠ iSig j) ∧ (∀ ms, iRecv ms ≠ iSig j) ∧ ∀ ms, iFin ms ≠ iSig j :=
  have h := iSig_lt j
  ⟨by omega, fun ms => by have := (iBar_lt ms).1; omega, fun ms => by have := (iBar_lt ms).2; omega,
    fun ms => by have := (iBar_lt ms).1; have := (iFin_gt ms ms).1; omega⟩
/-- Different ways have different signals. -/
theorem iSig_ne {j i : Fin 6} (h : i ≠ j) : iSig i ≠ iSig j := fun e => h (Fin.ext e)

/-- The families a signal does not touch. -/
theorem sig_frame (j : Fin 6) :
    Inv m K c Z (iSig j) = iprop(records m K ∗ levAts L lv ∗ Z ∗ (∃ W, owes (c : Thread nD τ) (O c (iSig j)) W)
    ∗ bigSep Finset.univ (invT c (iSig j)) ∗ invBar c (iSig j + 1) ∗ bigSep Finset.univ (invA c (iSig j + 1)) ∗ bigSep Finset.univ (invB c (iSig j + 1)) ∗ bigSep Finset.univ (invC c (iSig j + 1))
    ∗ bigSep Finset.univ (invD c (iSig j + 1)) ∗ bigSep Finset.univ (invE c (iSig j + 1)) ∗ bigSep Finset.univ (invS m c (iSig j + 1)) ∗ bigSep Finset.univ (invK m c (iSig j + 1))) := by
  obtain ⟨h1, h2, h3, h4⟩ := at_sig j
  unfold Inv
  rw [invBar_at h1, A_stay h2, B_stay h4, C_stay fun ms _ => ⟨h2 ms, h4 ms⟩, D_stay h1 h2, E_stay h3, S_stay m h3 fun ms _ => ⟨h2 ms, h4 ms⟩, K_stay m h3]

/-- A signal made. -/
theorem sig_act (j : Fin 6) (hs : sigs c j = true) (p : Dev nD) (hp : p = peer j c) :
    Inv m K c Z (iSig j) ⊢ WP c (semSignalWord p barS 1#32) fun _ => Inv m K c Z (iSig j + 1) := by
  subst hp
  rw [sig_frame]
  iintro ⟨#HR, #Hl, Hc, ⟨%W, HO⟩, HT, Hbar, HA, HB, HC, HD, HE, HS, HK⟩
  ihave HT := (bigSep_univ_update (Φ := invT (F := F) c (iSig j)) (Ψ := invT c (iSig j + 1)) j fun i hi => invT_at (iSig_ne hi)) $$ HT
  icases HT with ⟨Hj, HT⟩
  ihave Hj := (Entails.of_eq (show invT (F := F) c (iSig j) j = iprop(dutyTok ER (barCell (peer j c)) 0 j ∗ barPay (peer j c) j) by
    unfold invT; rw [if_pos le_rfl, if_pos hs])) $$ Hj
  icases Hj with ⟨Htok, Hpay⟩
  simp only [semSignalWord]
  iapply (Rounds.wp_signal 𝒱₀ ER (gRd m) (c : Thread nD τ) none (dst := (peer j c : Thread nD τ)) (κ := K (peer j c, .reg barS))
      (d := j) (by rw [duties_bar]; exact Finset.mem_filter.mpr ⟨Finset.mem_univ _, by rw [peer_back]; exact hs⟩)
      ((amount_bar m (peer j c) j).trans (by decide)) () (O c (iSig j + 1)) (O_sig c j hs)) $$ [HO Htok Hpay]
  · isplitr; · iapply (inv_at m K (peer j c) (.reg barS)); iexact HR
    isplitl [HO]; · iexact HO
    isplitl [Htok]; · iexact Htok
    isplitl [Hpay]; · rw [payload_bar]; iexact Hpay
    iapply (reached_at m K (peer j c) (.reg barS)); iexact HR
  iintro HO
  rw [wp_ret]; imodintro
  unfold Inv
  isplitr; · iexact HR
  isplitr; · iexact Hl
  isplitl [Hc]; · iexact Hc
  isplitl [HO]; · iexists W; iexact HO
  isplitl [HT]
  · iapply HT
    unfold invT; rw [if_neg (Nat.not_succ_le_self _)]; iempintro
  isplitl [Hbar]; · iexact Hbar
  isplitl [HA]; · iexact HA
  isplitl [HB]; · iexact HB
  isplitl [HC]; · iexact HC
  isplitl [HD]; · iexact HD
  isplitl [HE]; · iexact HE
  isplitl [HS]; · iexact HS
  iexact HK

/-! ## The wait on the barrier semaphore -/

/-- An operation that neither signals nor sends leaves what is owed. -/
theorem owes_stay (n : ℕ) (hj : ∀ j, sigs c j = true → iSig j ≠ n) (hs : ∀ ms : Msg, act c ms.1 = true → iSend ms ≠ n) {W : Waits sig Unit} :
    (owes (c : Thread nD τ) (O c n) W : sProp 𝕄) = owes (c : Thread nD τ) (O c (n + 1)) W := by
  rw [O_other c n hj hs]

/-- The barrier is no other kind of operation. -/
theorem at_bar : (∀ j, iSig j ≠ iBar) ∧ (∀ ms, iSend ms ≠ iBar) ∧ (∀ ms, iRecv ms ≠ iBar) ∧ ∀ ms, iFin ms ≠ iBar :=
  ⟨fun j => by have := iSig_lt j; omega, fun ms => by have := (iBar_lt ms).1; omega, fun ms => by have := (iBar_lt ms).2; omega,
    fun ms => by have := (iBar_lt ms).1; have := (iFin_gt ms ms).1; omega⟩

/-- The wait for the barrier's signals: the device's own cell has its count, and the places it writes to are handed over. -/
theorem bar_step (a : BitVec 32) (ha : a.toInt = (nbar c : ℤ)) :
    Inv m K c Z iBar ⊢ WP c (semWaitWord barS a) fun _ => Inv m K c Z (iBar + 1) := by
  obtain ⟨h1, h2, h3, h4⟩ := at_bar
  unfold Inv
  rw [T_stay h1, A_stay h2, B_stay h4, C_stay fun ms _ => ⟨h2 ms, h4 ms⟩, E_stay h3, S_stay m h3 fun ms _ => ⟨h2 ms, h4 ms⟩, K_stay m h3]
  iintro ⟨#HR, #Hl, Hc, ⟨%W, HO⟩, HT, Hbar, HA, HB, HC, -, HE, HS, HK⟩
  ihave Hbar := (Entails.of_eq (show invBar (F := F) c iBar = iprop(atPos ER (barCell c) 0 ∅ 0 ∗ cred (tallyAt (barCell c) () (nbar c))) by
    unfold invBar; rw [if_pos le_rfl])) $$ Hbar
  icases Hbar with ⟨Hat, Hcr⟩
  simp only [semWaitWord]
  rw [ha]
  iapply (Rounds.wp_wait_rest_token 𝒱₀ ER (gRd m) (c : Thread nD τ) none (κ := K (c, .reg barS))
      (wpE_semWait_eq 𝒱₀ (c : Thread nD τ) none Set.univ) (Set.mem_univ _) () (O := O c iBar) (W := W) (R := 0) (m := 0) (T := ∅)
      (by rw [Nat.zero_add, expect_bar])) $$ [Hcr HO Hat]
  · isplitr; · iapply (inv_at m K c (.reg barS)); iexact HR
    isplitl [Hcr]; · iexact Hcr
    isplitl [HO]; · iexact HO
    isplitr; · iapply (mayWait_bar c); iexact Hl
    iexact Hat
  iintro ⟨HO, Hat, -, Hpay⟩
  ihave Hp := (Entails.of_eq (rest_bar m c)) $$ Hpay
  imod (Rounds.cell_close ER (gRd m) (Set.mem_univ (K (c, .reg barS))) (fun h => h) (R := 0 + 1) (duties_later m (barCell c))) $$ [Hat] with Hat
  · isplitr; · iapply (inv_at m K c (.reg barS)); iexact HR
    iexact Hat
  rw [wp_ret]; imodintro
  isplitr; · iexact HR
  isplitr; · iexact Hl
  isplitl [Hc]; · iexact Hc
  isplitl [HO]; · iexists (insert (SemLoc.reg barS, ()) W); rw [← owes_stay c iBar (fun j _ => h1 j) fun ms _ => h2 ms]; iexact HO
  isplitl [HT]; · iexact HT
  isplitl [Hat]; · unfold invBar; rw [if_neg (Nat.not_succ_le_self _)]; iexact Hat
  isplitl [HA]; · iexact HA
  isplitl [HB]; · iexact HB
  isplitl [HC]; · iexact HC
  isplitl [Hp]
  · iapply (Entails.of_eq (bigSep_congr (Φ := fun ms => dstR (F := F) c ms) (Ψ := invD c (iBar + 1)) fun ms _ => by
      unfold invD; rw [if_pos ⟨Nat.lt_succ_self _, (iBar_lt ms).1⟩]))
    iexact Hp
  isplitl [HE]; · iexact HE
  isplitl [HS]; · iexact HS
  iexact HK

/-! ## The sends -/

/-- A send is no other kind of operation. -/
theorem at_send (ms : Msg) : (∀ j, iSig j ≠ iSend ms) ∧ iBar ≠ iSend ms ∧ (∀ m', iRecv m' ≠ iSend ms) ∧ ∀ m', iFin m' ≠ iSend ms :=
  ⟨fun j => by have := iSig_lt j; have := (iBar_lt ms).1; omega, by have := (iBar_lt ms).1; omega, fun m' => (iSend_ne_iRecv ms m').symm,
    fun m' => by have := (iFin_gt ms m').1; omega⟩
/-- Other messages have other sends. -/
theorem iSend_ne {ms m' : Msg} (h : m' ≠ ms) : iSend m' ≠ iSend ms := fun e => h (iSend_inj _ _ e)
/-- Other messages have other waits for their landings. -/
theorem iRecv_ne {ms m' : Msg} (h : m' ≠ ms) : iRecv m' ≠ iRecv ms := fun e => h (iRecv_inj _ _ e)
/-- Other messages have other waits for their sends. -/
theorem iFin_ne {ms m' : Msg} (h : m' ≠ ms) : iFin m' ≠ iFin ms := fun e => h (iFin_inj _ _ e)

/-- A message sent, its source and destination given as the program names them. -/
theorem send_act (ms : Msg) (ha : act c ms.1 = true) (p : Dev nD) (hp : p = tgt c ms.1) {s : Shape} {e : EltTy} {sp sp' : Space}
    {src : Memref sig (Dev.tc c : Thread nD τ).2.kind sp s e} {dst : Memref sig (Dev.tc p : Thread nD τ).2.kind sp' s e}
    {hsc : dst.view.ref.isScScratch = false} {sS sR : SemLoc sig} (hS : sS = .dma (sendSem ms)) (hR : sR = .dma (recvSem ms))
    {hsrc : src.view.WordExact} {hdst : dst.view.WordExact} {hsem : DmaTarget.Typed sp sR (.remote (Dev.tc p : Thread nD τ) dst sS hsc)}
    (q : PosShare TreeShare) (fs : Buf (Elt F) (src.view.loc (c : Thread nD τ)))
    (hs : srcPts m c ms = (src.view.loc (c : Thread nD τ) ↦[src.view.set]{q} fs))
    (hd : ∀ f, (landPts (tgt c ms.1) ms f : sProp 𝕄) ⊢ iprop(∃ fd, (dst.view.loc (Dev.tc p : Thread nD τ) ↦[dst.view.set]{fullShare} fd)
      ∗ ⌜(dst.view.loc (Dev.tc p : Thread nD τ) ↦[dst.view.set]{fullShare} (dst.view.write (Elt F) fd (src.view.read (Elt F) fs) Finset.univ) : sProp 𝕄)
          ⊢ landPts (tgt c ms.1) ms (G m (tgt c ms.1))⌝))
    (hN : dst.view.amount sR = amt ms.1) :
    Inv m K c Z (iSend ms) ⊢ WP c (Prog.lift (.enqueueDma src (.remote (Dev.tc p : Thread nD τ) dst sS hsc) sR hsrc hdst hsem)) fun _ => Inv m K c Z (iSend ms + 1) := by
  subst hp hS hR
  obtain ⟨h1, h2, h3, h4⟩ := at_send ms
  unfold Inv
  rw [T_stay h1, invBar_at (c := c) h2, B_stay h4, E_stay h3, K_stay m h3]
  iintro ⟨#HR, #Hl, Hc, ⟨%W, HO⟩, HT, Hbar, HA, HB, HC, HD, HE, HS, HK⟩
  ihave HA := (bigSep_univ_update (Φ := invA (F := F) c (iSend ms)) (Ψ := invA c (iSend ms + 1)) ms fun i hi => invA_at (iSend_ne hi)) $$ HA
  icases HA with ⟨Ha, HA⟩
  ihave Ha := (Entails.of_eq (show invA (F := F) c (iSend ms) ms = iprop(dutyTok ER (sendCell c ms) 0 0 ∗ dutyTok ER (recvCell (tgt c ms.1) ms) 0 0) by
    unfold invA; rw [if_pos le_rfl])) $$ Ha
  icases Ha with ⟨Ht1, Ht2⟩
  ihave HC := (bigSep_univ_update (Φ := invC (F := F) c (iSend ms)) (Ψ := invC c (iSend ms + 1)) ms fun i hi => invC_at fun _ => ⟨iSend_ne hi, h4 i⟩) $$ HC
  icases HC with ⟨-, HC⟩
  ihave HD := (bigSep_univ_update (Φ := invD (F := F) c (iSend ms)) (Ψ := invD c (iSend ms + 1)) ms fun i hi => invD_at h2 (iSend_ne hi)) $$ HD
  icases HD with ⟨Hd, HD⟩
  ihave Hd := (Entails.of_eq (show invD (F := F) c (iSend ms) ms = iprop(∃ f, landPts (tgt c ms.1) ms f) by
    unfold invD dstR; rw [if_pos ⟨(iBar_lt ms).1, le_rfl⟩, if_pos ha])) $$ Hd
  icases Hd with ⟨%f, Hd⟩
  ihave Hd := (hd f) $$ Hd
  icases Hd with ⟨%fd, Hd, %hpay⟩
  ihave HS := (bigSep_univ_update (Φ := invS (F := F) m c (iSend ms)) (Ψ := invS m c (iSend ms + 1)) ms
    fun i hi => invS_at m (srcFrom_ne h3 i) fun _ => ⟨iSend_ne hi, h4 i⟩) $$ HS
  icases HS with ⟨Hs, HS⟩
  ihave Hs := (Entails.of_eq ((show invS (F := F) m c (iSend ms) ms = srcPts m c ms by
    unfold invS srcR; rw [if_pos ⟨srcFrom_le ms, fun h => Nat.lt_irrefl _ h.2.1⟩, if_pos (Or.inr ha)]).trans hs)) $$ Hs
  simp only [Prog.lift]
  iapply (Rounds.wp_send_pointsTo 𝒱₀ ER (gRd m) (c : Thread nD τ) none (κ₁ := K (c, .dma (sendSem ms))) (κ₂ := K (tgt c ms.1, .dma (recvSem ms)))
      (r₁ := 0) (r₂ := 0) (d₁ := (0 : Fin 6)) (d₂ := (0 : Fin 6)) (fd := fd)
      (by rw [duties_send, if_pos ha]; exact Finset.mem_singleton_self _) (by rw [duties_recv, rac_tgt, if_pos ha]; exact Finset.mem_singleton_self _)
      () () (amt ms.1) hN (amount_send m c ms 0) (amount_recv m (tgt c ms.1) ms 0) (O c (iSend ms + 1)) (O_send c ms ha) (W := W)
      (by rw [payload_send, hs]) (by rw [payload_recv]; exact hpay)) $$ [Hs Hd HO Ht1 Ht2]
  · isplitr; · iapply (inv_at m K c (.dma (sendSem ms))); iexact HR
    isplitr; · iapply (inv_at m K (tgt c ms.1) (.dma (recvSem ms))); iexact HR
    isplitl [Hs]; · iexact Hs
    isplitl [Hd]; · iexact Hd
    isplitl [HO]; · iexact HO
    isplitl [Ht1]; · iexact Ht1
    isplitr; · iapply (reached_at m K c (.dma (sendSem ms))); iexact HR
    isplitl [Ht2]; · iexact Ht2
    iapply (reached_at m K (tgt c ms.1) (.dma (recvSem ms))); iexact HR
  iintro ⟨Hcr, HO⟩
  rw [wp_ret]; imodintro
  isplitr; · iexact HR
  isplitr; · iexact Hl
  isplitl [Hc]; · iexact Hc
  isplitl [HO]; · iexists W; iexact HO
  isplitl [HT]; · iexact HT
  isplitl [Hbar]; · iexact Hbar
  isplitl [HA]
  · iapply HA
    unfold invA; rw [if_neg (Nat.not_succ_le_self _)]; iempintro
  isplitl [HB]; · iexact HB
  isplitl [HC Hcr]
  · iapply HC
    unfold invC; rw [if_pos ⟨ha, Nat.lt_succ_self _, (iFin_gt ms ms).1⟩]; iexact Hcr
  isplitl [HD]
  · iapply HD
    unfold invD; rw [if_neg fun h => Nat.not_succ_le_self _ h.2]; iempintro
  isplitl [HE]; · iexact HE
  isplitl [HS]
  · iapply HS
    unfold invS; rw [if_neg fun h => h.2 ⟨ha, Nat.lt_succ_self _, (iFin_gt ms ms).1⟩]; iempintro
  iexact HK

/-- A send passed over. -/
theorem send_skip (ms : Msg) (ha : act c ms.1 = false) : Inv m K c Z (iSend ms) ⊢ |={Set.univ}=> Inv m K c Z (iSend ms + 1) := by
  obtain ⟨h1, h2, h3, h4⟩ := at_send ms
  have hn : ∀ m' : Msg, act c m'.1 = true → iSend m' ≠ iSend ms := fun m' h e => by
    rw [iSend_inj _ _ e, ha] at h; exact absurd h (by decide)
  unfold Inv
  rw [T_stay h1, invBar_at (c := c) h2, B_stay h4, E_stay h3, K_stay m h3, C_stay fun m' h => ⟨hn m' h, h4 m'⟩, S_stay m h3 fun m' h => ⟨hn m' h, h4 m'⟩,
    O_other c (iSend ms) (fun j _ => h1 j) hn]
  iintro ⟨#HR, #Hl, Hc, HO, HT, Hbar, HA, HB, HC, HD, HE, HS, HK⟩
  ihave HA := (bigSep_univ_update (Φ := invA (F := F) c (iSend ms)) (Ψ := invA c (iSend ms + 1)) ms fun i hi => invA_at (iSend_ne hi)) $$ HA
  icases HA with ⟨-, HA⟩
  ihave HD := (bigSep_univ_update (Φ := invD (F := F) c (iSend ms)) (Ψ := invD c (iSend ms + 1)) ms fun i hi => invD_at h2 (iSend_ne hi)) $$ HD
  icases HD with ⟨-, HD⟩
  imodintro
  isplitr; · iexact HR
  isplitr; · iexact Hl
  isplitl [Hc]; · iexact Hc
  isplitl [HO]; · iexact HO
  isplitl [HT]; · iexact HT
  isplitl [Hbar]; · iexact Hbar
  isplitl [HA]
  · iapply HA
    unfold invA; rw [if_neg (Nat.not_succ_le_self _)]; iempintro
  isplitl [HB]; · iexact HB
  isplitl [HC]; · iexact HC
  isplitl [HD]
  · iapply HD
    unfold invD; rw [if_neg fun h => Nat.not_succ_le_self _ h.2]; iempintro
  isplitl [HE]; · iexact HE
  isplitl [HS]; · iexact HS
  iexact HK

/-- A signal passed over. -/
theorem sig_skip (j : Fin 6) (hs : sigs c j = false) : Inv m K c Z (iSig j) ⊢ |={Set.univ}=> Inv m K c Z (iSig j + 1) := by
  rw [sig_frame, O_other c (iSig j) (fun i h e => by rw [show i = j from Fin.ext e, hs] at h; exact absurd h (by decide)) fun ms _ => (at_sig j).2.1 ms]
  iintro ⟨#HR, #Hl, Hc, HO, HT, Hbar, HA, HB, HC, HD, HE, HS, HK⟩
  ihave HT := (bigSep_univ_update (Φ := invT (F := F) c (iSig j)) (Ψ := invT c (iSig j + 1)) j fun i hi => invT_at (iSig_ne hi)) $$ HT
  icases HT with ⟨-, HT⟩
  imodintro
  unfold Inv
  isplitr; · iexact HR
  isplitr; · iexact Hl
  isplitl [Hc]; · iexact Hc
  isplitl [HO]; · iexact HO
  isplitl [HT]
  · iapply HT
    unfold invT; rw [if_neg (Nat.not_succ_le_self _)]; iempintro
  isplitl [Hbar]; · iexact Hbar
  isplitl [HA]; · iexact HA
  isplitl [HB]; · iexact HB
  isplitl [HC]; · iexact HC
  isplitl [HD]; · iexact HD
  isplitl [HE]; · iexact HE
  isplitl [HS]; · iexact HS
  iexact HK

/-! ## The landed messages -/

/-- The source of a message that is handed on is a share of the landed rows. -/
theorem src_out (ms m' : Msg) (h : m' ∈ outs ms) (ha : act c m'.1 = true) :
    srcR m c m' = (oLoc c ↦[rowsO (landRow c ms) (len ms.1)]{qs m'.1} G m c) := by
  obtain ⟨e1, e2⟩ := outs_row c ms m' h ha
  unfold srcR srcPts
  rw [if_pos (Or.inr ha), if_neg (by rw [outs_isX ms m' h]; decide), e1, e2]
/-- A message that is not handed on has no source. -/
theorem src_off (ms m' : Msg) (h : m' ∈ outs ms) (ha : act c m'.1 = false) : srcR m c m' = iprop(emp) := by
  unfold srcR
  rw [if_neg (by rw [outs_isX ms m' h, ha]; decide)]

/-- The landed rows are held in two halves. -/
theorem halves (ms : Msg) : landPts c ms (G m c) = (iprop((oLoc c ↦[rowsO (landRow c ms) (len ms.1)]{fullShare.right} G m c)
    ∗ (oLoc c ↦[rowsO (landRow c ms) (len ms.1)]{fullShare.left} G m c)) : sProp 𝕄) := by
  unfold landPts
  exact (equiv_iff.mp ⟨(pointsTo_share (PosShare.mem_left_op_right fullShare)).1, (pointsTo_share (PosShare.mem_left_op_right fullShare)).2⟩).trans
    (equiv_iff.mp ⟨BI.sep_comm, BI.sep_comm⟩)

/-- A landing handed on once: one half is the source, the other is kept. -/
theorem land_one (ms m' : Msg) (ho : outs ms = {m'}) (hq : qs m'.1 = fullShare.left) (ha : act c m'.1 = true)
    (hk : keepR m c ms = (oLoc c ↦[rowsO (landRow c ms) (len ms.1)]{fullShare.right} G m c)) :
    landPts c ms (G m c) = iprop(keepR m c ms ∗ bigSep (outs ms) (srcR m c)) := by
  rw [ho, bigSep_singleton, src_out m c ms m' (by rw [ho]; exact Finset.mem_singleton_self _) ha, hq, hk]
  exact halves m c ms
/-- A landing that may be handed on twice: a half for each, or the second kept. -/
theorem land_two (ms m' m'' : Msg) (ho : outs ms = {m', m''}) (hne : m' ≠ m'') (hq : qs m'.1 = fullShare.left) (hq' : qs m''.1 = fullShare.right) (ha : act c m'.1 = true)
    (hk : keepR m c ms = if act c m''.1 = true then iprop(emp) else (oLoc c ↦[rowsO (landRow c ms) (len ms.1)]{fullShare.right} G m c)) :
    landPts c ms (G m c) = iprop(keepR m c ms ∗ bigSep (outs ms) (srcR m c)) := by
  have hm : m'' ∈ outs ms := by rw [ho]; exact Finset.mem_insert_of_mem (Finset.mem_singleton_self _)
  rw [ho, bigSep_insert (by rw [Finset.mem_singleton]; exact hne), bigSep_singleton,
    src_out m c ms m' (by rw [ho]; exact Finset.mem_insert_self _ _) ha, hq, hk]
  cases h : act c m''.1 with
  | true =>
    rw [if_pos rfl, src_out m c ms m'' hm h, hq']
    exact ((halves m c ms).trans (equiv_iff.mp ⟨BI.sep_comm, BI.sep_comm⟩)).trans (no_sep _).symm
  | false =>
    rw [if_neg (by decide), src_off m c ms m'' hm h]
    exact (halves m c ms).trans (congrArg (fun X => iprop(_ ∗ X)) (sep_no _).symm)

/-- A landing that came along z is passed on to the neighbour in y. -/
theorem y_act (s : Fin 6) (h : rac c ⟨s.val, by omega⟩ = true) : act c ⟨6 + s.val, by omega⟩ = true := by revert c s; decide +kernel

/-- A landed message is what stays of it and the sources of what is handed on. -/
theorem landing (ms : Msg) : (if rac c ms.1 = true then landPts c ms (G m c) else iprop(emp)) = iprop(keepR m c ms ∗ bigSep (outs ms) (srcR m c)) := by
  cases h : rac c ms.1 with
  | false =>
    rw [if_neg (by decide)]
    have e : bigSep (outs ms) (srcR m c) = iprop(emp) := by
      rw [bigSep_congr (Ψ := fun _ => iprop(emp)) fun m' hm => src_off m c ms m' hm ?_, sep_none]
      by_contra hh
      have := outs_act c ms m' hm (by simpa using hh)
      rw [h] at this; exact absurd this (by decide)
    rw [e]; unfold keepR; rw [if_neg (by rw [h]; decide), sep_no]
  | true =>
    rw [if_pos rfl]
    obtain ⟨s, b⟩ := ms
    have hz : ∀ s : Fin 13, rac c s = true → 6 ≤ s.val → outs (s, b) = ∅ → landPts c (s, b) (G m c) = iprop(keepR m c (s, b) ∗ bigSep (outs (s, b)) (srcR m c)) := fun s h h6 ho => by
      rw [ho, bigSep_empty]; unfold keepR; rw [if_pos h, if_pos h6]; exact (sep_no _).symm
    fin_cases s
    · refine land_one m c _ (6, b) rfl rfl (y_act c 0 h) ?_
      unfold keepR; rw [if_pos h, if_neg (by show ¬(6 ≤ 0); decide), if_neg (fun h => h.elim (fun h => absurd (Fin.val_eq_of_eq h.1) (by simp)) fun h => absurd (Fin.val_eq_of_eq h.1) (by simp))]
    · refine land_two m c _ (7, b) (4, b) rfl (by simp) rfl rfl (y_act c 1 h) ?_
      unfold keepR; rw [if_pos h, if_neg (by show ¬(6 ≤ 1); decide)]
      exact if_congr ⟨fun h => h.elim (fun h => h.2) fun h => absurd (Fin.val_eq_of_eq h.1) (by simp), fun h => Or.inl ⟨rfl, h⟩⟩ rfl rfl
    · refine land_one m c _ (8, b) rfl rfl (y_act c 2 h) ?_
      unfold keepR; rw [if_pos h, if_neg (by show ¬(6 ≤ 2); decide), if_neg (fun h => h.elim (fun h => absurd (Fin.val_eq_of_eq h.1) (by simp)) fun h => absurd (Fin.val_eq_of_eq h.1) (by simp))]
    · refine land_two m c _ (9, b) (5, b) rfl (by simp) rfl rfl (y_act c 3 h) ?_
      unfold keepR; rw [if_pos h, if_neg (by show ¬(6 ≤ 3); decide)]
      exact if_congr ⟨fun h => h.elim (fun h => absurd (Fin.val_eq_of_eq h.1) (by simp)) fun h => h.2, fun h => Or.inr ⟨rfl, h⟩⟩ rfl rfl
    · refine land_one m c _ (10, b) rfl rfl (y_act c 4 h) ?_
      unfold keepR; rw [if_pos h, if_neg (by show ¬(6 ≤ 4); decide), if_neg (fun h => h.elim (fun h => absurd (Fin.val_eq_of_eq h.1) (by simp)) fun h => absurd (Fin.val_eq_of_eq h.1) (by simp))]
    · refine land_one m c _ (11, b) rfl rfl (y_act c 5 h) ?_
      unfold keepR; rw [if_pos h, if_neg (by show ¬(6 ≤ 5); decide), if_neg (fun h => h.elim (fun h => absurd (Fin.val_eq_of_eq h.1) (by simp)) fun h => absurd (Fin.val_eq_of_eq h.1) (by simp))]
    all_goals exact hz _ h (by decide) rfl

/-! ## The waits -/

/-- A wait for a landing is no other kind of operation. -/
theorem at_recv (ms : Msg) : (∀ j, iSig j ≠ iRecv ms) ∧ iBar ≠ iRecv ms ∧ (∀ m', iSend m' ≠ iRecv ms) ∧ ∀ m', iFin m' ≠ iRecv ms :=
  ⟨fun j => by have := iSig_lt j; have := (iBar_lt ms).2; omega, by have := (iBar_lt ms).2; omega, fun m' => iSend_ne_iRecv m' ms,
    fun m' => by have := (iFin_gt ms m').2; omega⟩
/-- A wait for a send is no other kind of operation. -/
theorem at_fin (ms : Msg) : (∀ j, iSig j ≠ iFin ms) ∧ iBar ≠ iFin ms ∧ (∀ m', iSend m' ≠ iFin ms) ∧ ∀ m', iRecv m' ≠ iFin ms :=
  ⟨fun j => by have := iSig_lt j; have := (iBar_lt ms).1; have := (iFin_gt ms ms).1; omega, by have := (iBar_lt ms).1; have := (iFin_gt ms ms).1; omega,
    fun m' => by have := (iFin_gt m' ms).1; omega, fun m' => by have := (iFin_gt m' ms).2; omega⟩

/-- The sources a landed message brings join those at hand. -/
theorem src_join (ms : Msg) : iprop(bigSep Finset.univ (invS m c (iRecv ms)) ∗ bigSep (outs ms) (srcR m c)) = bigSep Finset.univ (invS m c (iRecv ms + 1)) := by
  have e : bigSep (outs ms) (srcR m c) = bigSep Finset.univ fun m' => if m' ∈ outs ms then srcR m c m' else iprop(emp) := by
    have h := bigSep_filter Finset.univ (fun m' => m' ∈ outs ms) (srcR m c)
    rw [Finset.filter_mem_eq_inter, Finset.univ_inter] at h
    exact h
  rw [e, ← bigSep_sep']
  refine bigSep_congr fun m' _ => ?_
  by_cases h : m' ∈ outs ms
  · have hf := (srcFrom_iff ms m').mpr h
    have hl := srcFrom_le m'
    unfold invS
    rw [if_pos h, if_neg (fun h => by omega), if_pos ⟨hf.le, fun h => by omega⟩, no_sep]
  · rw [if_neg h, sep_no, invS_at m (fun e => h ((srcFrom_iff ms m').mp e)) fun _ => ⟨(at_recv ms).2.2.1 m', (at_recv ms).2.2.2 m'⟩]

/-- The wait for a message's landing. -/
theorem recv_act (ms : Msg) (hr : rac c ms.1 = true) {κ' : Kind} {s s' : Shape} {e e' : EltTy} {sp sp' : Space}
    {a : Memref sig (Dev.tc c : Thread nD τ).2.kind sp' s' e'} {b : Memref sig κ' sp s e}
    {sR : DmaSem sig} (hR : sR = recvSem ms) {ha : a.view.WordExact} {hb : b.view.WordExact} (hN : b.view.dmaCredit = amt ms.1) :
    Inv m K c Z (iRecv ms) ⊢ WP c (Prog.lift (.waitDma2 sR a b ha hb)) fun _ => Inv m K c Z (iRecv ms + 1) := by
  subst hR
  obtain ⟨h1, h2, h3, h4⟩ := at_recv ms
  unfold Inv
  rw [T_stay h1, invBar_at (c := c) h2, A_stay h3, B_stay h4, C_stay fun m' _ => ⟨h3 m', h4 m'⟩, D_stay h2 h3, ← src_join]
  iintro ⟨#HR, #Hl, Hc, ⟨%W, HO⟩, HT, Hbar, HA, HB, HC, HD, HE, HS, HK⟩
  ihave HE := (bigSep_univ_update (Φ := invE (F := F) c (iRecv ms)) (Ψ := invE c (iRecv ms + 1)) ms fun i hi => invE_at (iRecv_ne hi)) $$ HE
  icases HE with ⟨He, HE⟩
  ihave He := (Entails.of_eq (show invE (F := F) c (iRecv ms) ms = iprop(atPos ER (recvCell c ms) 0 ∅ 0 ∗ cred (tallyAt (recvCell c ms) () (amt ms.1))) by
    unfold invE; rw [if_pos le_rfl, if_pos hr])) $$ He
  icases He with ⟨Hat, Hcr⟩
  ihave HK := (bigSep_univ_update (Φ := invK (F := F) m c (iRecv ms)) (Ψ := invK m c (iRecv ms + 1)) ms fun i hi => invK_at m (iRecv_ne hi)) $$ HK
  icases HK with ⟨-, HK⟩
  simp only [Prog.lift]
  iapply (Rounds.wp_wait_rest_token 𝒱₀ ER (gRd m) (c : Thread nD τ) none (κ := K (c, .dma (recvSem ms)))
      (wpE_waitDma2_eq 𝒱₀ (c : Thread nD τ) none Set.univ) (Set.mem_univ _) () (O := O c (iRecv ms)) (W := W) (R := 0) (m := 0) (T := ∅)
      (by rw [Nat.zero_add, expect_recv m c ms hr, hN])) $$ [Hcr HO Hat]
  · isplitr; · iapply (inv_at m K c (.dma (recvSem ms))); iexact HR
    isplitl [Hcr]; · rw [hN]; iexact Hcr
    isplitl [HO]; · iexact HO
    isplitr; · iapply (mayWait_recv c ms); iexact Hl
    iexact Hat
  iintro ⟨HO, Hat, -, Hpay⟩
  ihave Hp := (Entails.of_eq ((rest_recv m c ms hr).trans ((if_pos hr).symm.trans (landing m c ms)))) $$ Hpay
  icases Hp with ⟨Hkeep, Hout⟩
  imod (Rounds.cell_close ER (gRd m) (Set.mem_univ (K (c, .dma (recvSem ms)))) (fun h => h) (R := 0 + 1) (duties_later m (recvCell c ms))) $$ [Hat] with Hat
  · isplitr; · iapply (inv_at m K c (.dma (recvSem ms))); iexact HR
    iexact Hat
  rw [wp_ret]; imodintro
  isplitr; · iexact HR
  isplitr; · iexact Hl
  isplitl [Hc]; · iexact Hc
  isplitl [HO]; · iexists (insert (SemLoc.dma (recvSem ms), ()) W); rw [← owes_stay c (iRecv ms) (fun j _ => h1 j) fun m' _ => h3 m']; iexact HO
  isplitl [HT]; · iexact HT
  isplitl [Hbar]; · iexact Hbar
  isplitl [HA]; · iexact HA
  isplitl [HB]; · iexact HB
  isplitl [HC]; · iexact HC
  isplitl [HD]; · iexact HD
  isplitl [HE Hat]
  · iapply HE
    unfold invE; rw [if_neg (Nat.not_succ_le_self _)]; iexact Hat
  isplitl [HS Hout]
  · isplitl [HS]; · iexact HS
    iexact Hout
  iapply HK
  unfold invK; rw [if_pos (Nat.lt_succ_self _)]; iexact Hkeep

/-- That wait passed over, where no message lands. -/
theorem recv_skip (ms : Msg) (hr : rac c ms.1 = false) : Inv m K c Z (iRecv ms) ⊢ |={Set.univ}=> Inv m K c Z (iRecv ms + 1) := by
  obtain ⟨h1, h2, h3, h4⟩ := at_recv ms
  unfold Inv
  rw [T_stay h1, invBar_at (c := c) h2, A_stay h3, B_stay h4, C_stay fun m' _ => ⟨h3 m', h4 m'⟩, D_stay h2 h3, ← src_join,
    O_other c (iRecv ms) (fun j _ => h1 j) fun m' _ => h3 m']
  iintro ⟨#HR, #Hl, Hc, HO, HT, Hbar, HA, HB, HC, HD, HE, HS, HK⟩
  ihave HE := (bigSep_univ_update (Φ := invE (F := F) c (iRecv ms)) (Ψ := invE c (iRecv ms + 1)) ms fun i hi => invE_at (iRecv_ne hi)) $$ HE
  icases HE with ⟨He, HE⟩
  ihave He := (Entails.of_eq (show invE (F := F) c (iRecv ms) ms = iprop(atPos ER (recvCell c ms) 0 ∅ 0 ∗ emp) by
    unfold invE; rw [if_pos le_rfl, if_neg (by rw [hr]; decide)])) $$ He
  icases He with ⟨Hat, -⟩
  ihave HK := (bigSep_univ_update (Φ := invK (F := F) m c (iRecv ms)) (Ψ := invK m c (iRecv ms + 1)) ms fun i hi => invK_at m (iRecv_ne hi)) $$ HK
  icases HK with ⟨-, HK⟩
  imod (Rounds.cell_close ER (gRd m) (Set.mem_univ (K (c, .dma (recvSem ms)))) (fun h => h) (R := 0) (duties_recv_off m c ms hr)) $$ [Hat] with Hat
  · isplitr; · iapply (inv_at m K c (.dma (recvSem ms))); iexact HR
    iexact Hat
  imodintro
  isplitr; · iexact HR
  isplitr; · iexact Hl
  isplitl [Hc]; · iexact Hc
  isplitl [HO]; · iexact HO
  isplitl [HT]; · iexact HT
  isplitl [Hbar]; · iexact Hbar
  isplitl [HA]; · iexact HA
  isplitl [HB]; · iexact HB
  isplitl [HC]; · iexact HC
  isplitl [HD]; · iexact HD
  isplitl [HE Hat]
  · iapply HE
    unfold invE; rw [if_neg (Nat.not_succ_le_self _)]; iexact Hat
  have hl : (iprop(emp) : sProp 𝕄) ⊢ iprop(keepR m c ms ∗ bigSep (outs ms) (srcR m c)) := Entails.of_eq ((if_neg (by rw [hr]; decide)).symm.trans (landing m c ms))
  ihave Hp := (hl) $$ []
  · iempintro
  icases Hp with ⟨Hkeep, Hout⟩
  isplitl [HS Hout]
  · isplitl [HS]; · iexact HS
    iexact Hout
  iapply HK
  unfold invK; rw [if_pos (Nat.lt_succ_self _)]; iexact Hkeep

/-- The wait for a message's departure: its source is back. -/
theorem fin_act (ms : Msg) (hr : act c ms.1 = true) {κ' : Kind} {s s' : Shape} {e e' : EltTy} {sp sp' : Space}
    {a : Memref sig (Dev.tc c : Thread nD τ).2.kind sp' s' e'} {b : Memref sig κ' sp s e}
    {sR : DmaSem sig} (hR : sR = sendSem ms) {ha : a.view.WordExact} {hb : b.view.WordExact} (hN : b.view.dmaCredit = amt ms.1) :
    Inv m K c Z (iFin ms) ⊢ WP c (Prog.lift (.waitDma2 sR a b ha hb)) fun _ => Inv m K c Z (iFin ms + 1) := by
  subst hR
  obtain ⟨h1, h2, h3, h4⟩ := at_fin ms
  unfold Inv
  rw [T_stay h1, invBar_at (c := c) h2, A_stay h3, D_stay h2 h3, E_stay h4, K_stay m h4]
  iintro ⟨#HR, #Hl, Hc, ⟨%W, HO⟩, HT, Hbar, HA, HB, HC, HD, HE, HS, HK⟩
  ihave HB := (bigSep_univ_update (Φ := invB (F := F) c (iFin ms)) (Ψ := invB c (iFin ms + 1)) ms fun i hi => invB_at (iFin_ne hi)) $$ HB
  icases HB with ⟨Hat, HB⟩
  ihave Hat := (Entails.of_eq (show invB (F := F) c (iFin ms) ms = iprop(atPos ER (sendCell c ms) 0 ∅ 0) by
    unfold invB; rw [if_pos le_rfl])) $$ Hat
  ihave HC := (bigSep_univ_update (Φ := invC (F := F) c (iFin ms)) (Ψ := invC c (iFin ms + 1)) ms fun i hi => invC_at fun _ => ⟨h3 i, iFin_ne hi⟩) $$ HC
  icases HC with ⟨Hcr, HC⟩
  ihave Hcr := (Entails.of_eq (show invC (F := F) c (iFin ms) ms = iprop(cred (tallyAt (sendCell c ms) () (amt ms.1))) by
    unfold invC; rw [if_pos ⟨hr, (iFin_gt ms ms).1, le_rfl⟩])) $$ Hcr
  ihave HS := (bigSep_univ_update (Φ := invS (F := F) m c (iFin ms)) (Ψ := invS m c (iFin ms + 1)) ms
    fun i hi => invS_at m (srcFrom_ne h4 i) fun _ => ⟨h3 i, iFin_ne hi⟩) $$ HS
  icases HS with ⟨-, HS⟩
  simp only [Prog.lift]
  iapply (Rounds.wp_wait_rest_token 𝒱₀ ER (gRd m) (c : Thread nD τ) none (κ := K (c, .dma (sendSem ms)))
      (wpE_waitDma2_eq 𝒱₀ (c : Thread nD τ) none Set.univ) (Set.mem_univ _) () (O := O c (iFin ms)) (W := W) (R := 0) (m := 0) (T := ∅)
      (by rw [Nat.zero_add, expect_send m c ms hr, hN])) $$ [Hcr HO Hat]
  · isplitr; · iapply (inv_at m K c (.dma (sendSem ms))); iexact HR
    isplitl [Hcr]; · rw [hN]; iexact Hcr
    isplitl [HO]; · iexact HO
    isplitr; · iapply (mayWait_fin c ms); iexact Hl
    iexact Hat
  iintro ⟨HO, Hat, -, Hpay⟩
  ihave Hp := (Entails.of_eq (rest_send m c ms hr)) $$ Hpay
  imod (Rounds.cell_close ER (gRd m) (Set.mem_univ (K (c, .dma (sendSem ms)))) (fun h => h) (R := 0 + 1) (duties_later m (sendCell c ms))) $$ [Hat] with Hat
  · isplitr; · iapply (inv_at m K c (.dma (sendSem ms))); iexact HR
    iexact Hat
  rw [wp_ret]; imodintro
  isplitr; · iexact HR
  isplitr; · iexact Hl
  isplitl [Hc]; · iexact Hc
  isplitl [HO]; · iexists (insert (SemLoc.dma (sendSem ms), ()) W); rw [← owes_stay c (iFin ms) (fun j _ => h1 j) fun m' _ => h3 m']; iexact HO
  isplitl [HT]; · iexact HT
  isplitl [Hbar]; · iexact Hbar
  isplitl [HA]; · iexact HA
  isplitl [HB Hat]
  · iapply HB
    unfold invB; rw [if_neg (Nat.not_succ_le_self _)]; iexact Hat
  isplitl [HC]
  · iapply HC
    unfold invC; rw [if_neg fun h => Nat.not_succ_le_self _ h.2.2]; iempintro
  isplitl [HD]; · iexact HD
  isplitl [HE]; · iexact HE
  isplitl [HS Hp]
  · iapply HS
    unfold invS srcR
    rw [if_pos ⟨(srcFrom_le ms).trans ((iFin_gt ms ms).1.le.trans (Nat.le_succ _)), fun h => Nat.not_succ_le_self _ h.2.2⟩, if_pos (Or.inr hr)]
    iexact Hp
  iexact HK

/-- That wait passed over, where no message was sent. -/
theorem fin_skip (ms : Msg) (hr : act c ms.1 = false) : Inv m K c Z (iFin ms) ⊢ |={Set.univ}=> Inv m K c Z (iFin ms + 1) := by
  obtain ⟨h1, h2, h3, h4⟩ := at_fin ms
  have hn : ∀ m' : Msg, act c m'.1 = true → iFin m' ≠ iFin ms := fun m' h e => by
    rw [iFin_inj _ _ e, hr] at h; exact absurd h (by decide)
  unfold Inv
  rw [T_stay h1, invBar_at (c := c) h2, A_stay h3, D_stay h2 h3, E_stay h4, K_stay m h4, C_stay fun m' h => ⟨h3 m', hn m' h⟩,
    S_stay m h4 fun m' h => ⟨h3 m', hn m' h⟩, O_other c (iFin ms) (fun j _ => h1 j) fun m' _ => h3 m']
  iintro ⟨#HR, #Hl, Hc, HO, HT, Hbar, HA, HB, HC, HD, HE, HS, HK⟩
  ihave HB := (bigSep_univ_update (Φ := invB (F := F) c (iFin ms)) (Ψ := invB c (iFin ms + 1)) ms fun i hi => invB_at (iFin_ne hi)) $$ HB
  icases HB with ⟨Hat, HB⟩
  ihave Hat := (Entails.of_eq (show invB (F := F) c (iFin ms) ms = iprop(atPos ER (sendCell c ms) 0 ∅ 0) by
    unfold invB; rw [if_pos le_rfl])) $$ Hat
  imod (Rounds.cell_close ER (gRd m) (Set.mem_univ (K (c, .dma (sendSem ms)))) (fun h => h) (R := 0) (duties_send_off m c ms hr)) $$ [Hat] with Hat
  · isplitr; · iapply (inv_at m K c (.dma (sendSem ms))); iexact HR
    iexact Hat
  imodintro
  isplitr; · iexact HR
  isplitr; · iexact Hl
  isplitl [Hc]; · iexact Hc
  isplitl [HO]; · iexact HO
  isplitl [HT]; · iexact HT
  isplitl [Hbar]; · iexact Hbar
  isplitl [HA]; · iexact HA
  isplitl [HB Hat]
  · iapply HB
    unfold invB; rw [if_neg (Nat.not_succ_le_self _)]; iexact Hat
  isplitl [HC]; · iexact HC
  isplitl [HD]; · iexact HD
  isplitl [HE]; · iexact HE
  isplitl [HS]; · iexact HS
  iexact HK

end Cert.GatherIdealProof

end
-- ==== Proof.IMem.lean ====
/-
Memory at the two ends of the program: how the block and the result a device starts from are cut into the pieces the
gather moves, and how the pieces it ends with are put together.
-/
module

public import proofs.«01_k».proof.Proof.IInv

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The result -/

/-- Two pieces of rows, one above the other, share no element. -/
theorem rowsO_disjoint {r n r' n' : ℕ} (h : r + n ≤ r' ∨ r' + n' ≤ r) : Disjoint (rowsO r n) (rowsO r' n') :=
  Finset.disjoint_left.mpr fun i h1 h2 => by rw [mem_rowsO] at h1 h2; omega
/-- Ranges of rows of the own block that do not meet share no index. -/
theorem rowsX_disjoint {r n r' n' : ℕ} (h : r + n ≤ r' ∨ r' + n' ≤ r) : Disjoint (rowsX r n) (rowsX r' n') :=
  Finset.disjoint_left.mpr fun i h1 h2 => by rw [mem_rowsX] at h1 h2; omega

/-- The rows of the messages a device receives are all of its result. -/
theorem land_univ : (Finset.univ.filter fun ms : Msg => rac c ms.1 = true).biUnion (fun ms => rowsO (landRow c ms) (len ms.1)) = Finset.univ := by
  refine Finset.eq_univ_iff_forall.mpr fun i => ?_
  have hi : (i (0 : Fin 2)).val < 32768 := (i (0 : Fin 2)).isLt
  obtain ⟨ms, h, h1, h2⟩ := land_cover c ⟨(i (0 : Fin 2)).val / 1024, by omega⟩
  refine Finset.mem_biUnion.mpr ⟨ms, Finset.mem_filter.mpr ⟨Finset.mem_univ _, h⟩, mem_rowsO.mpr ?_⟩
  dsimp only at h1 h2
  omega

/-- The result is the rows its messages land in. -/
theorem out_split (f : Buf (Elt F) (oLoc c)) :
    (oLoc c ↦[Finset.univ]{fullShare} f : sProp 𝕄) = bigSep Finset.univ fun ms : Msg => if rac c ms.1 = true then landPts c ms f else iprop(emp) := by
  have h := pointsTo_biUnion (Ix := Unit) (Name := ℕ) (U := UU) (Lvl := ℕ) (ℓ := oLoc c) (q := fullShare) (f := f)
    (Finset.univ.filter fun ms : Msg => rac c ms.1 = true) (fun ms => rowsO (landRow c ms) (len ms.1)) fun a ha b hb hne =>
      rowsO_disjoint (land_disjoint c a b (Finset.mem_filter.mp ha).2 (Finset.mem_filter.mp hb).2 hne)
  have h2 := bigSep_filter Finset.univ (fun ms : Msg => rac c ms.1 = true) (fun ms => landPts (F := F) c ms f)
  have h3 := congrArg (fun S : Finset (Idx (oLoc c)) => (oLoc c ↦[S]{fullShare} f : sProp 𝕄)) (land_univ c)
  exact h3.symm.trans (h.trans h2)

/-- What a device's six signals hand over is the permission to write each message it receives. -/
theorem pay_eq :
    (bigSep Finset.univ fun j : Fin 6 => if sigs c j = true then barPay (F := F) (peer j c) j else iprop(emp))
      = bigSep Finset.univ fun ms : Msg => if rac c ms.1 = true then iprop(∃ f, landPts c ms f) else iprop(emp) := by
  rw [bigSep_congr (Ψ := fun j => barPay (F := F) (peer j c) j) fun j _ => ?_]
  · unfold barPay
    rw [bigSep_univ_comm]
    refine bigSep_congr fun ms _ => ?_
    rw [bigSep_univ_at _ (jOf ms.1), if_pos rfl, bigSep_congr (Ψ := fun _ => iprop(emp)) fun j hj => if_neg fun h => (Finset.mem_erase.mp hj).1 h.symm,
      sep_none]
    refine (sep_no _).trans ?_
    have e : peer (jOf ms.1) c = snd c ms.1 := rfl
    unfold dstR
    rw [e, act_snd, tgt_snd]
  · by_cases h : sigs c j = true
    · rw [if_pos h]
    · rw [if_neg h, barPay_off (peer j c) j (by rw [peer_back]; simpa using h)]

/-- Rows at known contents are rows at some contents. -/
theorem land_some (ms : Msg) (f : Buf (Elt F) (oLoc c)) : landPts (F := F) c ms f ⊢ iprop(∃ f, landPts c ms f) := by
  iintro H; iexists f; iexact H

/-- A device starts with what its signals hand over. -/
theorem pay_intro (f : Buf (Elt F) (oLoc c)) :
    (oLoc c ↦[Finset.univ]{fullShare} f : sProp 𝕄) ⊢ bigSep Finset.univ fun j : Fin 6 => if sigs c j = true then barPay (F := F) (peer j c) j else iprop(emp) := by
  rw [pay_eq, out_split]
  refine bigSep_mono fun ms _ => ?_
  by_cases h : rac c ms.1 = true
  · rw [if_pos h, if_pos h]; exact land_some c ms f
  · rw [if_neg h, if_neg h]; exact (fun a ha => ha)

/-! ## The device's own block -/

/-- A block's whole is its five streams' shares. -/
theorem x_shares (f : Buf (Elt F) (xLoc c)) :
    (xLoc c ↦[Finset.univ]{fullShare} f : sProp 𝕄) = bigSep Finset.univ fun s : Fin 13 => if isX s = true then (xLoc c ↦[Finset.univ]{qs s} f) else iprop(emp) := by
  have sh (q : PosShare TreeShare) : (xLoc c ↦[Finset.univ]{q} f : sProp 𝕄) = iprop((xLoc c ↦[Finset.univ]{q.left} f) ∗ xLoc c ↦[Finset.univ]{q.right} f) :=
    have h := pointsTo_share (Ix := Unit) (Name := ℕ) (U := UU) (Lvl := ℕ) (ℓ := xLoc c) (I := Finset.univ) (f := f) (PosShare.mem_left_op_right q)
    equiv_iff.mp ⟨h.1, h.2⟩
  have e : (Finset.univ.filter fun s : Fin 13 => isX s = true) = {12, 0, 1, 2, 3} := by decide
  have h := bigSep_filter Finset.univ (fun s : Fin 13 => isX s = true) (fun s => (xLoc c ↦[Finset.univ]{qs s} f : sProp 𝕄))
  refine Eq.trans ?_ h
  rw [e, bigSep_insert (by decide), bigSep_insert (by decide), bigSep_insert (by decide), bigSep_insert (by decide), bigSep_singleton,
    sh fullShare, sh fullShare.right, sh fullShare.right.right, sh fullShare.right.right.right]
  rfl

/-- The blocks of a stream start at different rows. -/
theorem src_disjoint (s : Fin 13) (b b' : Fin 4) (h : isX s = true) (hne : b ≠ b') :
    srcRow c (s, b) + len s ≤ srcRow c (s, b') ∨ srcRow c (s, b') + len s ≤ srcRow c (s, b) := by
  revert c s b b'; decide +kernel

/-- The elements of the own block a stream reads none of. -/
def offRows (s : Fin 13) : Finset S8192x1024.Idx := Finset.univ \ Finset.univ.biUnion fun b : Fin 4 => rowsX (srcRow c (s, b)) (len s)
/-- What a device holds of its own block beside what its streams read. -/
def xRest : sProp 𝕄 :=
  bigSep Finset.univ fun s : Fin 13 => if isX s = true then (xLoc c ↦[offRows c s]{qs s} m (xLoc c)) else iprop(emp)

/-- A stream's share of the block: the rows of its four messages, and the others. -/
theorem x_cut (s : Fin 13) (h : isX s = true) :
    (xLoc c ↦[Finset.univ]{qs s} m (xLoc c) : sProp 𝕄)
      = iprop((bigSep Finset.univ fun b : Fin 4 => srcPts m c (s, b)) ∗ xLoc c ↦[offRows c s]{qs s} m (xLoc c)) := by
  have h0 := (pointsTo_split_subset (Ix := Unit) (Name := ℕ) (U := UU) (Lvl := ℕ) (ℓ := xLoc c) (q := qs s) (f := m (xLoc c))
    (Finset.subset_univ (Finset.univ.biUnion fun b : Fin 4 => rowsX (srcRow c (s, b)) (len s))))
  have h1 := equiv_iff.mp ⟨h0.1, h0.2⟩
  have h2 := pointsTo_biUnion (Ix := Unit) (Name := ℕ) (U := UU) (Lvl := ℕ) (ℓ := xLoc c) (q := qs s) (f := m (xLoc c))
    Finset.univ (fun b : Fin 4 => rowsX (srcRow c (s, b)) (len s)) fun b _ b' _ hne => rowsX_disjoint (src_disjoint c s b b' h hne)
  refine h1.trans ?_
  rw [h2]
  have h3 : (bigSep Finset.univ fun b : Fin 4 => (xLoc c ↦[rowsX (srcRow c (s, b)) (len s)]{qs s} m (xLoc c) : sProp 𝕄))
      = bigSep Finset.univ fun b : Fin 4 => srcPts m c (s, b) :=
    bigSep_congr fun b _ => by unfold srcPts; exact (if_pos h).symm
  rw [h3]; rfl

/-- A device's own block: the rows of the messages sent from it, and the rest. -/
theorem x_split :
    (xLoc c ↦[Finset.univ]{fullShare} m (xLoc c) : sProp 𝕄)
      = iprop((bigSep Finset.univ fun ms : Msg => if isX ms.1 = true then srcPts m c ms else iprop(emp)) ∗ xRest m c) := by
  unfold xRest
  rw [x_shares, bigSep_univ_prod, ← bigSep_sep']
  refine bigSep_congr fun s _ => ?_
  by_cases h : isX s = true
  · simp only [if_pos h]; exact x_cut m c s h
  · simp only [if_neg h]; rw [sep_none, no_sep]

/-! ## The families at the two ends -/

/-- At the start the sources at hand are those in the own block. -/
theorem invS_zero : bigSep Finset.univ (invS (F := F) m c 0) = bigSep Finset.univ fun ms : Msg => if isX ms.1 = true then srcPts m c ms else iprop(emp) :=
  bigSep_congr fun ms _ => by
    unfold invS
    rcases srcFrom_cases ms with ⟨h, h0⟩ | ⟨h, m', h1⟩
    · rw [if_pos ⟨by omega, fun h => by omega⟩, if_pos h]; unfold srcR; rw [if_pos (Or.inl h)]
    · rw [if_neg fun h => by omega, if_neg (by rw [h]; decide)]

/-- At the end every source is at hand again. -/
theorem invS_end : bigSep Finset.univ (invS (F := F) m c 163) = bigSep Finset.univ (srcR m c) :=
  bigSep_congr fun ms _ => by
    have h1 := iFin_lt ms; have h2 := iFin_gt ms ms; have h3 := srcFrom_le ms
    unfold invS; rw [if_pos ⟨by omega, fun h => by omega⟩]
/-- At the start nothing has landed. -/
theorem invK_zero : bigSep Finset.univ (invK (F := F) m c 0) = iprop(emp) := by
  rw [bigSep_congr (Ψ := fun _ => iprop(emp)) fun ms _ => by unfold invK; rw [if_neg (by omega)], sep_none]
/-- At the end what is kept of every landing is at hand. -/
theorem invK_end : bigSep Finset.univ (invK (F := F) m c 163) = bigSep Finset.univ (keepR m c) :=
  bigSep_congr fun ms _ => by
    have h1 := iFin_lt ms; have h2 := iFin_gt ms ms
    unfold invK; rw [if_pos (by omega)]

/-- Different messages have different waits for their landings. -/
theorem iRecv_inj' (a b : Msg) (h : iRecv a = iRecv b) : a = b := by
  obtain ⟨s, b⟩ := a; obtain ⟨s', b'⟩ := b; revert s b s' b'; decide +kernel

/-- Every message handed on is handed on out of one landed message. -/
theorem outs_all :
    (bigSep Finset.univ fun ms : Msg => bigSep (outs ms) (srcR (F := F) m c))
      = bigSep Finset.univ fun ms : Msg => if isX ms.1 = true then iprop(emp) else srcR m c ms := by
  rw [bigSep_congr (Ψ := fun ms : Msg => bigSep Finset.univ fun m' : Msg => if m' ∈ outs ms then srcR (F := F) m c m' else iprop(emp)) fun ms _ => ?_]
  · rw [bigSep_univ_comm]
    refine bigSep_congr fun m' _ => ?_
    rcases srcFrom_cases m' with ⟨h, h0⟩ | ⟨h, ms, h1⟩
    · rw [if_pos h, bigSep_congr (Ψ := fun _ => iprop(emp)) fun ms _ => if_neg fun hm => by rw [outs_isX ms m' hm] at h; exact absurd h (by decide), sep_none]
    · rw [if_neg (by rw [h]; decide), bigSep_univ_at _ ms, if_pos ((srcFrom_iff ms m').mp h1),
        bigSep_congr (Ψ := fun _ => iprop(emp)) fun ms' hm => if_neg fun hi => ?_, sep_none]
      · exact sep_no _
      · have := (srcFrom_iff ms' m').mpr hi
        exact (Finset.mem_erase.mp hm).1 (iRecv_inj' ms' ms (by omega))
  · have h := bigSep_filter Finset.univ (fun m' => m' ∈ outs ms) (srcR (F := F) m c)
    rw [Finset.filter_mem_eq_inter, Finset.univ_inter] at h
    exact h

/-- The sources: those in the own block, and those handed on. -/
theorem src_all :
    bigSep Finset.univ (srcR (F := F) m c)
      = iprop((bigSep Finset.univ fun ms : Msg => if isX ms.1 = true then srcPts m c ms else iprop(emp))
          ∗ bigSep Finset.univ fun ms : Msg => bigSep (outs ms) (srcR m c)) := by
  rw [outs_all, ← bigSep_sep']
  refine bigSep_congr fun ms _ => ?_
  by_cases h : isX ms.1 = true
  · rw [if_pos h, if_pos h, sep_no]; unfold srcR; rw [if_pos (Or.inl h)]
  · rw [if_neg h, if_neg h, no_sep]

/-- At the end a device holds its own block as it was and its result with the final contents. -/
theorem mem_end :
    iprop(bigSep Finset.univ (invS (F := F) m c 163) ∗ bigSep Finset.univ (invK m c 163) ∗ xRest m c)
      ⊢ iprop((xLoc c ↦[Finset.univ]{fullShare} m (xLoc c)) ∗ oLoc c ↦[Finset.univ]{fullShare} G m c) := by
  have e : iprop(bigSep Finset.univ (keepR (F := F) m c) ∗ bigSep Finset.univ fun ms : Msg => bigSep (outs ms) (srcR m c))
      = (oLoc c ↦[Finset.univ]{fullShare} G m c : sProp 𝕄) := by
    rw [out_split, ← bigSep_sep']
    exact bigSep_congr fun ms _ => (landing m c ms).symm
  rw [invS_end, invK_end, src_all, x_split, ← e]
  iintro ⟨⟨HX, HS⟩, HK, HR⟩
  isplitl [HX HR]
  · isplitl [HX]; · iexact HX
    iexact HR
  isplitl [HK]; · iexact HK
  iexact HS

end Cert.GatherIdealProof

end
-- ==== Proof.IGhost.lean ====
/-
The launch's set-up: every cell of every device gets an invariant, the tokens go to the devices that pay the duties, and
each device the credit of what it is owed.
-/
module

public import proofs.«01_k».proof.Proof.IInv

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores a device has -/

/-- The semaphores the kernel declares: all those of copies. -/
abbrev osem (k : Fin 105) : SemLoc sig := .dma k
/-- The kernel's own semaphores are the scoped ones of its scratch. -/
theorem ownSemFacts : Pipeline.OwnSemFacts cfg0.spec osem :=
  ⟨fun k => by revert k; decide +kernel, fun a b h => by injection h, fun k w => w.elim0⟩
/-- The semaphore no copy between devices uses. -/
abbrev locSem : DmaSem sig := (0 : Fin 105)

/-- A semaphore is a regular one or one of a copy. -/
def semEquiv : Sem sig ⊕ DmaSem sig ≃ SemLoc sig where
  toFun x := match x with | .inl s => .reg s | .inr s => .dma s
  invFun x := match x with | .reg s => .inl s | .dma s => .inr s
  left_inv x := by cases x <;> rfl
  right_inv x := by cases x <;> rfl

/-- The local semaphore is no message's. -/
theorem dec_loc : dec locSem = none := by decide +kernel
/-- Which semaphore of the table: the local one, a message's send one or its receive one. -/
def undec (q : DmaSem sig) : Unit ⊕ (Msg ⊕ Msg) := match dec q with
  | some (false, ms) => .inr (.inl ms)
  | some (true, ms) => .inr (.inr ms)
  | none => .inl ()
/-- The semaphore so named. -/
def toSem (x : Unit ⊕ (Msg ⊕ Msg)) : DmaSem sig := match x with
  | .inl _ => locSem
  | .inr (.inl ms) => sendSem ms
  | .inr (.inr ms) => recvSem ms
/-- Naming and then looking up gives the name. -/
theorem undec_toSem (x : Unit ⊕ (Msg ⊕ Msg)) : undec (toSem x) = x := by
  rcases x with _ | ms | ms
  · show undec locSem = _; unfold undec; rw [dec_loc]
  · show undec (sendSem ms) = _; unfold undec; rw [dec_send]
  · show undec (recvSem ms) = _; unfold undec; rw [dec_recv]
/-- Looking up and then naming gives the semaphore. -/
theorem toSem_undec (q : Fin 105) : toSem (undec q) = q := by revert q; decide +kernel
/-- A semaphore of a copy is the local one, a message's send one, or a message's receive one. -/
def dmaEquiv : Unit ⊕ (Msg ⊕ Msg) ≃ DmaSem sig := ⟨toSem, undec, undec_toSem, toSem_undec⟩

/-- A family over the semaphores is its barrier part and its copy part. -/
theorem sem_split (Φ : SemLoc sig → sProp 𝕄) :
    bigSep Finset.univ Φ = iprop(Φ (.reg barS) ∗ bigSep Finset.univ fun q : DmaSem sig => Φ (.dma q)) := by
  have : Subsingleton (Sem sig) := show Subsingleton (Fin 1) from inferInstance
  rw [bigSep_univ_equiv semEquiv, bigSep_univ_sum, bigSep_univ_of_subsingleton barS]; rfl
/-- A family over the copy semaphores: the local one, the send ones, the receive ones. -/
theorem dma_split (Φ : DmaSem sig → sProp 𝕄) :
    bigSep Finset.univ Φ = iprop(Φ locSem ∗ (bigSep Finset.univ fun ms : Msg => Φ (sendSem ms)) ∗ bigSep Finset.univ fun ms : Msg => Φ (recvSem ms)) := by
  rw [bigSep_univ_equiv dmaEquiv, bigSep_univ_sum, bigSep_univ_sum, bigSep_univ_of_subsingleton ()]; rfl
/-- Over all semaphores: the barrier one, the local one, the send ones and the receive ones. -/
theorem cell_split (Φ : SemLoc sig → sProp 𝕄) :
    bigSep Finset.univ Φ = iprop(Φ (.reg barS) ∗ Φ (.dma locSem) ∗ (bigSep Finset.univ fun ms : Msg => Φ (.dma (sendSem ms)))
      ∗ bigSep Finset.univ fun ms : Msg => Φ (.dma (recvSem ms))) := by
  rw [sem_split, dma_split]

/-- The one semaphore that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's counters at zero: its own semaphores' and the barrier's. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun sm : SemLoc sig => semVal (kcell (c, sm)) 0 : sProp 𝕄) := by
  rw [sem_split, unscopedSems0_eq]
  exact equiv_iff.mp ⟨BI.sep_comm, BI.sep_comm⟩

/-! ## What the launch deals -/

/-- Different semaphores of different devices are different cells. -/
theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg (fun g : GSem nD τ sig => g.2) h
  rw [h1, h2]
/-- All cells of all devices. -/
def allCells : Finset (GSem nD τ sig) := Finset.univ.map ⟨kcell, kcell_injective⟩

/-- A cell's token of its first round. -/
abbrev tokOf (kd : (Dev nD × SemLoc sig) × Fin 6) : GSem nD τ sig × ℕ × Fin 6 := (kcell kd.1, 0, kd.2)
/-- Different names are different tokens. -/
theorem tokOf_injective : Function.Injective (tokOf : (Dev nD × SemLoc sig) × Fin 6 → GSem nD τ sig × ℕ × Fin 6) := by
  rintro ⟨k, d⟩ ⟨k', d'⟩ h
  have h1 : k = k' := kcell_injective (congrArg (fun x : GSem nD τ sig × ℕ × Fin 6 => x.1) h)
  have h2 : d = d' := congrArg (fun x : GSem nD τ sig × ℕ × Fin 6 => x.2.2) h
  rw [h1, h2]
/-- All tokens of all cells. -/
def allToks : Finset (GSem nD τ sig × ℕ × Fin 6) := Finset.univ.map ⟨tokOf, tokOf_injective⟩

/-- The tokens of the duties paid to device `c`'s cells. -/
def toks (c : Dev nD) : sProp 𝕄 :=
  bigSep Finset.univ fun sm : SemLoc sig => bigSep Finset.univ fun d : Fin 6 => dutyTok ER (kcell (c, sm)) 0 d
/-- What device `c` is dealt: the state, the position and the tokens of each of its cells. -/
def dealt (c : Dev nD) : sProp 𝕄 :=
  iprop((bigSep Finset.univ fun sm : SemLoc sig => roundState ER (gRd m) (kcell (c, sm)) 0)
    ∗ (bigSep Finset.univ fun sm : SemLoc sig => iprop(atPos ER (kcell (c, sm)) 0 ∅ 0 ∗ reached ER (kcell (c, sm)) 0)) ∗ toks c)

/-- The schedule's starting account is dealt out to the devices. -/
theorem fund_gather : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun sm : SemLoc sig => Φ (kcell (c, sm)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (gRd m) allCells allToks) $$ HX with ⟨Hst, Hr, Hat, Htok⟩
  imodintro
  ihave Hst' := (Entails.of_eq (hX fun g => roundState ER (gRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- A device's counters and cell states become its cells' invariants. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun sm : SemLoc sig => iprop(∃ κ : ℕ, cellInv ER (gRd m) κ (kcell (c, sm))))
          ∗ (bigSep Finset.univ fun sm : SemLoc sig => iprop(atPos ER (kcell (c, sm)) 0 ∅ 0 ∗ reached ER (kcell (c, sm)) 0)) ∗ toks c) := by
  unfold dealt
  iintro ⟨Hos, Hus, Hst, Hat, Htok⟩
  ihave Hv := (Entails.of_eq (sems0_eq (F := F) c)) $$ [Hos Hus]
  · isplitl [Hos] <;> iassumption
  imod (show iprop((bigSep Finset.univ fun sm : SemLoc sig => semVal (kcell (c, sm)) 0) ∗ bigSep Finset.univ fun sm : SemLoc sig => roundState ER (gRd m) (kcell (c, sm)) 0)
      ⊢ (|={Set.univ}=> bigSep Finset.univ fun sm : SemLoc sig => iprop(∃ κ : ℕ, cellInv ER (gRd m) κ (kcell (c, sm))) : sProp 𝕄) from by
        rw [← bigSep_sep']
        exact (bigSep_mono fun sm _ => (Rounds.body_intro ER (gRd m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep Finset.univ fun j : Fin 6 => dutyTok ER (barCell (peer j c)) 0 j)
    ∗ (bigSep Finset.univ fun ms : Msg => dutyTok ER (sendCell c ms) 0 0)
    ∗ bigSep Finset.univ fun ms : Msg => dutyTok ER (recvCell (tgt c ms.1) ms) 0 0)
/-- What stays with device `c`: its positions, and the tokens of the duties it pays. -/
def linear (c : Dev nD) : sProp 𝕄 :=
  iprop((bigSep Finset.univ fun sm : SemLoc sig => atPos ER (kcell (c, sm)) 0 ∅ 0) ∗ payToks c)
/-- What device `c` starts with of the accounts: the records and what stays with it. -/
def ghost (c : Dev nD) : sProp 𝕄 := iprop(∃ K, records m K ∗ linear c)

/-- A family weakened member by member. -/
theorem fam_mono {I : Type} {s : Finset I} {Φ Ψ : I → sProp 𝕄} (h : ∀ i ∈ s, Φ i ⊢ Ψ i) : bigSep s Φ ⊢ bigSep s Ψ := bigSep_mono h

/-- Of a cell's tokens the first is taken. -/
theorem tok_zero (g : GSem nD τ sig) : (bigSep Finset.univ fun d : Fin 6 => (dutyTok ER g 0 d : sProp 𝕄)) ⊢ dutyTok ER g 0 0 :=
  bigSep_elim (Finset.mem_univ 0)
/-- Of a device's tokens those some device pays. -/
theorem toks_used (c : Dev nD) : (toks c : sProp 𝕄) ⊢ iprop((bigSep Finset.univ fun j : Fin 6 => dutyTok ER (barCell c) 0 j)
    ∗ (bigSep Finset.univ fun ms : Msg => dutyTok ER (sendCell c ms) 0 0) ∗ bigSep Finset.univ fun ms : Msg => dutyTok ER (recvCell c ms) 0 0) := by
  unfold toks
  rw [cell_split]
  iintro ⟨H1, -, H2, H3⟩
  isplitl [H1]; · iexact H1
  isplitl [H2]
  · iapply (fam_mono (s := Finset.univ) (Φ := fun ms : Msg => bigSep Finset.univ fun d : Fin 6 => (dutyTok ER (sendCell c ms) 0 d : sProp 𝕄))
      (Ψ := fun ms => dutyTok ER (sendCell c ms) 0 0) fun ms _ => tok_zero _)
    iexact H2
  · iapply (fam_mono (s := Finset.univ) (Φ := fun ms : Msg => bigSep Finset.univ fun d : Fin 6 => (dutyTok ER (recvCell c ms) 0 d : sProp 𝕄))
      (Ψ := fun ms => dutyTok ER (recvCell c ms) 0 0) fun ms _ => tok_zero _)
    iexact H3

/-- What is indexed by the owner of a cell is indexed as well by who pays it. -/
theorem bar_around (Φ : Dev nD → Fin 6 → sProp 𝕄) :
    (bigSep Finset.univ fun c : Dev nD => bigSep Finset.univ fun j : Fin 6 => Φ c j) = bigSep Finset.univ fun c : Dev nD => bigSep Finset.univ fun j : Fin 6 => Φ (peer j c) j := by
  rw [bigSep_univ_comm, bigSep_univ_comm (fun (c : Dev nD) (j : Fin 6) => Φ (peer j c) j)]
  exact bigSep_congr fun j _ => bigSep_univ_equiv (way j) fun c => Φ c j
/-- A family over the receivers is the family over the senders. -/
theorem recv_around (Φ : Dev nD → Msg → sProp 𝕄) :
    (bigSep Finset.univ fun c : Dev nD => bigSep Finset.univ fun ms : Msg => Φ c ms) = bigSep Finset.univ fun c : Dev nD => bigSep Finset.univ fun ms : Msg => Φ (tgt c ms.1) ms := by
  rw [bigSep_univ_comm, bigSep_univ_comm (fun (c : Dev nD) (ms : Msg) => Φ (tgt c ms.1) ms)]
  exact bigSep_congr fun ms _ => bigSep_univ_equiv (way (jT ms.1)) fun c => Φ c ms

/-- The tokens, dealt by the cell that is paid, are handed to the devices that pay. -/
theorem toks_around : (bigSep Finset.univ fun c : Dev nD => (toks c : sProp 𝕄)) ⊢ bigSep Finset.univ fun c : Dev nD => payToks c := by
  refine Entails.trans (fam_mono fun c _ => toks_used c) (Entails.of_eq ?_)
  unfold payToks
  rw [bigSep_sep', bigSep_sep', bigSep_sep', bigSep_sep', bar_around (fun c j => dutyTok ER (barCell c) 0 j), recv_around (fun c ms => dutyTok ER (recvCell c ms) 0 0)]

/-- A family changed member by member with a record that all may use. -/
theorem with_persistent {I : Type} [DecidableEq I] {S : Finset I} {R : sProp (MT nD τ sig Unit (Elt F) ℕ UU ℕ)} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and what stays with a device are what it starts with. -/
theorem ghost_intro (K : Dev nD × SemLoc sig → ℕ) (c : Dev nD) : iprop(records m K ∗ linear c) ⊢ ghost m c := by
  unfold ghost; iintro H; iexists K; iexact H

/-- The devices' shares, regrouped by what each needs. -/
theorem regroup :
    (bigSep Finset.univ fun c : Dev nD => iprop((bigSep Finset.univ fun sm : SemLoc sig => iprop(∃ κ : ℕ, cellInv ER (gRd m) κ (kcell (c, sm))))
          ∗ (bigSep Finset.univ fun sm : SemLoc sig => iprop(atPos ER (kcell (c, sm)) 0 ∅ 0 ∗ reached ER (kcell (c, sm)) 0)) ∗ toks c) : sProp 𝕄)
      ⊢ bigSep Finset.univ (ghost m) := by
  rw [bigSep_sep', bigSep_sep', ← bigSep_univ_prod (fun k : Dev nD × SemLoc sig => iprop(∃ κ : ℕ, cellInv ER (gRd m) κ (kcell k))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun k : Dev nD × SemLoc sig => (reached ER (kcell k) 0 : sProp 𝕄))]
  iintro ⟨HI, ⟨Hat, #HR⟩, Htok⟩
  ihave HK := (BI.bigSep_exists_pi Finset.univ (fun (k : Dev nD × SemLoc sig) (κ : ℕ) => (cellInv ER (gRd m) κ (kcell k) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply ((Entails.of_eq (bigSep_sep' Finset.univ (fun c : Dev nD => bigSep Finset.univ fun sm : SemLoc sig => (atPos ER (kcell (c, sm)) 0 ∅ 0 : sProp 𝕄)) payToks).symm).trans
      (bigSep_mono fun c _ => show _ ⊢ linear c from Entails.of_eq (by unfold linear; rfl)))
    isplitl [Hat]; · iexact Hat
    iexact Htk

/-- All that the devices are dealt becomes what each starts with. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghost m) :=
  ((bigSep_mono fun c _ => core_alloc m c).trans (bigSep_fupd _ _)).trans (BI.fupd_mono (regroup m))

/-! ## The credit at the launch -/

/-- Equal barrier cells are of one device. -/
theorem barCell_eq {a b : Dev nD} (h : barCell a = barCell b) : a = b := congrArg (fun g : GSem nD τ sig => g.1.1) h
/-- Equal receive cells are of one device and one message. -/
theorem recvCell_eq {a b : Dev nD} {ms ms' : Msg} (h : recvCell a ms = recvCell b ms') : a = b ∧ ms = ms' := by
  refine ⟨congrArg (fun g : GSem nD τ sig => g.1.1) h, ?_⟩
  have h2 : SemLoc.dma (recvSem ms) = SemLoc.dma (recvSem ms') := congrArg (fun g : GSem nD τ sig => g.2) h
  injection h2 with h3
  have h4 := congrArg dec h3
  rw [dec_recv, dec_recv] at h4
  exact congrArg Prod.snd (Option.some.inj h4)
/-- No barrier cell is a receive cell. -/
theorem bar_ne_recv (a b : Dev nD) (ms : Msg) : barCell a ≠ recvCell b ms := fun h => by
  have h2 := congrArg (fun g : GSem nD τ sig => g.2) h
  injection h2

/-- What device `d` owes device `c`'s barrier cell at the start, -/
theorem owed_bar (d c : Dev nD) : O d 0 (barCell c) () = ∑ j : Fin 6, if sigs d j = true ∧ c = peer j d then 1 else 0 := by
  unfold O
  rw [Pi.add_apply, Finsupp.add_apply, Finset.sum_apply, Finset.sum_apply, Finsupp.finset_sum_apply, Finsupp.finset_sum_apply,
    Finset.sum_eq_zero (s := (Finset.univ : Finset Msg)) fun ms _ => ?_, Nat.add_zero]
  · refine Finset.sum_congr rfl fun j _ => ?_
    by_cases h : sigs d j = true
    · rw [if_pos ⟨h, Nat.zero_le _⟩, tallyAt_apply]
      exact if_congr ⟨fun h' => ⟨h, barCell_eq h'.1⟩, fun h' => ⟨by rw [h'.2], rfl⟩⟩ rfl rfl
    · rw [if_neg fun h' => h h'.1, if_neg fun h' => h h'.1]; rfl
  · split
    · rw [tallyAt_apply, if_neg fun h' => bar_ne_recv _ _ _ h'.1]
    · rfl
/-- and its receive cell of a message. -/
theorem owed_recv (d c : Dev nD) (ms : Msg) : O d 0 (recvCell c ms) () = if act d ms.1 = true ∧ c = tgt d ms.1 then amt ms.1 else 0 := by
  unfold O
  rw [Pi.add_apply, Finsupp.add_apply, Finset.sum_apply, Finset.sum_apply, Finsupp.finset_sum_apply, Finsupp.finset_sum_apply,
    Finset.sum_eq_zero (s := (Finset.univ : Finset (Fin 6))) fun j _ => ?_, Nat.zero_add, Finset.sum_eq_single ms]
  · by_cases h : act d ms.1 = true
    · rw [if_pos ⟨h, Nat.zero_le _⟩, tallyAt_apply]
      exact if_congr ⟨fun h' => ⟨h, (recvCell_eq h'.1).1⟩, fun h' => ⟨by rw [← h'.2], rfl⟩⟩ rfl rfl
    · rw [if_neg fun h' => h h'.1, if_neg fun h' => h h'.1]; rfl
  · intro ms' _ hne
    split
    · rw [tallyAt_apply, if_neg fun h' => hne (recvCell_eq h'.1).2.symm]
    · rfl
  · intro h; exact absurd (Finset.mem_univ _) h
  · split
    · rw [tallyAt_apply, if_neg fun h' => bar_ne_recv _ _ _ h'.1.symm]
    · rfl

/-- A device's barrier cell is owed its signals, -/
theorem launch_bar (c : Dev nD) :
    tallyOn (barCell c) (launchCredit (Pipeline.owing fun d => O d 0) 0 (barCell c)) = (tallyAt (barCell c) () (nbar c) : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  unfold nbar
  rw [Finset.card_filter]
  refine Finset.sum_congr rfl fun j _ => ?_
  rw [Finset.sum_eq_single (peer (back j) c)]
  · rw [back_peer]; exact if_congr ⟨fun h => h.1, fun h => ⟨h, rfl⟩⟩ rfl rfl
  · intro d _ hne
    exact if_neg fun h => hne (by rw [h.2, peer_back])
  · intro h; exact absurd (Finset.mem_univ _) h
/-- and a receive cell its message's amount. -/
theorem launch_recv (c : Dev nD) (ms : Msg) (hr : rac c ms.1 = true) :
    tallyOn (recvCell c ms) (launchCredit (Pipeline.owing fun d => O d 0) 0 (recvCell c ms)) = (tallyAt (recvCell c ms) () (amt ms.1) : CellTallies nD τ sig Unit) := by
  unfold tallyAt; refine congrArg _ (Finsupp.ext fun u => ?_); cases u
  rw [Pipeline.launchCredit_owing, Finsupp.single_eq_same, Finset.sum_congr rfl fun d _ => owed_recv d c ms, Finset.sum_eq_single (snd c ms.1)]
  · rw [act_snd, tgt_snd]; exact if_pos ⟨hr, rfl⟩
  · intro d _ hne
    exact if_neg fun h => hne (by rw [h.2, snd_tgt])
  · intro h; exact absurd (Finset.mem_univ _) h

/-- The starting credit of a receive cell is the message's units, if it is received. -/
theorem cred_recv (c : Dev nD) (ms : Msg) :
    (cred (tallyOn (recvCell c ms) (launchCredit (Pipeline.owing fun d => O d 0) 0 (recvCell c ms))) : sProp 𝕄)
      ⊢ if rac c ms.1 = true then iprop(cred (tallyAt (recvCell c ms) () (amt ms.1))) else iprop(emp) := by
  by_cases h : rac c ms.1 = true
  · rw [if_pos h, launch_recv c ms h]
  · rw [if_neg h]; iintro -; iempintro

/-- The credit a device starts with. -/
theorem creds (c : Dev nD) :
    (Pipeline.launchCred (fun d => O d 0) c : sProp 𝕄) ⊢ iprop(cred (tallyAt (barCell c) () (nbar c))
      ∗ bigSep Finset.univ fun ms : Msg => if rac c ms.1 = true then iprop(cred (tallyAt (recvCell c ms) () (amt ms.1))) else iprop(emp)) := by
  unfold Pipeline.launchCred
  rw [cell_split, launch_bar]
  iintro ⟨H1, -, -, H2⟩
  isplitl [H1]; · iexact H1
  iapply (fam_mono (s := Finset.univ) fun ms _ => cred_recv (F := F) c ms)
  iexact H2

end Cert.GatherIdealProof

end
-- ==== Proof.ISteps.lean ====
/-
The operations of the program as it names them: the copies' sources and destinations as slices of the two arrays, and
the one theorem about contents: what a copy writes is what the receiver's result holds in the end.
-/
module

public import proofs.«01_k».proof.Proof.IInv

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The own block, as the program names it. -/
abbrev xM : Memref sig .tc .hbm S8192x1024 .f32 := Memref.whole main_arg0
/-- The result, as the program names it. -/
abbrev oM : Memref sig .tc .hbm S32768x1024 .f32 := Memref.whole main_v1
/-- `n` rows. -/
abbrev Sn (n : ℕ) : Shape := ⟨2, ![n, 1024]⟩

/-- The slice of the result at a row offset is a range of its rows. -/
theorem set_oM {n : ℕ} (off : Fin 2 → ℕ) (inb : ∀ a, off a + (Sn n).size a ≤ S32768x1024.size a) (r : ℕ) (h : off = ![r, 0]) :
    (oM.slice (Rect.unit (s := S32768x1024) off (Sn n).size inb) (fun _ => rfl)).view.set = rowsO r n := by
  subst h
  refine (View.set_slice_whole _ _).trans (Finset.ext fun i => ?_)
  refine (Rect.mem_set_unit (s := S32768x1024)).trans (Iff.trans ?_ mem_rowsO.symm)
  refine Fin.forall_fin_two.trans ⟨fun h => h.1, fun h => ⟨h, Nat.zero_le _, ?_⟩⟩
  show (i 1).val < 0 + 1024
  rw [Nat.zero_add]; exact (i 1).isLt
/-- The slice of the own block at a row offset is a range of its rows. -/
theorem set_xM {n : ℕ} (off : Fin 2 → ℕ) (inb : ∀ a, off a + (Sn n).size a ≤ S8192x1024.size a) (r : ℕ) (h : off = ![r, 0]) :
    (xM.slice (Rect.unit (s := S8192x1024) off (Sn n).size inb) (fun _ => rfl)).view.set = rowsX r n := by
  subst h
  refine (View.set_slice_whole _ _).trans (Finset.ext fun i => ?_)
  refine (Rect.mem_set_unit (s := S8192x1024)).trans (Iff.trans ?_ mem_rowsX.symm)
  refine Fin.forall_fin_two.trans ⟨fun h => h.1, fun h => ⟨h, Nat.zero_le _, ?_⟩⟩
  show (i 1).val < 0 + 1024
  rw [Nat.zero_add]; exact (i 1).isLt

/-- The final contents at a row of a landed block, by the row the block starts at. -/
theorem G_at (p : Dev nD) (ms : Msg) (hr : rac p ms.1 = true) (i : S32768x1024.Idx) (j : S8192x1024.Idx) (x : ℕ) (hx : x < len ms.1)
    (h0 : (i (0 : Fin 2)).val = landRow p ms + x) (hj0 : (j (0 : Fin 2)).val = landRow p ms % 8192 + x) (hj1 : (j (1 : Fin 2)).val = (i (1 : Fin 2)).val) :
    G m p i = m (xLoc (origin p (landRow p ms / 4096))) j := by
  obtain ⟨f1, f2⟩ := land_fits p ms hr
  unfold G
  have e1 : (i (0 : Fin 2)).val / 4096 = landRow p ms / 4096 := by rw [h0]; omega
  have e2 : ixX ((i (0 : Fin 2)).val % 8192) (i (1 : Fin 2)).val (Nat.mod_lt _ (by decide)) (i (1 : Fin 2)).isLt = j := by
    funext a
    apply Fin.ext
    match a with
    | ⟨0, _⟩ => show (i (0 : Fin 2)).val % 8192 = _; rw [h0]; refine Eq.trans ?_ hj0.symm; omega
    | ⟨1, _⟩ => exact hj1.symm
  rw [e2, e1]

variable (K : Dev nD × SemLoc sig → ℕ) (c : Dev nD) (Z : sProp (MT nD τ sig Unit (Elt F) ℕ UU ℕ))

/-- A message sent into rows of the result: what it reads is what the receiver's result holds there. -/
theorem send_out {n : ℕ} (ms : Msg) (ha : act c ms.1 = true) (hn : len ms.1 = n) (p : Dev nD) (hp : p = tgt c ms.1)
    (off : Fin 2 → ℕ) (inb : ∀ a, off a + (Sn n).size a ≤ S32768x1024.size a) (hoff : off = ![landRow (tgt c ms.1) ms, 0])
    {src : Memref sig .tc .hbm (Sn n) .f32} {sS sR : SemLoc sig} (hS : sS = .dma (sendSem ms)) (hR : sR = .dma (recvSem ms))
    {hsc : (oM.slice (Rect.unit (s := S32768x1024) off (Sn n).size inb) (fun _ => rfl)).view.ref.isScScratch = false}
    {hsrc : src.view.WordExact} {hdst : (oM.slice (Rect.unit (s := S32768x1024) off (Sn n).size inb) (fun _ => rfl)).view.WordExact}
    {hsem : DmaTarget.Typed .hbm sR (.remote (Dev.tc p : Thread nD τ) (oM.slice (Rect.unit (s := S32768x1024) off (Sn n).size inb) (fun _ => rfl)) sS hsc)}
    (q : PosShare TreeShare) (fs : Buf (Elt F) (src.view.loc (c : Thread nD τ)))
    (hs : srcPts m c ms = (src.view.loc (c : Thread nD τ) ↦[src.view.set]{q} fs))
    (hv : ∀ x : (Sn n).Idx, src.view.read (Elt F) fs x = G m (tgt c ms.1) ((oM.slice (Rect.unit (s := S32768x1024) off (Sn n).size inb) (fun _ => rfl)).view.emb x))
    (hN : (oM.slice (Rect.unit (s := S32768x1024) off (Sn n).size inb) (fun _ => rfl)).view.amount sR = amt ms.1) :
    Inv m K c Z (iSend ms) ⊢ WP c (Prog.lift (.enqueueDma src (.remote (Dev.tc p : Thread nD τ)
      (oM.slice (Rect.unit (s := S32768x1024) off (Sn n).size inb) (fun _ => rfl)) sS hsc) sR hsrc hdst hsem)) fun _ => Inv m K c Z (iSend ms + 1) := by
  subst hp
  refine send_act m K c Z ms ha _ rfl hS hR q fs hs (fun f => ?_) hN
  have he : rowsO (landRow (tgt c ms.1) ms) (len ms.1) = (oM.slice (Rect.unit (s := S32768x1024) off (Sn n).size inb) (fun _ => rfl)).view.set := by
    rw [hn]; exact (set_oM off inb _ hoff).symm
  unfold landPts
  rw [he]
  iintro H
  iexists f
  isplitl [H]; · iexact H
  ipureintro
  refine Entails.of_eq (pointsTo_congr fun i hi => ?_)
  obtain ⟨x, -, rfl⟩ := Finset.mem_map.mp hi
  refine (View.write_emb_of_mem (h := Finset.mem_univ x) ..).trans ?_
  exact hv x

/-- A message sent out of the device's own block. -/
theorem send_dir {n : ℕ} (ms : Msg) (hx : isX ms.1 = true) (ha : act c ms.1 = true) (hn : len ms.1 = n) (p : Dev nD) (hp : p = tgt c ms.1)
    (off : Fin 2 → ℕ) (inb : ∀ a, off a + (Sn n).size a ≤ S32768x1024.size a) (hoff : off = ![landRow (tgt c ms.1) ms, 0])
    (off' : Fin 2 → ℕ) (inb' : ∀ a, off' a + (Sn n).size a ≤ S8192x1024.size a) (hoff' : off' = ![srcRow c ms, 0])
    {sS sR : SemLoc sig} (hS : sS = .dma (sendSem ms)) (hR : sR = .dma (recvSem ms))
    {hsc : (oM.slice (Rect.unit (s := S32768x1024) off (Sn n).size inb) (fun _ => rfl)).view.ref.isScScratch = false}
    {hsrc : (xM.slice (Rect.unit (s := S8192x1024) off' (Sn n).size inb') (fun _ => rfl)).view.WordExact}
    {hdst : (oM.slice (Rect.unit (s := S32768x1024) off (Sn n).size inb) (fun _ => rfl)).view.WordExact}
    {hsem : DmaTarget.Typed .hbm sR (.remote (Dev.tc p : Thread nD τ) (oM.slice (Rect.unit (s := S32768x1024) off (Sn n).size inb) (fun _ => rfl)) sS hsc)}
    (hN : (oM.slice (Rect.unit (s := S32768x1024) off (Sn n).size inb) (fun _ => rfl)).view.amount sR = amt ms.1) :
    Inv m K c Z (iSend ms) ⊢ WP c (Prog.lift (.enqueueDma (xM.slice (Rect.unit (s := S8192x1024) off' (Sn n).size inb') (fun _ => rfl)) (.remote (Dev.tc p : Thread nD τ)
      (oM.slice (Rect.unit (s := S32768x1024) off (Sn n).size inb) (fun _ => rfl)) sS hsc) sR hsrc hdst hsem)) fun _ => Inv m K c Z (iSend ms + 1) := by
  refine send_out m K c Z ms ha hn p hp off inb hoff hS hR (qs ms.1) (m (xLoc c)) ?_ (fun x => ?_) hN
  · unfold srcPts
    have he : rowsX (srcRow c ms) (len ms.1) = (xM.slice (Rect.unit (s := S8192x1024) off' (Sn n).size inb') (fun _ => rfl)).view.set := by
      rw [hn]; exact (set_xM off' inb' _ hoff').symm
    rw [if_pos hx, he]
  · subst hoff hoff'
    obtain ⟨o1, o2⟩ := origin_direct c ms ha hx
    refine Eq.trans ?_ (G_at m (tgt c ms.1) ms (by rw [rac_tgt]; exact ha) _
      ((xM.slice (Rect.unit (s := S8192x1024) ![srcRow c ms, 0] (Sn n).size inb') (fun _ => rfl)).view.emb x) (x (0 : Fin 2)).val (by rw [hn]; exact (x (0 : Fin 2)).isLt) ?_ ?_ ?_).symm
    · rw [o1]; rfl
    · show landRow (tgt c ms.1) ms + 1 * (x (0 : Fin 2)).val = _; rw [Nat.one_mul]
    · rw [o2]; show srcRow c ms + 1 * (x (0 : Fin 2)).val = _; rw [Nat.one_mul]
    · rfl

/-- A message handed on out of the rows it landed in. -/
theorem send_fwd {n : ℕ} (ms : Msg) (hx : isX ms.1 = false) (ha : act c ms.1 = true) (hn : len ms.1 = n) (p : Dev nD) (hp : p = tgt c ms.1)
    (off : Fin 2 → ℕ) (inb : ∀ a, off a + (Sn n).size a ≤ S32768x1024.size a) (hoff : off = ![landRow (tgt c ms.1) ms, 0])
    (off' : Fin 2 → ℕ) (inb' : ∀ a, off' a + (Sn n).size a ≤ S32768x1024.size a) (hoff' : off' = ![landRow (tgt c ms.1) ms, 0])
    {sS sR : SemLoc sig} (hS : sS = .dma (sendSem ms)) (hR : sR = .dma (recvSem ms))
    {hsc : (oM.slice (Rect.unit (s := S32768x1024) off (Sn n).size inb) (fun _ => rfl)).view.ref.isScScratch = false}
    {hsrc : (oM.slice (Rect.unit (s := S32768x1024) off' (Sn n).size inb') (fun _ => rfl)).view.WordExact}
    {hdst : (oM.slice (Rect.unit (s := S32768x1024) off (Sn n).size inb) (fun _ => rfl)).view.WordExact}
    {hsem : DmaTarget.Typed .hbm sR (.remote (Dev.tc p : Thread nD τ) (oM.slice (Rect.unit (s := S32768x1024) off (Sn n).size inb) (fun _ => rfl)) sS hsc)}
    (hN : (oM.slice (Rect.unit (s := S32768x1024) off (Sn n).size inb) (fun _ => rfl)).view.amount sR = amt ms.1) :
    Inv m K c Z (iSend ms) ⊢ WP c (Prog.lift (.enqueueDma (oM.slice (Rect.unit (s := S32768x1024) off' (Sn n).size inb') (fun _ => rfl)) (.remote (Dev.tc p : Thread nD τ)
      (oM.slice (Rect.unit (s := S32768x1024) off (Sn n).size inb) (fun _ => rfl)) sS hsc) sR hsrc hdst hsem)) fun _ => Inv m K c Z (iSend ms + 1) := by
  have h12 : ms.1 ≠ 12 := fun h => by rw [h] at hx; exact absurd hx (by decide)
  have hrow : srcRow c ms = landRow (tgt c ms.1) ms := by unfold srcRow; rw [if_neg h12, if_neg (by rw [hx]; decide)]
  refine send_out m K c Z ms ha hn p hp off inb hoff hS hR (qs ms.1) (G m c) ?_ (fun x => ?_) hN
  · unfold srcPts
    have he : rowsO (srcRow c ms) (len ms.1) = (oM.slice (Rect.unit (s := S32768x1024) off' (Sn n).size inb') (fun _ => rfl)).view.set := by
      rw [hn, hrow]; exact (set_oM off' inb' _ hoff').symm
    rw [if_neg (by rw [hx]; decide), he]
  · subst hoff hoff'
    obtain ⟨f1, f2⟩ := land_fits (tgt c ms.1) ms (by rw [rac_tgt]; exact ha)
    have hx0 : (x (0 : Fin 2)).val < len ms.1 := by rw [hn]; exact (x (0 : Fin 2)).isLt
    show G m c ((oM.slice (Rect.unit (s := S32768x1024) ![landRow (tgt c ms.1) ms, 0] (Sn n).size inb) (fun _ => rfl)).view.emb x) = _
    unfold G
    have e0 : (((oM.slice (Rect.unit (s := S32768x1024) ![landRow (tgt c ms.1) ms, 0] (Sn n).size inb) (fun _ => rfl)).view.emb x : S32768x1024.Idx) (0 : Fin 2)).val / 4096
        = landRow (tgt c ms.1) ms / 4096 := by
      show (landRow (tgt c ms.1) ms + 1 * (x (0 : Fin 2)).val) / 4096 = _
      omega
    rw [e0, origin_forward c ms ha hx]

/-! ## The amounts -/

/-- A slice of 1024 rows of the result has the units of 1024 rows. -/
theorem credO1024 (off : Fin 2 → ℕ) (inb : ∀ a, off a + (Sn 1024).size a ≤ S32768x1024.size a) :
    (oM.slice (Rect.unit (s := S32768x1024) off (Sn 1024).size inb) (fun _ => rfl)).view.dmaCredit = N1 := rfl
/-- A slice of 1024 rows of the result has the units of a message along z or y. -/
theorem creditO1024 (off : Fin 2 → ℕ) (inb : ∀ a, off a + (Sn 1024).size a ≤ S32768x1024.size a) (ms : Msg) (h : ms.1 ≠ 12) :
    (oM.slice (Rect.unit (s := S32768x1024) off (Sn 1024).size inb) (fun _ => rfl)).view.dmaCredit = amt ms.1 := by
  unfold amt; rw [if_neg h]; exact credO1024 off inb
/-- A copy to 1024 rows of the result credits the units of its message. -/
theorem amountO1024 (off : Fin 2 → ℕ) (inb : ∀ a, off a + (Sn 1024).size a ≤ S32768x1024.size a) (q : DmaSem sig) (ms : Msg) (h : ms.1 ≠ 12) :
    (oM.slice (Rect.unit (s := S32768x1024) off (Sn 1024).size inb) (fun _ => rfl)).view.amount (.dma q) = amt ms.1 := creditO1024 off inb ms h
/-- A slice of 2048 rows of the result has the units of 2048 rows. -/
theorem credO2048 (off : Fin 2 → ℕ) (inb : ∀ a, off a + (Sn 2048).size a ≤ S32768x1024.size a) :
    (oM.slice (Rect.unit (s := S32768x1024) off (Sn 2048).size inb) (fun _ => rfl)).view.dmaCredit = N2 := rfl
/-- A slice of 2048 rows of the result has the units of a message along x. -/
theorem creditO2048 (off : Fin 2 → ℕ) (inb : ∀ a, off a + (Sn 2048).size a ≤ S32768x1024.size a) (ms : Msg) (h : ms.1 = 12) :
    (oM.slice (Rect.unit (s := S32768x1024) off (Sn 2048).size inb) (fun _ => rfl)).view.dmaCredit = amt ms.1 := by
  unfold amt; rw [if_pos h]; exact credO2048 off inb
/-- A copy to 2048 rows of the result credits the units of its message. -/
theorem amountO2048 (off : Fin 2 → ℕ) (inb : ∀ a, off a + (Sn 2048).size a ≤ S32768x1024.size a) (q : DmaSem sig) (ms : Msg) (h : ms.1 = 12) :
    (oM.slice (Rect.unit (s := S32768x1024) off (Sn 2048).size inb) (fun _ => rfl)).view.amount (.dma q) = amt ms.1 := creditO2048 off inb ms h
/-- A slice of 1024 rows of the own block has the units of 1024 rows. -/
theorem credX1024 (off : Fin 2 → ℕ) (inb : ∀ a, off a + (Sn 1024).size a ≤ S8192x1024.size a) :
    (xM.slice (Rect.unit (s := S8192x1024) off (Sn 1024).size inb) (fun _ => rfl)).view.dmaCredit = N1 := rfl
/-- A slice of 1024 rows of the own block has the units of a message along z. -/
theorem creditX1024 (off : Fin 2 → ℕ) (inb : ∀ a, off a + (Sn 1024).size a ≤ S8192x1024.size a) (ms : Msg) (h : ms.1 ≠ 12) :
    (xM.slice (Rect.unit (s := S8192x1024) off (Sn 1024).size inb) (fun _ => rfl)).view.dmaCredit = amt ms.1 := by
  unfold amt; rw [if_neg h]; exact credX1024 off inb
/-- A slice of 2048 rows of the own block has the units of 2048 rows. -/
theorem credX2048 (off : Fin 2 → ℕ) (inb : ∀ a, off a + (Sn 2048).size a ≤ S8192x1024.size a) :
    (xM.slice (Rect.unit (s := S8192x1024) off (Sn 2048).size inb) (fun _ => rfl)).view.dmaCredit = N2 := rfl
/-- A slice of 2048 rows of the own block has the units of a message along x. -/
theorem creditX2048 (off : Fin 2 → ℕ) (inb : ∀ a, off a + (Sn 2048).size a ≤ S8192x1024.size a) (ms : Msg) (h : ms.1 = 12) :
    (xM.slice (Rect.unit (s := S8192x1024) off (Sn 2048).size inb) (fun _ => rfl)).view.dmaCredit = amt ms.1 := by
  unfold amt; rw [if_pos h]; exact credX2048 off inb

end Cert.GatherIdealProof

end
-- ==== Proof.IFacts.lean ====
/-
Every printed condition, device, offset and amount of the program at operation `n`, on every device of the mesh: where
the condition holds, the message is one the device sends or receives, and the printed device and rows are its.
-/
module

public import proofs.«01_k».proof.Proof.ISteps

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Operation 0: the device signals way 0, at the printed device. -/
theorem on_0 : ∀ c : Dev nD, sigs c 0 = true ∧ k0_dev1 c = (peer 0 c).val := by decide +kernel
/-- Operation 1: the device signals way 1, at the printed device. -/
theorem on_1 : ∀ c : Dev nD, sigs c 1 = true ∧ k0_dev2 c = (peer 1 c).val := by decide +kernel
/-- Operation 2: the device signals way 2, at the printed device. -/
theorem on_2 : ∀ c : Dev nD, k0_cond1 c = 1#1 → sigs c 2 = true ∧ k0_dev3 c = (peer 2 c).val := by decide +kernel
/-- Operation 2: otherwise it does not signal way 2. -/
theorem off_2 : ∀ c : Dev nD, ¬k0_cond1 c = 1#1 → sigs c 2 = false := by decide +kernel
/-- Operation 3: the device signals way 3, at the printed device. -/
theorem on_3 : ∀ c : Dev nD, k0_cond2 c = 1#1 → sigs c 3 = true ∧ k0_dev4 c = (peer 3 c).val := by decide +kernel
/-- Operation 3: otherwise it does not signal way 3. -/
theorem off_3 : ∀ c : Dev nD, ¬k0_cond2 c = 1#1 → sigs c 3 = false := by decide +kernel
/-- Operation 4: the device signals way 4, at the printed device. -/
theorem on_4 : ∀ c : Dev nD, k0_cond3 c = 1#1 → sigs c 4 = true ∧ k0_dev5 c = (peer 4 c).val := by decide +kernel
/-- Operation 4: otherwise it does not signal way 4. -/
theorem off_4 : ∀ c : Dev nD, ¬k0_cond3 c = 1#1 → sigs c 4 = false := by decide +kernel
/-- Operation 5: the device signals way 5, at the printed device. -/
theorem on_5 : ∀ c : Dev nD, k0_cond4 c = 1#1 → sigs c 5 = true ∧ k0_dev6 c = (peer 5 c).val := by decide +kernel
/-- Operation 5: otherwise it does not signal way 5. -/
theorem off_5 : ∀ c : Dev nD, ¬k0_cond4 c = 1#1 → sigs c 5 = false := by decide +kernel
/-- Operation 6: the barrier waits for one unit from each neighbour that signals. -/
theorem on_6 : ∀ c : Dev nD, (k0_amt1 c).toInt = (nbar c : ℤ) := by decide +kernel
/-- Operation 7: the device sends stream 12, block 0, as printed. -/
theorem on_7 : ∀ c : Dev nD, act c 12 = true ∧ k0_dev7 c = (tgt c 12).val ∧ k0_off1 c 0#32 = ![landRow (tgt c 12) (12, 0), 0] ∧ ![0, 0] = ![srcRow c (12, 0), 0] := by decide +kernel
/-- Operation 8: the device sends stream 12, block 1, as printed. -/
theorem on_8 : ∀ c : Dev nD, act c 12 = true ∧ k0_dev8 c = (tgt c 12).val ∧ k0_off1 c 2048#32 = ![landRow (tgt c 12) (12, 1), 0] ∧ ![2048, 0] = ![srcRow c (12, 1), 0] := by decide +kernel
/-- Operation 9: the device sends stream 12, block 2, as printed. -/
theorem on_9 : ∀ c : Dev nD, act c 12 = true ∧ k0_dev9 c = (tgt c 12).val ∧ k0_off1 c 4096#32 = ![landRow (tgt c 12) (12, 2), 0] ∧ ![4096, 0] = ![srcRow c (12, 2), 0] := by decide +kernel
/-- Operation 10: the device sends stream 12, block 3, as printed. -/
theorem on_10 : ∀ c : Dev nD, act c 12 = true ∧ k0_dev10 c = (tgt c 12).val ∧ k0_off1 c 6144#32 = ![landRow (tgt c 12) (12, 3), 0] ∧ ![6144, 0] = ![srcRow c (12, 3), 0] := by decide +kernel
/-- Operation 11: the device sends stream 1, block 0, as printed. -/
theorem on_11 : ∀ c : Dev nD, k0_cond5 c = 1#1 → act c 1 = true ∧ k0_dev11 c = (tgt c 1).val ∧ k0_off2 c = ![landRow (tgt c 1) (1, 0), 0] ∧ k0_off3 c = ![srcRow c (1, 0), 0] := by decide +kernel
/-- Operation 11: otherwise it does not send stream 1. -/
theorem off_11 : ∀ c : Dev nD, ¬k0_cond5 c = 1#1 → act c 1 = false := by decide +kernel
/-- Operation 12: the device sends stream 1, block 1, as printed. -/
theorem on_12 : ∀ c : Dev nD, k0_cond6 c = 1#1 → act c 1 = true ∧ k0_dev12 c = (tgt c 1).val ∧ k0_off4 c = ![landRow (tgt c 1) (1, 1), 0] ∧ k0_off5 c = ![srcRow c (1, 1), 0] := by decide +kernel
/-- Operation 12: otherwise it does not send stream 1. -/
theorem off_12 : ∀ c : Dev nD, ¬k0_cond6 c = 1#1 → act c 1 = false := by decide +kernel
/-- Operation 13: the device sends stream 1, block 2, as printed. -/
theorem on_13 : ∀ c : Dev nD, k0_cond7 c = 1#1 → act c 1 = true ∧ k0_dev13 c = (tgt c 1).val ∧ k0_off6 c = ![landRow (tgt c 1) (1, 2), 0] ∧ k0_off7 c = ![srcRow c (1, 2), 0] := by decide +kernel
/-- Operation 13: otherwise it does not send stream 1. -/
theorem off_13 : ∀ c : Dev nD, ¬k0_cond7 c = 1#1 → act c 1 = false := by decide +kernel
/-- Operation 14: the device sends stream 1, block 3, as printed. -/
theorem on_14 : ∀ c : Dev nD, k0_cond8 c = 1#1 → act c 1 = true ∧ k0_dev14 c = (tgt c 1).val ∧ k0_off8 c = ![landRow (tgt c 1) (1, 3), 0] ∧ k0_off9 c = ![srcRow c (1, 3), 0] := by decide +kernel
/-- Operation 14: otherwise it does not send stream 1. -/
theorem off_14 : ∀ c : Dev nD, ¬k0_cond8 c = 1#1 → act c 1 = false := by decide +kernel
/-- Operation 15: the device sends stream 3, block 0, as printed. -/
theorem on_15 : ∀ c : Dev nD, k0_cond9 c = 1#1 → act c 3 = true ∧ k0_dev15 c = (tgt c 3).val ∧ k0_off10 c = ![landRow (tgt c 3) (3, 0), 0] ∧ k0_off11 c = ![srcRow c (3, 0), 0] := by decide +kernel
/-- Operation 15: otherwise it does not send stream 3. -/
theorem off_15 : ∀ c : Dev nD, ¬k0_cond9 c = 1#1 → act c 3 = false := by decide +kernel
/-- Operation 16: the device sends stream 3, block 1, as printed. -/
theorem on_16 : ∀ c : Dev nD, k0_cond10 c = 1#1 → act c 3 = true ∧ k0_dev16 c = (tgt c 3).val ∧ k0_off12 c = ![landRow (tgt c 3) (3, 1), 0] ∧ k0_off13 c = ![srcRow c (3, 1), 0] := by decide +kernel
/-- Operation 16: otherwise it does not send stream 3. -/
theorem off_16 : ∀ c : Dev nD, ¬k0_cond10 c = 1#1 → act c 3 = false := by decide +kernel
/-- Operation 17: the device sends stream 3, block 2, as printed. -/
theorem on_17 : ∀ c : Dev nD, k0_cond11 c = 1#1 → act c 3 = true ∧ k0_dev17 c = (tgt c 3).val ∧ k0_off14 c = ![landRow (tgt c 3) (3, 2), 0] ∧ k0_off15 c = ![srcRow c (3, 2), 0] := by decide +kernel
/-- Operation 17: otherwise it does not send stream 3. -/
theorem off_17 : ∀ c : Dev nD, ¬k0_cond11 c = 1#1 → act c 3 = false := by decide +kernel
/-- Operation 18: the device sends stream 3, block 3, as printed. -/
theorem on_18 : ∀ c : Dev nD, k0_cond12 c = 1#1 → act c 3 = true ∧ k0_dev18 c = (tgt c 3).val ∧ k0_off16 c = ![landRow (tgt c 3) (3, 3), 0] ∧ k0_off17 c = ![srcRow c (3, 3), 0] := by decide +kernel
/-- Operation 18: otherwise it does not send stream 3. -/
theorem off_18 : ∀ c : Dev nD, ¬k0_cond12 c = 1#1 → act c 3 = false := by decide +kernel
/-- Operation 19: the device sends stream 0, block 0, as printed. -/
theorem on_19 : ∀ c : Dev nD, k0_cond13 c = 1#1 → act c 0 = true ∧ k0_dev19 c = (tgt c 0).val ∧ k0_off18 c = ![landRow (tgt c 0) (0, 0), 0] ∧ k0_off19 c = ![srcRow c (0, 0), 0] := by decide +kernel
/-- Operation 19: otherwise it does not send stream 0. -/
theorem off_19 : ∀ c : Dev nD, ¬k0_cond13 c = 1#1 → act c 0 = false := by decide +kernel
/-- Operation 20: the device sends stream 0, block 1, as printed. -/
theorem on_20 : ∀ c : Dev nD, k0_cond14 c = 1#1 → act c 0 = true ∧ k0_dev20 c = (tgt c 0).val ∧ k0_off20 c = ![landRow (tgt c 0) (0, 1), 0] ∧ k0_off21 c = ![srcRow c (0, 1), 0] := by decide +kernel
/-- Operation 20: otherwise it does not send stream 0. -/
theorem off_20 : ∀ c : Dev nD, ¬k0_cond14 c = 1#1 → act c 0 = false := by decide +kernel
/-- Operation 21: the device sends stream 0, block 2, as printed. -/
theorem on_21 : ∀ c : Dev nD, k0_cond15 c = 1#1 → act c 0 = true ∧ k0_dev21 c = (tgt c 0).val ∧ k0_off22 c = ![landRow (tgt c 0) (0, 2), 0] ∧ k0_off23 c = ![srcRow c (0, 2), 0] := by decide +kernel
/-- Operation 21: otherwise it does not send stream 0. -/
theorem off_21 : ∀ c : Dev nD, ¬k0_cond15 c = 1#1 → act c 0 = false := by decide +kernel
/-- Operation 22: the device sends stream 0, block 3, as printed. -/
theorem on_22 : ∀ c : Dev nD, k0_cond16 c = 1#1 → act c 0 = true ∧ k0_dev22 c = (tgt c 0).val ∧ k0_off24 c = ![landRow (tgt c 0) (0, 3), 0] ∧ k0_off25 c = ![srcRow c (0, 3), 0] := by decide +kernel
/-- Operation 22: otherwise it does not send stream 0. -/
theorem off_22 : ∀ c : Dev nD, ¬k0_cond16 c = 1#1 → act c 0 = false := by decide +kernel
/-- Operation 23: the device sends stream 2, block 0, as printed. -/
theorem on_23 : ∀ c : Dev nD, k0_cond17 c = 1#1 → act c 2 = true ∧ k0_dev23 c = (tgt c 2).val ∧ k0_off26 c = ![landRow (tgt c 2) (2, 0), 0] ∧ k0_off27 c = ![srcRow c (2, 0), 0] := by decide +kernel
/-- Operation 23: otherwise it does not send stream 2. -/
theorem off_23 : ∀ c : Dev nD, ¬k0_cond17 c = 1#1 → act c 2 = false := by decide +kernel
/-- Operation 24: the device sends stream 2, block 1, as printed. -/
theorem on_24 : ∀ c : Dev nD, k0_cond18 c = 1#1 → act c 2 = true ∧ k0_dev24 c = (tgt c 2).val ∧ k0_off28 c = ![landRow (tgt c 2) (2, 1), 0] ∧ k0_off29 c = ![srcRow c (2, 1), 0] := by decide +kernel
/-- Operation 24: otherwise it does not send stream 2. -/
theorem off_24 : ∀ c : Dev nD, ¬k0_cond18 c = 1#1 → act c 2 = false := by decide +kernel
/-- Operation 25: the device sends stream 2, block 2, as printed. -/
theorem on_25 : ∀ c : Dev nD, k0_cond19 c = 1#1 → act c 2 = true ∧ k0_dev25 c = (tgt c 2).val ∧ k0_off30 c = ![landRow (tgt c 2) (2, 2), 0] ∧ k0_off31 c = ![srcRow c (2, 2), 0] := by decide +kernel
/-- Operation 25: otherwise it does not send stream 2. -/
theorem off_25 : ∀ c : Dev nD, ¬k0_cond19 c = 1#1 → act c 2 = false := by decide +kernel
/-- Operation 26: the device sends stream 2, block 3, as printed. -/
theorem on_26 : ∀ c : Dev nD, k0_cond20 c = 1#1 → act c 2 = true ∧ k0_dev26 c = (tgt c 2).val ∧ k0_off32 c = ![landRow (tgt c 2) (2, 3), 0] ∧ k0_off33 c = ![srcRow c (2, 3), 0] := by decide +kernel
/-- Operation 26: otherwise it does not send stream 2. -/
theorem off_26 : ∀ c : Dev nD, ¬k0_cond20 c = 1#1 → act c 2 = false := by decide +kernel
/-- Operation 27: the device receives stream 1. -/
theorem on_27 : ∀ c : Dev nD, k0_cond21 c = 1#1 → rac c 1 = true := by decide +kernel
/-- Operation 27: otherwise it does not receive stream 1. -/
theorem off_27 : ∀ c : Dev nD, ¬k0_cond21 c = 1#1 → rac c 1 = false := by decide +kernel
/-- Operation 28: the device sends stream 4, block 0, as printed. -/
theorem on_28 : ∀ c : Dev nD, k0_cond22 c = 1#1 → act c 4 = true ∧ k0_dev27 c = (tgt c 4).val ∧ k0_off35 c = ![landRow (tgt c 4) (4, 0), 0] := by decide +kernel
/-- Operation 28: otherwise it does not send stream 4. -/
theorem off_28 : ∀ c : Dev nD, ¬k0_cond22 c = 1#1 → act c 4 = false := by decide +kernel
/-- Operation 29: the device sends stream 7, block 0, as printed. -/
theorem on_29 : ∀ c : Dev nD, k0_cond23 c = 1#1 → act c 7 = true ∧ k0_dev28 c = (tgt c 7).val ∧ k0_off36 c = ![landRow (tgt c 7) (7, 0), 0] := by decide +kernel
/-- Operation 29: otherwise it does not send stream 7. -/
theorem off_29 : ∀ c : Dev nD, ¬k0_cond23 c = 1#1 → act c 7 = false := by decide +kernel
/-- Operation 30: the device receives stream 3. -/
theorem on_30 : ∀ c : Dev nD, k0_cond24 c = 1#1 → rac c 3 = true := by decide +kernel
/-- Operation 30: otherwise it does not receive stream 3. -/
theorem off_30 : ∀ c : Dev nD, ¬k0_cond24 c = 1#1 → rac c 3 = false := by decide +kernel
/-- Operation 31: the device sends stream 5, block 0, as printed. -/
theorem on_31 : ∀ c : Dev nD, k0_cond25 c = 1#1 → act c 5 = true ∧ k0_dev29 c = (tgt c 5).val ∧ k0_off38 c = ![landRow (tgt c 5) (5, 0), 0] := by decide +kernel
/-- Operation 31: otherwise it does not send stream 5. -/
theorem off_31 : ∀ c : Dev nD, ¬k0_cond25 c = 1#1 → act c 5 = false := by decide +kernel
/-- Operation 32: the device sends stream 9, block 0, as printed. -/
theorem on_32 : ∀ c : Dev nD, k0_cond26 c = 1#1 → act c 9 = true ∧ k0_dev30 c = (tgt c 9).val ∧ k0_off39 c = ![landRow (tgt c 9) (9, 0), 0] := by decide +kernel
/-- Operation 32: otherwise it does not send stream 9. -/
theorem off_32 : ∀ c : Dev nD, ¬k0_cond26 c = 1#1 → act c 9 = false := by decide +kernel
/-- Operation 33: the device receives stream 0. -/
theorem on_33 : ∀ c : Dev nD, k0_cond27 c = 1#1 → rac c 0 = true := by decide +kernel
/-- Operation 33: otherwise it does not receive stream 0. -/
theorem off_33 : ∀ c : Dev nD, ¬k0_cond27 c = 1#1 → rac c 0 = false := by decide +kernel
/-- Operation 34: the device sends stream 6, block 0, as printed. -/
theorem on_34 : ∀ c : Dev nD, k0_cond28 c = 1#1 → act c 6 = true ∧ k0_dev31 c = (tgt c 6).val ∧ k0_off41 c = ![landRow (tgt c 6) (6, 0), 0] := by decide +kernel
/-- Operation 34: otherwise it does not send stream 6. -/
theorem off_34 : ∀ c : Dev nD, ¬k0_cond28 c = 1#1 → act c 6 = false := by decide +kernel
/-- Operation 35: the device receives stream 2. -/
theorem on_35 : ∀ c : Dev nD, k0_cond29 c = 1#1 → rac c 2 = true := by decide +kernel
/-- Operation 35: otherwise it does not receive stream 2. -/
theorem off_35 : ∀ c : Dev nD, ¬k0_cond29 c = 1#1 → rac c 2 = false := by decide +kernel
/-- Operation 36: the device sends stream 8, block 0, as printed. -/
theorem on_36 : ∀ c : Dev nD, k0_cond30 c = 1#1 → act c 8 = true ∧ k0_dev32 c = (tgt c 8).val ∧ k0_off43 c = ![landRow (tgt c 8) (8, 0), 0] := by decide +kernel
/-- Operation 36: otherwise it does not send stream 8. -/
theorem off_36 : ∀ c : Dev nD, ¬k0_cond30 c = 1#1 → act c 8 = false := by decide +kernel
/-- Operation 37: the device receives stream 1. -/
theorem on_37 : ∀ c : Dev nD, k0_cond31 c = 1#1 → rac c 1 = true := by decide +kernel
/-- Operation 37: otherwise it does not receive stream 1. -/
theorem off_37 : ∀ c : Dev nD, ¬k0_cond31 c = 1#1 → rac c 1 = false := by decide +kernel
/-- Operation 38: the device sends stream 4, block 1, as printed. -/
theorem on_38 : ∀ c : Dev nD, k0_cond32 c = 1#1 → act c 4 = true ∧ k0_dev33 c = (tgt c 4).val ∧ k0_off45 c = ![landRow (tgt c 4) (4, 1), 0] := by decide +kernel
/-- Operation 38: otherwise it does not send stream 4. -/
theorem off_38 : ∀ c : Dev nD, ¬k0_cond32 c = 1#1 → act c 4 = false := by decide +kernel
/-- Operation 39: the device sends stream 7, block 1, as printed. -/
theorem on_39 : ∀ c : Dev nD, k0_cond33 c = 1#1 → act c 7 = true ∧ k0_dev34 c = (tgt c 7).val ∧ k0_off46 c = ![landRow (tgt c 7) (7, 1), 0] := by decide +kernel
/-- Operation 39: otherwise it does not send stream 7. -/
theorem off_39 : ∀ c : Dev nD, ¬k0_cond33 c = 1#1 → act c 7 = false := by decide +kernel
/-- Operation 40: the device receives stream 3. -/
theorem on_40 : ∀ c : Dev nD, k0_cond34 c = 1#1 → rac c 3 = true := by decide +kernel
/-- Operation 40: otherwise it does not receive stream 3. -/
theorem off_40 : ∀ c : Dev nD, ¬k0_cond34 c = 1#1 → rac c 3 = false := by decide +kernel
/-- Operation 41: the device sends stream 5, block 1, as printed. -/
theorem on_41 : ∀ c : Dev nD, k0_cond35 c = 1#1 → act c 5 = true ∧ k0_dev35 c = (tgt c 5).val ∧ k0_off48 c = ![landRow (tgt c 5) (5, 1), 0] := by decide +kernel
/-- Operation 41: otherwise it does not send stream 5. -/
theorem off_41 : ∀ c : Dev nD, ¬k0_cond35 c = 1#1 → act c 5 = false := by decide +kernel
/-- Operation 42: the device sends stream 9, block 1, as printed. -/
theorem on_42 : ∀ c : Dev nD, k0_cond36 c = 1#1 → act c 9 = true ∧ k0_dev36 c = (tgt c 9).val ∧ k0_off49 c = ![landRow (tgt c 9) (9, 1), 0] := by decide +kernel
/-- Operation 42: otherwise it does not send stream 9. -/
theorem off_42 : ∀ c : Dev nD, ¬k0_cond36 c = 1#1 → act c 9 = false := by decide +kernel
/-- Operation 43: the device receives stream 0. -/
theorem on_43 : ∀ c : Dev nD, k0_cond37 c = 1#1 → rac c 0 = true := by decide +kernel
/-- Operation 43: otherwise it does not receive stream 0. -/
theorem off_43 : ∀ c : Dev nD, ¬k0_cond37 c = 1#1 → rac c 0 = false := by decide +kernel
/-- Operation 44: the device sends stream 6, block 1, as printed. -/
theorem on_44 : ∀ c : Dev nD, k0_cond38 c = 1#1 → act c 6 = true ∧ k0_dev37 c = (tgt c 6).val ∧ k0_off51 c = ![landRow (tgt c 6) (6, 1), 0] := by decide +kernel
/-- Operation 44: otherwise it does not send stream 6. -/
theorem off_44 : ∀ c : Dev nD, ¬k0_cond38 c = 1#1 → act c 6 = false := by decide +kernel
/-- Operation 45: the device receives stream 2. -/
theorem on_45 : ∀ c : Dev nD, k0_cond39 c = 1#1 → rac c 2 = true := by decide +kernel
/-- Operation 45: otherwise it does not receive stream 2. -/
theorem off_45 : ∀ c : Dev nD, ¬k0_cond39 c = 1#1 → rac c 2 = false := by decide +kernel
/-- Operation 46: the device sends stream 8, block 1, as printed. -/
theorem on_46 : ∀ c : Dev nD, k0_cond40 c = 1#1 → act c 8 = true ∧ k0_dev38 c = (tgt c 8).val ∧ k0_off53 c = ![landRow (tgt c 8) (8, 1), 0] := by decide +kernel
/-- Operation 46: otherwise it does not send stream 8. -/
theorem off_46 : ∀ c : Dev nD, ¬k0_cond40 c = 1#1 → act c 8 = false := by decide +kernel
/-- Operation 47: the device receives stream 1. -/
theorem on_47 : ∀ c : Dev nD, k0_cond41 c = 1#1 → rac c 1 = true := by decide +kernel
/-- Operation 47: otherwise it does not receive stream 1. -/
theorem off_47 : ∀ c : Dev nD, ¬k0_cond41 c = 1#1 → rac c 1 = false := by decide +kernel
/-- Operation 48: the device sends stream 4, block 2, as printed. -/
theorem on_48 : ∀ c : Dev nD, k0_cond42 c = 1#1 → act c 4 = true ∧ k0_dev39 c = (tgt c 4).val ∧ k0_off55 c = ![landRow (tgt c 4) (4, 2), 0] := by decide +kernel
/-- Operation 48: otherwise it does not send stream 4. -/
theorem off_48 : ∀ c : Dev nD, ¬k0_cond42 c = 1#1 → act c 4 = false := by decide +kernel
/-- Operation 49: the device sends stream 7, block 2, as printed. -/
theorem on_49 : ∀ c : Dev nD, k0_cond43 c = 1#1 → act c 7 = true ∧ k0_dev40 c = (tgt c 7).val ∧ k0_off56 c = ![landRow (tgt c 7) (7, 2), 0] := by decide +kernel
/-- Operation 49: otherwise it does not send stream 7. -/
theorem off_49 : ∀ c : Dev nD, ¬k0_cond43 c = 1#1 → act c 7 = false := by decide +kernel
/-- Operation 50: the device receives stream 3. -/
theorem on_50 : ∀ c : Dev nD, k0_cond44 c = 1#1 → rac c 3 = true := by decide +kernel
/-- Operation 50: otherwise it does not receive stream 3. -/
theorem off_50 : ∀ c : Dev nD, ¬k0_cond44 c = 1#1 → rac c 3 = false := by decide +kernel
/-- Operation 51: the device sends stream 5, block 2, as printed. -/
theorem on_51 : ∀ c : Dev nD, k0_cond45 c = 1#1 → act c 5 = true ∧ k0_dev41 c = (tgt c 5).val ∧ k0_off58 c = ![landRow (tgt c 5) (5, 2), 0] := by decide +kernel
/-- Operation 51: otherwise it does not send stream 5. -/
theorem off_51 : ∀ c : Dev nD, ¬k0_cond45 c = 1#1 → act c 5 = false := by decide +kernel
/-- Operation 52: the device sends stream 9, block 2, as printed. -/
theorem on_52 : ∀ c : Dev nD, k0_cond46 c = 1#1 → act c 9 = true ∧ k0_dev42 c = (tgt c 9).val ∧ k0_off59 c = ![landRow (tgt c 9) (9, 2), 0] := by decide +kernel
/-- Operation 52: otherwise it does not send stream 9. -/
theorem off_52 : ∀ c : Dev nD, ¬k0_cond46 c = 1#1 → act c 9 = false := by decide +kernel
/-- Operation 53: the device receives stream 0. -/
theorem on_53 : ∀ c : Dev nD, k0_cond47 c = 1#1 → rac c 0 = true := by decide +kernel
/-- Operation 53: otherwise it does not receive stream 0. -/
theorem off_53 : ∀ c : Dev nD, ¬k0_cond47 c = 1#1 → rac c 0 = false := by decide +kernel
/-- Operation 54: the device sends stream 6, block 2, as printed. -/
theorem on_54 : ∀ c : Dev nD, k0_cond48 c = 1#1 → act c 6 = true ∧ k0_dev43 c = (tgt c 6).val ∧ k0_off61 c = ![landRow (tgt c 6) (6, 2), 0] := by decide +kernel
/-- Operation 54: otherwise it does not send stream 6. -/
theorem off_54 : ∀ c : Dev nD, ¬k0_cond48 c = 1#1 → act c 6 = false := by decide +kernel
/-- Operation 55: the device receives stream 2. -/
theorem on_55 : ∀ c : Dev nD, k0_cond49 c = 1#1 → rac c 2 = true := by decide +kernel
/-- Operation 55: otherwise it does not receive stream 2. -/
theorem off_55 : ∀ c : Dev nD, ¬k0_cond49 c = 1#1 → rac c 2 = false := by decide +kernel
/-- Operation 56: the device sends stream 8, block 2, as printed. -/
theorem on_56 : ∀ c : Dev nD, k0_cond50 c = 1#1 → act c 8 = true ∧ k0_dev44 c = (tgt c 8).val ∧ k0_off63 c = ![landRow (tgt c 8) (8, 2), 0] := by decide +kernel
/-- Operation 56: otherwise it does not send stream 8. -/
theorem off_56 : ∀ c : Dev nD, ¬k0_cond50 c = 1#1 → act c 8 = false := by decide +kernel
/-- Operation 57: the device receives stream 1. -/
theorem on_57 : ∀ c : Dev nD, k0_cond51 c = 1#1 → rac c 1 = true := by decide +kernel
/-- Operation 57: otherwise it does not receive stream 1. -/
theorem off_57 : ∀ c : Dev nD, ¬k0_cond51 c = 1#1 → rac c 1 = false := by decide +kernel
/-- Operation 58: the device sends stream 4, block 3, as printed. -/
theorem on_58 : ∀ c : Dev nD, k0_cond52 c = 1#1 → act c 4 = true ∧ k0_dev45 c = (tgt c 4).val ∧ k0_off65 c = ![landRow (tgt c 4) (4, 3), 0] := by decide +kernel
/-- Operation 58: otherwise it does not send stream 4. -/
theorem off_58 : ∀ c : Dev nD, ¬k0_cond52 c = 1#1 → act c 4 = false := by decide +kernel
/-- Operation 59: the device sends stream 7, block 3, as printed. -/
theorem on_59 : ∀ c : Dev nD, k0_cond53 c = 1#1 → act c 7 = true ∧ k0_dev46 c = (tgt c 7).val ∧ k0_off66 c = ![landRow (tgt c 7) (7, 3), 0] := by decide +kernel
/-- Operation 59: otherwise it does not send stream 7. -/
theorem off_59 : ∀ c : Dev nD, ¬k0_cond53 c = 1#1 → act c 7 = false := by decide +kernel
/-- Operation 60: the device receives stream 3. -/
theorem on_60 : ∀ c : Dev nD, k0_cond54 c = 1#1 → rac c 3 = true := by decide +kernel
/-- Operation 60: otherwise it does not receive stream 3. -/
theorem off_60 : ∀ c : Dev nD, ¬k0_cond54 c = 1#1 → rac c 3 = false := by decide +kernel
/-- Operation 61: the device sends stream 5, block 3, as printed. -/
theorem on_61 : ∀ c : Dev nD, k0_cond55 c = 1#1 → act c 5 = true ∧ k0_dev47 c = (tgt c 5).val ∧ k0_off68 c = ![landRow (tgt c 5) (5, 3), 0] := by decide +kernel
/-- Operation 61: otherwise it does not send stream 5. -/
theorem off_61 : ∀ c : Dev nD, ¬k0_cond55 c = 1#1 → act c 5 = false := by decide +kernel
/-- Operation 62: the device sends stream 9, block 3, as printed. -/
theorem on_62 : ∀ c : Dev nD, k0_cond56 c = 1#1 → act c 9 = true ∧ k0_dev48 c = (tgt c 9).val ∧ k0_off69 c = ![landRow (tgt c 9) (9, 3), 0] := by decide +kernel
/-- Operation 62: otherwise it does not send stream 9. -/
theorem off_62 : ∀ c : Dev nD, ¬k0_cond56 c = 1#1 → act c 9 = false := by decide +kernel
/-- Operation 63: the device receives stream 0. -/
theorem on_63 : ∀ c : Dev nD, k0_cond57 c = 1#1 → rac c 0 = true := by decide +kernel
/-- Operation 63: otherwise it does not receive stream 0. -/
theorem off_63 : ∀ c : Dev nD, ¬k0_cond57 c = 1#1 → rac c 0 = false := by decide +kernel
/-- Operation 64: the device sends stream 6, block 3, as printed. -/
theorem on_64 : ∀ c : Dev nD, k0_cond58 c = 1#1 → act c 6 = true ∧ k0_dev49 c = (tgt c 6).val ∧ k0_off71 c = ![landRow (tgt c 6) (6, 3), 0] := by decide +kernel
/-- Operation 64: otherwise it does not send stream 6. -/
theorem off_64 : ∀ c : Dev nD, ¬k0_cond58 c = 1#1 → act c 6 = false := by decide +kernel
/-- Operation 65: the device receives stream 2. -/
theorem on_65 : ∀ c : Dev nD, k0_cond59 c = 1#1 → rac c 2 = true := by decide +kernel
/-- Operation 65: otherwise it does not receive stream 2. -/
theorem off_65 : ∀ c : Dev nD, ¬k0_cond59 c = 1#1 → rac c 2 = false := by decide +kernel
/-- Operation 66: the device sends stream 8, block 3, as printed. -/
theorem on_66 : ∀ c : Dev nD, k0_cond60 c = 1#1 → act c 8 = true ∧ k0_dev50 c = (tgt c 8).val ∧ k0_off73 c = ![landRow (tgt c 8) (8, 3), 0] := by decide +kernel
/-- Operation 66: otherwise it does not send stream 8. -/
theorem off_66 : ∀ c : Dev nD, ¬k0_cond60 c = 1#1 → act c 8 = false := by decide +kernel
/-- Operation 67: the device receives stream 4. -/
theorem on_67 : ∀ c : Dev nD, k0_cond61 c = 1#1 → rac c 4 = true := by decide +kernel
/-- Operation 67: otherwise it does not receive stream 4. -/
theorem off_67 : ∀ c : Dev nD, ¬k0_cond61 c = 1#1 → rac c 4 = false := by decide +kernel
/-- Operation 68: the device sends stream 10, block 0, as printed. -/
theorem on_68 : ∀ c : Dev nD, k0_cond62 c = 1#1 → act c 10 = true ∧ k0_dev51 c = (tgt c 10).val ∧ k0_off75 c = ![landRow (tgt c 10) (10, 0), 0] := by decide +kernel
/-- Operation 68: otherwise it does not send stream 10. -/
theorem off_68 : ∀ c : Dev nD, ¬k0_cond62 c = 1#1 → act c 10 = false := by decide +kernel
/-- Operation 69: the device receives stream 5. -/
theorem on_69 : ∀ c : Dev nD, k0_cond63 c = 1#1 → rac c 5 = true := by decide +kernel
/-- Operation 69: otherwise it does not receive stream 5. -/
theorem off_69 : ∀ c : Dev nD, ¬k0_cond63 c = 1#1 → rac c 5 = false := by decide +kernel
/-- Operation 70: the device sends stream 11, block 0, as printed. -/
theorem on_70 : ∀ c : Dev nD, k0_cond64 c = 1#1 → act c 11 = true ∧ k0_dev52 c = (tgt c 11).val ∧ k0_off77 c = ![landRow (tgt c 11) (11, 0), 0] := by decide +kernel
/-- Operation 70: otherwise it does not send stream 11. -/
theorem off_70 : ∀ c : Dev nD, ¬k0_cond64 c = 1#1 → act c 11 = false := by decide +kernel
/-- Operation 71: the device receives stream 4. -/
theorem on_71 : ∀ c : Dev nD, k0_cond65 c = 1#1 → rac c 4 = true := by decide +kernel
/-- Operation 71: otherwise it does not receive stream 4. -/
theorem off_71 : ∀ c : Dev nD, ¬k0_cond65 c = 1#1 → rac c 4 = false := by decide +kernel
/-- Operation 72: the device sends stream 10, block 1, as printed. -/
theorem on_72 : ∀ c : Dev nD, k0_cond66 c = 1#1 → act c 10 = true ∧ k0_dev53 c = (tgt c 10).val ∧ k0_off79 c = ![landRow (tgt c 10) (10, 1), 0] := by decide +kernel
/-- Operation 72: otherwise it does not send stream 10. -/
theorem off_72 : ∀ c : Dev nD, ¬k0_cond66 c = 1#1 → act c 10 = false := by decide +kernel
/-- Operation 73: the device receives stream 5. -/
theorem on_73 : ∀ c : Dev nD, k0_cond67 c = 1#1 → rac c 5 = true := by decide +kernel
/-- Operation 73: otherwise it does not receive stream 5. -/
theorem off_73 : ∀ c : Dev nD, ¬k0_cond67 c = 1#1 → rac c 5 = false := by decide +kernel
/-- Operation 74: the device sends stream 11, block 1, as printed. -/
theorem on_74 : ∀ c : Dev nD, k0_cond68 c = 1#1 → act c 11 = true ∧ k0_dev54 c = (tgt c 11).val ∧ k0_off81 c = ![landRow (tgt c 11) (11, 1), 0] := by decide +kernel
/-- Operation 74: otherwise it does not send stream 11. -/
theorem off_74 : ∀ c : Dev nD, ¬k0_cond68 c = 1#1 → act c 11 = false := by decide +kernel
/-- Operation 75: the device receives stream 4. -/
theorem on_75 : ∀ c : Dev nD, k0_cond69 c = 1#1 → rac c 4 = true := by decide +kernel
/-- Operation 75: otherwise it does not receive stream 4. -/
theorem off_75 : ∀ c : Dev nD, ¬k0_cond69 c = 1#1 → rac c 4 = false := by decide +kernel
/-- Operation 76: the device sends stream 10, block 2, as printed. -/
theorem on_76 : ∀ c : Dev nD, k0_cond70 c = 1#1 → act c 10 = true ∧ k0_dev55 c = (tgt c 10).val ∧ k0_off83 c = ![landRow (tgt c 10) (10, 2), 0] := by decide +kernel
/-- Operation 76: otherwise it does not send stream 10. -/
theorem off_76 : ∀ c : Dev nD, ¬k0_cond70 c = 1#1 → act c 10 = false := by decide +kernel
/-- Operation 77: the device receives stream 5. -/
theorem on_77 : ∀ c : Dev nD, k0_cond71 c = 1#1 → rac c 5 = true := by decide +kernel
/-- Operation 77: otherwise it does not receive stream 5. -/
theorem off_77 : ∀ c : Dev nD, ¬k0_cond71 c = 1#1 → rac c 5 = false := by decide +kernel
/-- Operation 78: the device sends stream 11, block 2, as printed. -/
theorem on_78 : ∀ c : Dev nD, k0_cond72 c = 1#1 → act c 11 = true ∧ k0_dev56 c = (tgt c 11).val ∧ k0_off85 c = ![landRow (tgt c 11) (11, 2), 0] := by decide +kernel
/-- Operation 78: otherwise it does not send stream 11. -/
theorem off_78 : ∀ c : Dev nD, ¬k0_cond72 c = 1#1 → act c 11 = false := by decide +kernel
/-- Operation 79: the device receives stream 4. -/
theorem on_79 : ∀ c : Dev nD, k0_cond73 c = 1#1 → rac c 4 = true := by decide +kernel
/-- Operation 79: otherwise it does not receive stream 4. -/
theorem off_79 : ∀ c : Dev nD, ¬k0_cond73 c = 1#1 → rac c 4 = false := by decide +kernel
/-- Operation 80: the device sends stream 10, block 3, as printed. -/
theorem on_80 : ∀ c : Dev nD, k0_cond74 c = 1#1 → act c 10 = true ∧ k0_dev57 c = (tgt c 10).val ∧ k0_off87 c = ![landRow (tgt c 10) (10, 3), 0] := by decide +kernel
/-- Operation 80: otherwise it does not send stream 10. -/
theorem off_80 : ∀ c : Dev nD, ¬k0_cond74 c = 1#1 → act c 10 = false := by decide +kernel
/-- Operation 81: the device receives stream 5. -/
theorem on_81 : ∀ c : Dev nD, k0_cond75 c = 1#1 → rac c 5 = true := by decide +kernel
/-- Operation 81: otherwise it does not receive stream 5. -/
theorem off_81 : ∀ c : Dev nD, ¬k0_cond75 c = 1#1 → rac c 5 = false := by decide +kernel
/-- Operation 82: the device sends stream 11, block 3, as printed. -/
theorem on_82 : ∀ c : Dev nD, k0_cond76 c = 1#1 → act c 11 = true ∧ k0_dev58 c = (tgt c 11).val ∧ k0_off89 c = ![landRow (tgt c 11) (11, 3), 0] := by decide +kernel
/-- Operation 82: otherwise it does not send stream 11. -/
theorem off_82 : ∀ c : Dev nD, ¬k0_cond76 c = 1#1 → act c 11 = false := by decide +kernel
/-- Operation 83: the device receives stream 6. -/
theorem on_83 : ∀ c : Dev nD, k0_cond77 c = 1#1 → rac c 6 = true := by decide +kernel
/-- Operation 83: otherwise it does not receive stream 6. -/
theorem off_83 : ∀ c : Dev nD, ¬k0_cond77 c = 1#1 → rac c 6 = false := by decide +kernel
/-- Operation 84: the device receives stream 7. -/
theorem on_84 : ∀ c : Dev nD, k0_cond78 c = 1#1 → rac c 7 = true := by decide +kernel
/-- Operation 84: otherwise it does not receive stream 7. -/
theorem off_84 : ∀ c : Dev nD, ¬k0_cond78 c = 1#1 → rac c 7 = false := by decide +kernel
/-- Operation 85: the device receives stream 8. -/
theorem on_85 : ∀ c : Dev nD, k0_cond79 c = 1#1 → rac c 8 = true := by decide +kernel
/-- Operation 85: otherwise it does not receive stream 8. -/
theorem off_85 : ∀ c : Dev nD, ¬k0_cond79 c = 1#1 → rac c 8 = false := by decide +kernel
/-- Operation 86: the device receives stream 9. -/
theorem on_86 : ∀ c : Dev nD, k0_cond80 c = 1#1 → rac c 9 = true := by decide +kernel
/-- Operation 86: otherwise it does not receive stream 9. -/
theorem off_86 : ∀ c : Dev nD, ¬k0_cond80 c = 1#1 → rac c 9 = false := by decide +kernel
/-- Operation 87: the device receives stream 10. -/
theorem on_87 : ∀ c : Dev nD, k0_cond81 c = 1#1 → rac c 10 = true := by decide +kernel
/-- Operation 87: otherwise it does not receive stream 10. -/
theorem off_87 : ∀ c : Dev nD, ¬k0_cond81 c = 1#1 → rac c 10 = false := by decide +kernel
/-- Operation 88: the device receives stream 11. -/
theorem on_88 : ∀ c : Dev nD, k0_cond82 c = 1#1 → rac c 11 = true := by decide +kernel
/-- Operation 88: otherwise it does not receive stream 11. -/
theorem off_88 : ∀ c : Dev nD, ¬k0_cond82 c = 1#1 → rac c 11 = false := by decide +kernel
/-- Operation 89: the device receives stream 6. -/
theorem on_89 : ∀ c : Dev nD, k0_cond83 c = 1#1 → rac c 6 = true := by decide +kernel
/-- Operation 89: otherwise it does not receive stream 6. -/
theorem off_89 : ∀ c : Dev nD, ¬k0_cond83 c = 1#1 → rac c 6 = false := by decide +kernel
/-- Operation 90: the device receives stream 7. -/
theorem on_90 : ∀ c : Dev nD, k0_cond84 c = 1#1 → rac c 7 = true := by decide +kernel
/-- Operation 90: otherwise it does not receive stream 7. -/
theorem off_90 : ∀ c : Dev nD, ¬k0_cond84 c = 1#1 → rac c 7 = false := by decide +kernel
/-- Operation 91: the device receives stream 8. -/
theorem on_91 : ∀ c : Dev nD, k0_cond85 c = 1#1 → rac c 8 = true := by decide +kernel
/-- Operation 91: otherwise it does not receive stream 8. -/
theorem off_91 : ∀ c : Dev nD, ¬k0_cond85 c = 1#1 → rac c 8 = false := by decide +kernel
/-- Operation 92: the device receives stream 9. -/
theorem on_92 : ∀ c : Dev nD, k0_cond86 c = 1#1 → rac c 9 = true := by decide +kernel
/-- Operation 92: otherwise it does not receive stream 9. -/
theorem off_92 : ∀ c : Dev nD, ¬k0_cond86 c = 1#1 → rac c 9 = false := by decide +kernel
/-- Operation 93: the device receives stream 10. -/
theorem on_93 : ∀ c : Dev nD, k0_cond87 c = 1#1 → rac c 10 = true := by decide +kernel
/-- Operation 93: otherwise it does not receive stream 10. -/
theorem off_93 : ∀ c : Dev nD, ¬k0_cond87 c = 1#1 → rac c 10 = false := by decide +kernel
/-- Operation 94: the device receives stream 11. -/
theorem on_94 : ∀ c : Dev nD, k0_cond88 c = 1#1 → rac c 11 = true := by decide +kernel
/-- Operation 94: otherwise it does not receive stream 11. -/
theorem off_94 : ∀ c : Dev nD, ¬k0_cond88 c = 1#1 → rac c 11 = false := by decide +kernel
/-- Operation 95: the device receives stream 6. -/
theorem on_95 : ∀ c : Dev nD, k0_cond89 c = 1#1 → rac c 6 = true := by decide +kernel
/-- Operation 95: otherwise it does not receive stream 6. -/
theorem off_95 : ∀ c : Dev nD, ¬k0_cond89 c = 1#1 → rac c 6 = false := by decide +kernel
/-- Operation 96: the device receives stream 7. -/
theorem on_96 : ∀ c : Dev nD, k0_cond90 c = 1#1 → rac c 7 = true := by decide +kernel
/-- Operation 96: otherwise it does not receive stream 7. -/
theorem off_96 : ∀ c : Dev nD, ¬k0_cond90 c = 1#1 → rac c 7 = false := by decide +kernel
/-- Operation 97: the device receives stream 8. -/
theorem on_97 : ∀ c : Dev nD, k0_cond91 c = 1#1 → rac c 8 = true := by decide +kernel
/-- Operation 97: otherwise it does not receive stream 8. -/
theorem off_97 : ∀ c : Dev nD, ¬k0_cond91 c = 1#1 → rac c 8 = false := by decide +kernel
/-- Operation 98: the device receives stream 9. -/
theorem on_98 : ∀ c : Dev nD, k0_cond92 c = 1#1 → rac c 9 = true := by decide +kernel
/-- Operation 98: otherwise it does not receive stream 9. -/
theorem off_98 : ∀ c : Dev nD, ¬k0_cond92 c = 1#1 → rac c 9 = false := by decide +kernel
/-- Operation 99: the device receives stream 10. -/
theorem on_99 : ∀ c : Dev nD, k0_cond93 c = 1#1 → rac c 10 = true := by decide +kernel
/-- Operation 99: otherwise it does not receive stream 10. -/
theorem off_99 : ∀ c : Dev nD, ¬k0_cond93 c = 1#1 → rac c 10 = false := by decide +kernel
/-- Operation 100: the device receives stream 11. -/
theorem on_100 : ∀ c : Dev nD, k0_cond94 c = 1#1 → rac c 11 = true := by decide +kernel
/-- Operation 100: otherwise it does not receive stream 11. -/
theorem off_100 : ∀ c : Dev nD, ¬k0_cond94 c = 1#1 → rac c 11 = false := by decide +kernel
/-- Operation 101: the device receives stream 6. -/
theorem on_101 : ∀ c : Dev nD, k0_cond95 c = 1#1 → rac c 6 = true := by decide +kernel
/-- Operation 101: otherwise it does not receive stream 6. -/
theorem off_101 : ∀ c : Dev nD, ¬k0_cond95 c = 1#1 → rac c 6 = false := by decide +kernel
/-- Operation 102: the device receives stream 7. -/
theorem on_102 : ∀ c : Dev nD, k0_cond96 c = 1#1 → rac c 7 = true := by decide +kernel
/-- Operation 102: otherwise it does not receive stream 7. -/
theorem off_102 : ∀ c : Dev nD, ¬k0_cond96 c = 1#1 → rac c 7 = false := by decide +kernel
/-- Operation 103: the device receives stream 8. -/
theorem on_103 : ∀ c : Dev nD, k0_cond97 c = 1#1 → rac c 8 = true := by decide +kernel
/-- Operation 103: otherwise it does not receive stream 8. -/
theorem off_103 : ∀ c : Dev nD, ¬k0_cond97 c = 1#1 → rac c 8 = false := by decide +kernel
/-- Operation 104: the device receives stream 9. -/
theorem on_104 : ∀ c : Dev nD, k0_cond98 c = 1#1 → rac c 9 = true := by decide +kernel
/-- Operation 104: otherwise it does not receive stream 9. -/
theorem off_104 : ∀ c : Dev nD, ¬k0_cond98 c = 1#1 → rac c 9 = false := by decide +kernel
/-- Operation 105: the device receives stream 10. -/
theorem on_105 : ∀ c : Dev nD, k0_cond99 c = 1#1 → rac c 10 = true := by decide +kernel
/-- Operation 105: otherwise it does not receive stream 10. -/
theorem off_105 : ∀ c : Dev nD, ¬k0_cond99 c = 1#1 → rac c 10 = false := by decide +kernel
/-- Operation 106: the device receives stream 11. -/
theorem on_106 : ∀ c : Dev nD, k0_cond100 c = 1#1 → rac c 11 = true := by decide +kernel
/-- Operation 106: otherwise it does not receive stream 11. -/
theorem off_106 : ∀ c : Dev nD, ¬k0_cond100 c = 1#1 → rac c 11 = false := by decide +kernel
/-- Operation 107: the device receives stream 12. -/
theorem on_107 : ∀ c : Dev nD, rac c 12 = true := by decide +kernel
/-- Operation 108: the device receives stream 12. -/
theorem on_108 : ∀ c : Dev nD, rac c 12 = true := by decide +kernel
/-- Operation 109: the device receives stream 12. -/
theorem on_109 : ∀ c : Dev nD, rac c 12 = true := by decide +kernel
/-- Operation 110: the device receives stream 12. -/
theorem on_110 : ∀ c : Dev nD, rac c 12 = true := by decide +kernel
/-- Operation 111: the device sends stream 1. -/
theorem on_111 : ∀ c : Dev nD, k0_cond101 c = 1#1 → act c 1 = true := by decide +kernel
/-- Operation 111: otherwise it does not send stream 1. -/
theorem off_111 : ∀ c : Dev nD, ¬k0_cond101 c = 1#1 → act c 1 = false := by decide +kernel
/-- Operation 112: the device sends stream 1. -/
theorem on_112 : ∀ c : Dev nD, k0_cond102 c = 1#1 → act c 1 = true := by decide +kernel
/-- Operation 112: otherwise it does not send stream 1. -/
theorem off_112 : ∀ c : Dev nD, ¬k0_cond102 c = 1#1 → act c 1 = false := by decide +kernel
/-- Operation 113: the device sends stream 1. -/
theorem on_113 : ∀ c : Dev nD, k0_cond103 c = 1#1 → act c 1 = true := by decide +kernel
/-- Operation 113: otherwise it does not send stream 1. -/
theorem off_113 : ∀ c : Dev nD, ¬k0_cond103 c = 1#1 → act c 1 = false := by decide +kernel
/-- Operation 114: the device sends stream 1. -/
theorem on_114 : ∀ c : Dev nD, k0_cond104 c = 1#1 → act c 1 = true := by decide +kernel
/-- Operation 114: otherwise it does not send stream 1. -/
theorem off_114 : ∀ c : Dev nD, ¬k0_cond104 c = 1#1 → act c 1 = false := by decide +kernel
/-- Operation 115: the device sends stream 3. -/
theorem on_115 : ∀ c : Dev nD, k0_cond105 c = 1#1 → act c 3 = true := by decide +kernel
/-- Operation 115: otherwise it does not send stream 3. -/
theorem off_115 : ∀ c : Dev nD, ¬k0_cond105 c = 1#1 → act c 3 = false := by decide +kernel
/-- Operation 116: the device sends stream 3. -/
theorem on_116 : ∀ c : Dev nD, k0_cond106 c = 1#1 → act c 3 = true := by decide +kernel
/-- Operation 116: otherwise it does not send stream 3. -/
theorem off_116 : ∀ c : Dev nD, ¬k0_cond106 c = 1#1 → act c 3 = false := by decide +kernel
/-- Operation 117: the device sends stream 3. -/
theorem on_117 : ∀ c : Dev nD, k0_cond107 c = 1#1 → act c 3 = true := by decide +kernel
/-- Operation 117: otherwise it does not send stream 3. -/
theorem off_117 : ∀ c : Dev nD, ¬k0_cond107 c = 1#1 → act c 3 = false := by decide +kernel
/-- Operation 118: the device sends stream 3. -/
theorem on_118 : ∀ c : Dev nD, k0_cond108 c = 1#1 → act c 3 = true := by decide +kernel
/-- Operation 118: otherwise it does not send stream 3. -/
theorem off_118 : ∀ c : Dev nD, ¬k0_cond108 c = 1#1 → act c 3 = false := by decide +kernel
/-- Operation 119: the device sends stream 0. -/
theorem on_119 : ∀ c : Dev nD, k0_cond109 c = 1#1 → act c 0 = true := by decide +kernel
/-- Operation 119: otherwise it does not send stream 0. -/
theorem off_119 : ∀ c : Dev nD, ¬k0_cond109 c = 1#1 → act c 0 = false := by decide +kernel
/-- Operation 120: the device sends stream 0. -/
theorem on_120 : ∀ c : Dev nD, k0_cond110 c = 1#1 → act c 0 = true := by decide +kernel
/-- Operation 120: otherwise it does not send stream 0. -/
theorem off_120 : ∀ c : Dev nD, ¬k0_cond110 c = 1#1 → act c 0 = false := by decide +kernel
/-- Operation 121: the device sends stream 0. -/
theorem on_121 : ∀ c : Dev nD, k0_cond111 c = 1#1 → act c 0 = true := by decide +kernel
/-- Operation 121: otherwise it does not send stream 0. -/
theorem off_121 : ∀ c : Dev nD, ¬k0_cond111 c = 1#1 → act c 0 = false := by decide +kernel
/-- Operation 122: the device sends stream 0. -/
theorem on_122 : ∀ c : Dev nD, k0_cond112 c = 1#1 → act c 0 = true := by decide +kernel
/-- Operation 122: otherwise it does not send stream 0. -/
theorem off_122 : ∀ c : Dev nD, ¬k0_cond112 c = 1#1 → act c 0 = false := by decide +kernel
/-- Operation 123: the device sends stream 2. -/
theorem on_123 : ∀ c : Dev nD, k0_cond113 c = 1#1 → act c 2 = true := by decide +kernel
/-- Operation 123: otherwise it does not send stream 2. -/
theorem off_123 : ∀ c : Dev nD, ¬k0_cond113 c = 1#1 → act c 2 = false := by decide +kernel
/-- Operation 124: the device sends stream 2. -/
theorem on_124 : ∀ c : Dev nD, k0_cond114 c = 1#1 → act c 2 = true := by decide +kernel
/-- Operation 124: otherwise it does not send stream 2. -/
theorem off_124 : ∀ c : Dev nD, ¬k0_cond114 c = 1#1 → act c 2 = false := by decide +kernel
/-- Operation 125: the device sends stream 2. -/
theorem on_125 : ∀ c : Dev nD, k0_cond115 c = 1#1 → act c 2 = true := by decide +kernel
/-- Operation 125: otherwise it does not send stream 2. -/
theorem off_125 : ∀ c : Dev nD, ¬k0_cond115 c = 1#1 → act c 2 = false := by decide +kernel
/-- Operation 126: the device sends stream 2. -/
theorem on_126 : ∀ c : Dev nD, k0_cond116 c = 1#1 → act c 2 = true := by decide +kernel
/-- Operation 126: otherwise it does not send stream 2. -/
theorem off_126 : ∀ c : Dev nD, ¬k0_cond116 c = 1#1 → act c 2 = false := by decide +kernel
/-- Operation 127: the device sends stream 4. -/
theorem on_127 : ∀ c : Dev nD, k0_cond117 c = 1#1 → act c 4 = true := by decide +kernel
/-- Operation 127: otherwise it does not send stream 4. -/
theorem off_127 : ∀ c : Dev nD, ¬k0_cond117 c = 1#1 → act c 4 = false := by decide +kernel
/-- Operation 128: the device sends stream 7. -/
theorem on_128 : ∀ c : Dev nD, k0_cond118 c = 1#1 → act c 7 = true := by decide +kernel
/-- Operation 128: otherwise it does not send stream 7. -/
theorem off_128 : ∀ c : Dev nD, ¬k0_cond118 c = 1#1 → act c 7 = false := by decide +kernel
/-- Operation 129: the device sends stream 5. -/
theorem on_129 : ∀ c : Dev nD, k0_cond119 c = 1#1 → act c 5 = true := by decide +kernel
/-- Operation 129: otherwise it does not send stream 5. -/
theorem off_129 : ∀ c : Dev nD, ¬k0_cond119 c = 1#1 → act c 5 = false := by decide +kernel
/-- Operation 130: the device sends stream 9. -/
theorem on_130 : ∀ c : Dev nD, k0_cond120 c = 1#1 → act c 9 = true := by decide +kernel
/-- Operation 130: otherwise it does not send stream 9. -/
theorem off_130 : ∀ c : Dev nD, ¬k0_cond120 c = 1#1 → act c 9 = false := by decide +kernel
/-- Operation 131: the device sends stream 6. -/
theorem on_131 : ∀ c : Dev nD, k0_cond121 c = 1#1 → act c 6 = true := by decide +kernel
/-- Operation 131: otherwise it does not send stream 6. -/
theorem off_131 : ∀ c : Dev nD, ¬k0_cond121 c = 1#1 → act c 6 = false := by decide +kernel
/-- Operation 132: the device sends stream 8. -/
theorem on_132 : ∀ c : Dev nD, k0_cond122 c = 1#1 → act c 8 = true := by decide +kernel
/-- Operation 132: otherwise it does not send stream 8. -/
theorem off_132 : ∀ c : Dev nD, ¬k0_cond122 c = 1#1 → act c 8 = false := by decide +kernel
/-- Operation 133: the device sends stream 4. -/
theorem on_133 : ∀ c : Dev nD, k0_cond123 c = 1#1 → act c 4 = true := by decide +kernel
/-- Operation 133: otherwise it does not send stream 4. -/
theorem off_133 : ∀ c : Dev nD, ¬k0_cond123 c = 1#1 → act c 4 = false := by decide +kernel
/-- Operation 134: the device sends stream 7. -/
theorem on_134 : ∀ c : Dev nD, k0_cond124 c = 1#1 → act c 7 = true := by decide +kernel
/-- Operation 134: otherwise it does not send stream 7. -/
theorem off_134 : ∀ c : Dev nD, ¬k0_cond124 c = 1#1 → act c 7 = false := by decide +kernel
/-- Operation 135: the device sends stream 5. -/
theorem on_135 : ∀ c : Dev nD, k0_cond125 c = 1#1 → act c 5 = true := by decide +kernel
/-- Operation 135: otherwise it does not send stream 5. -/
theorem off_135 : ∀ c : Dev nD, ¬k0_cond125 c = 1#1 → act c 5 = false := by decide +kernel
/-- Operation 136: the device sends stream 9. -/
theorem on_136 : ∀ c : Dev nD, k0_cond126 c = 1#1 → act c 9 = true := by decide +kernel
/-- Operation 136: otherwise it does not send stream 9. -/
theorem off_136 : ∀ c : Dev nD, ¬k0_cond126 c = 1#1 → act c 9 = false := by decide +kernel
/-- Operation 137: the device sends stream 6. -/
theorem on_137 : ∀ c : Dev nD, k0_cond127 c = 1#1 → act c 6 = true := by decide +kernel
/-- Operation 137: otherwise it does not send stream 6. -/
theorem off_137 : ∀ c : Dev nD, ¬k0_cond127 c = 1#1 → act c 6 = false := by decide +kernel
/-- Operation 138: the device sends stream 8. -/
theorem on_138 : ∀ c : Dev nD, k0_cond128 c = 1#1 → act c 8 = true := by decide +kernel
/-- Operation 138: otherwise it does not send stream 8. -/
theorem off_138 : ∀ c : Dev nD, ¬k0_cond128 c = 1#1 → act c 8 = false := by decide +kernel
/-- Operation 139: the device sends stream 4. -/
theorem on_139 : ∀ c : Dev nD, k0_cond129 c = 1#1 → act c 4 = true := by decide +kernel
/-- Operation 139: otherwise it does not send stream 4. -/
theorem off_139 : ∀ c : Dev nD, ¬k0_cond129 c = 1#1 → act c 4 = false := by decide +kernel
/-- Operation 140: the device sends stream 7. -/
theorem on_140 : ∀ c : Dev nD, k0_cond130 c = 1#1 → act c 7 = true := by decide +kernel
/-- Operation 140: otherwise it does not send stream 7. -/
theorem off_140 : ∀ c : Dev nD, ¬k0_cond130 c = 1#1 → act c 7 = false := by decide +kernel
/-- Operation 141: the device sends stream 5. -/
theorem on_141 : ∀ c : Dev nD, k0_cond131 c = 1#1 → act c 5 = true := by decide +kernel
/-- Operation 141: otherwise it does not send stream 5. -/
theorem off_141 : ∀ c : Dev nD, ¬k0_cond131 c = 1#1 → act c 5 = false := by decide +kernel
/-- Operation 142: the device sends stream 9. -/
theorem on_142 : ∀ c : Dev nD, k0_cond132 c = 1#1 → act c 9 = true := by decide +kernel
/-- Operation 142: otherwise it does not send stream 9. -/
theorem off_142 : ∀ c : Dev nD, ¬k0_cond132 c = 1#1 → act c 9 = false := by decide +kernel
/-- Operation 143: the device sends stream 6. -/
theorem on_143 : ∀ c : Dev nD, k0_cond133 c = 1#1 → act c 6 = true := by decide +kernel
/-- Operation 143: otherwise it does not send stream 6. -/
theorem off_143 : ∀ c : Dev nD, ¬k0_cond133 c = 1#1 → act c 6 = false := by decide +kernel
/-- Operation 144: the device sends stream 8. -/
theorem on_144 : ∀ c : Dev nD, k0_cond134 c = 1#1 → act c 8 = true := by decide +kernel
/-- Operation 144: otherwise it does not send stream 8. -/
theorem off_144 : ∀ c : Dev nD, ¬k0_cond134 c = 1#1 → act c 8 = false := by decide +kernel
/-- Operation 145: the device sends stream 4. -/
theorem on_145 : ∀ c : Dev nD, k0_cond135 c = 1#1 → act c 4 = true := by decide +kernel
/-- Operation 145: otherwise it does not send stream 4. -/
theorem off_145 : ∀ c : Dev nD, ¬k0_cond135 c = 1#1 → act c 4 = false := by decide +kernel
/-- Operation 146: the device sends stream 7. -/
theorem on_146 : ∀ c : Dev nD, k0_cond136 c = 1#1 → act c 7 = true := by decide +kernel
/-- Operation 146: otherwise it does not send stream 7. -/
theorem off_146 : ∀ c : Dev nD, ¬k0_cond136 c = 1#1 → act c 7 = false := by decide +kernel
/-- Operation 147: the device sends stream 5. -/
theorem on_147 : ∀ c : Dev nD, k0_cond137 c = 1#1 → act c 5 = true := by decide +kernel
/-- Operation 147: otherwise it does not send stream 5. -/
theorem off_147 : ∀ c : Dev nD, ¬k0_cond137 c = 1#1 → act c 5 = false := by decide +kernel
/-- Operation 148: the device sends stream 9. -/
theorem on_148 : ∀ c : Dev nD, k0_cond138 c = 1#1 → act c 9 = true := by decide +kernel
/-- Operation 148: otherwise it does not send stream 9. -/
theorem off_148 : ∀ c : Dev nD, ¬k0_cond138 c = 1#1 → act c 9 = false := by decide +kernel
/-- Operation 149: the device sends stream 6. -/
theorem on_149 : ∀ c : Dev nD, k0_cond139 c = 1#1 → act c 6 = true := by decide +kernel
/-- Operation 149: otherwise it does not send stream 6. -/
theorem off_149 : ∀ c : Dev nD, ¬k0_cond139 c = 1#1 → act c 6 = false := by decide +kernel
/-- Operation 150: the device sends stream 8. -/
theorem on_150 : ∀ c : Dev nD, k0_cond140 c = 1#1 → act c 8 = true := by decide +kernel
/-- Operation 150: otherwise it does not send stream 8. -/
theorem off_150 : ∀ c : Dev nD, ¬k0_cond140 c = 1#1 → act c 8 = false := by decide +kernel
/-- Operation 151: the device sends stream 10. -/
theorem on_151 : ∀ c : Dev nD, k0_cond141 c = 1#1 → act c 10 = true := by decide +kernel
/-- Operation 151: otherwise it does not send stream 10. -/
theorem off_151 : ∀ c : Dev nD, ¬k0_cond141 c = 1#1 → act c 10 = false := by decide +kernel
/-- Operation 152: the device sends stream 11. -/
theorem on_152 : ∀ c : Dev nD, k0_cond142 c = 1#1 → act c 11 = true := by decide +kernel
/-- Operation 152: otherwise it does not send stream 11. -/
theorem off_152 : ∀ c : Dev nD, ¬k0_cond142 c = 1#1 → act c 11 = false := by decide +kernel
/-- Operation 153: the device sends stream 10. -/
theorem on_153 : ∀ c : Dev nD, k0_cond143 c = 1#1 → act c 10 = true := by decide +kernel
/-- Operation 153: otherwise it does not send stream 10. -/
theorem off_153 : ∀ c : Dev nD, ¬k0_cond143 c = 1#1 → act c 10 = false := by decide +kernel
/-- Operation 154: the device sends stream 11. -/
theorem on_154 : ∀ c : Dev nD, k0_cond144 c = 1#1 → act c 11 = true := by decide +kernel
/-- Operation 154: otherwise it does not send stream 11. -/
theorem off_154 : ∀ c : Dev nD, ¬k0_cond144 c = 1#1 → act c 11 = false := by decide +kernel
/-- Operation 155: the device sends stream 10. -/
theorem on_155 : ∀ c : Dev nD, k0_cond145 c = 1#1 → act c 10 = true := by decide +kernel
/-- Operation 155: otherwise it does not send stream 10. -/
theorem off_155 : ∀ c : Dev nD, ¬k0_cond145 c = 1#1 → act c 10 = false := by decide +kernel
/-- Operation 156: the device sends stream 11. -/
theorem on_156 : ∀ c : Dev nD, k0_cond146 c = 1#1 → act c 11 = true := by decide +kernel
/-- Operation 156: otherwise it does not send stream 11. -/
theorem off_156 : ∀ c : Dev nD, ¬k0_cond146 c = 1#1 → act c 11 = false := by decide +kernel
/-- Operation 157: the device sends stream 10. -/
theorem on_157 : ∀ c : Dev nD, k0_cond147 c = 1#1 → act c 10 = true := by decide +kernel
/-- Operation 157: otherwise it does not send stream 10. -/
theorem off_157 : ∀ c : Dev nD, ¬k0_cond147 c = 1#1 → act c 10 = false := by decide +kernel
/-- Operation 158: the device sends stream 11. -/
theorem on_158 : ∀ c : Dev nD, k0_cond148 c = 1#1 → act c 11 = true := by decide +kernel
/-- Operation 158: otherwise it does not send stream 11. -/
theorem off_158 : ∀ c : Dev nD, ¬k0_cond148 c = 1#1 → act c 11 = false := by decide +kernel
/-- Operation 159: the device sends stream 12. -/
theorem on_159 : ∀ c : Dev nD, act c 12 = true := by decide +kernel
/-- Operation 160: the device sends stream 12. -/
theorem on_160 : ∀ c : Dev nD, act c 12 = true := by decide +kernel
/-- Operation 161: the device sends stream 12. -/
theorem on_161 : ∀ c : Dev nD, act c 12 = true := by decide +kernel
/-- Operation 162: the device sends stream 12. -/
theorem on_162 : ∀ c : Dev nD, act c 12 = true := by decide +kernel

end Cert.GatherIdealProof

end
-- ==== Proof.IGo.lean ====
/-
The steps of the program as judgements `Go a p b φ`: the program `p`, run by device `c` at position `a`, ends at position
`b` with a value that satisfies `φ`.
-/
module

public import proofs.«01_k».proof.Proof.IFacts

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ) (c : Dev nD) (Z : sProp (MT nD τ sig Unit (Elt F) ℕ UU ℕ))

/-- `p`, started at position `a`, ends at position `b` with a value that satisfies `φ`. -/
@[irreducible] def Go (a : ℕ) {α : Type} (p : Prog (TpuEff nD τ sig (Elt F) Λ₀ .tc) α) (b : ℕ) (φ : α → Prop) : Prop :=
  Inv m K c Z a ⊢ WP c p fun x => iprop(⌜φ x⌝ ∗ Inv m K c Z b)

/-- Position `a` passes over to position `b` without an operation. -/
@[irreducible] def Skip (a b : ℕ) : Prop := Inv m K c Z a ⊢ |={Set.univ}=> Inv m K c Z b

variable {m K c Z}

/-- One value is any. -/
theorem Go.of {a b : ℕ} {α : Type} {p : Prog (TpuEff nD τ sig (Elt F) Λ₀ .tc) α} (h : Inv m K c Z a ⊢ WP c p fun _ => Inv m K c Z b) :
    Go m K c Z a p b fun _ => True := by
  unfold Go
  refine h.trans ?_
  unfold WP
  refine wp_mono _ _ _ fun x => ?_
  iintro H
  isplitr [H]
  · ipureintro; trivial
  iexact H

/-- Passing over, from its statement. -/
theorem Skip.of {a b : ℕ} (h : Inv m K c Z a ⊢ |={Set.univ}=> Inv m K c Z b) : Skip m K c Z a b := by
  unfold Skip; exact h

/-- One piece after another. -/
theorem Go.seq {a b d : ℕ} {α β : Type} {p : Prog (TpuEff nD τ sig (Elt F) Λ₀ .tc) α} {k : α → Prog (TpuEff nD τ sig (Elt F) Λ₀ .tc) β} {φ : α → Prop} {ψ : β → Prop}
    (h1 : Go m K c Z a p b φ) (h2 : ∀ x, φ x → Go m K c Z b (k x) d ψ) : Go m K c Z a (p >>= k) d ψ := by
  unfold Go at h1 h2 ⊢
  exact seq' h1 h2

/-- The end of a piece. -/
theorem Go.done {a : ℕ} {α : Type} (x : α) {φ : α → Prop} (h : φ x) : Go m K c Z a (pure x) a φ := by
  unfold Go
  exact done' x h

/-- An operation under a printed condition, and what follows it: made where the condition holds, else passed over. -/
theorem Go.guard {a b d : ℕ} {β : Type} {C : Prop} [Decidable C] {p : C → Prog (TpuEff nD τ sig (Elt F) Λ₀ .tc) PUnit} {k : Prog (TpuEff nD τ sig (Elt F) Λ₀ .tc) β}
    {ψ : β → Prop} (h1 : ∀ h : C, Go m K c Z a (p h) b fun _ => True) (h2 : ¬C → Skip m K c Z a b) (h3 : Go m K c Z b k d ψ) :
    Go m K c Z a (if h : C then (p h >>= fun _ => k) else k) d ψ := by
  by_cases h : C
  · rw [dif_pos h]; exact (h1 h).seq fun _ _ => h3
  · rw [dif_neg h]
    have h2 := h2 h
    unfold Skip at h2
    unfold Go at h3 ⊢
    exact h2.trans ((fupd_mono h3).trans (fupd_wp _ _ _ _ _))

/-- Asking for the device gives the device. -/
theorem device_step {P : sProp 𝕄} {Q : Dev nD → sProp 𝕄} (h : P ⊢ WP c (pure c : Prog (TpuEff nD τ sig (Elt F) Λ₀ .tc) (Dev nD)) Q) :
    P ⊢ WP c (Prog.lift TpuEff.deviceId : Prog (TpuEff nD τ sig (Elt F) Λ₀ .tc) (Dev nD)) Q := by
  have e : WP c (Prog.lift TpuEff.deviceId : Prog (TpuEff nD τ sig (Elt F) Λ₀ .tc) (Dev nD)) Q = WP c (pure c : Prog (TpuEff nD τ sig (Elt F) Λ₀ .tc) (Dev nD)) Q :=
    wp_deviceId _ (Dev.tc c : Thread nD τ) _ _
  rw [e]; exact h
/-- The device's number is read. -/
theorem Go.device {a : ℕ} : Go m K c Z a (Prog.lift .deviceId : Prog (TpuEff nD τ sig (Elt F) Λ₀ .tc) (Dev nD)) a fun x => x = c := by
  unfold Go
  exact device_step (done' c rfl)

/-! ## The operations -/

/-- A signal that is made. -/
theorem Go.signal (j : Fin 6) (hs : sigs c j = true) {p : Dev nD} (hp : p = peer j c) {a : ℕ} (ha : iSig j = a) :
    Go m K c Z a (semSignalWord p barS 1#32) (a + 1) fun _ => True := by
  subst ha; exact Go.of (sig_act m K c Z j hs p hp)
/-- A signal that is not made. -/
theorem Skip.signal (j : Fin 6) (hs : sigs c j = false) {a : ℕ} (ha : iSig j = a) : Skip m K c Z a (a + 1) := by
  subst ha; exact Skip.of (sig_skip m K c Z j hs)
/-- The wait on the barrier. -/
theorem Go.bar {n : BitVec 32} (hn : n.toInt = (nbar c : ℤ)) : Go m K c Z 6 (semWaitWord barS n) 7 fun _ => True :=
  Go.of (bar_step m K c Z n hn)

variable (ms : Msg)

/-- A send that is not made. -/
theorem Skip.send (h : act c ms.1 = false) {a : ℕ} (ha : iSend ms = a) : Skip m K c Z a (a + 1) := by
  subst ha; exact Skip.of (send_skip m K c Z ms h)
/-- A wait for a landing that is not made. -/
theorem Skip.recv (h : rac c ms.1 = false) {a : ℕ} (ha : iRecv ms = a) : Skip m K c Z a (a + 1) := by
  subst ha; exact Skip.of (recv_skip m K c Z ms h)
/-- A wait for a send that is not made. -/
theorem Skip.fin (h : act c ms.1 = false) {a : ℕ} (ha : iFin ms = a) : Skip m K c Z a (a + 1) := by
  subst ha; exact Skip.of (fin_skip m K c Z ms h)

/-- A send of 2048 rows of the own block. -/
theorem Go.dir2048 (hx : isX ms.1 = true) (ha : act c ms.1 = true) (hn : len ms.1 = 2048) (h12 : ms.1 = 12) {p : Dev nD} (hp : p = tgt c ms.1)
    {off : Fin 2 → ℕ} {inb : ∀ a, off a + S2048x1024.size a ≤ S32768x1024.size a} (hoff : off = ![landRow (tgt c ms.1) ms, 0])
    {off' : Fin 2 → ℕ} {inb' : ∀ a, off' a + S2048x1024.size a ≤ S8192x1024.size a} (hoff' : off' = ![srcRow c ms, 0])
    {sS sR : DmaSem sig} (hS : sS = sendSem ms) (hR : sR = recvSem ms)
    {hsc : (oM.slice (Rect.unit (s := S32768x1024) off S2048x1024.size inb) (fun _ => rfl) : Memref sig .tc .hbm S2048x1024 .f32).view.ref.isScScratch = false}
    {hsrc : (xM.slice (Rect.unit (s := S8192x1024) off' S2048x1024.size inb') (fun _ => rfl) : Memref sig .tc .hbm S2048x1024 .f32).view.WordExact} {hdst : (oM.slice (Rect.unit (s := S32768x1024) off S2048x1024.size inb) (fun _ => rfl) : Memref sig .tc .hbm S2048x1024 .f32).view.WordExact}
    {hsem : DmaTarget.Typed .hbm (.dma sR) (.remote (Dev.tc p : Thread nD τ) (oM.slice (Rect.unit (s := S32768x1024) off S2048x1024.size inb) (fun _ => rfl) : Memref sig .tc .hbm S2048x1024 .f32) (.dma sS) hsc)} {a : ℕ} (hat : iSend ms = a) :
    Go m K c Z a (Prog.lift (.enqueueDma (xM.slice (Rect.unit (s := S8192x1024) off' S2048x1024.size inb') (fun _ => rfl) : Memref sig .tc .hbm S2048x1024 .f32) (.remote (Dev.tc p : Thread nD τ) (oM.slice (Rect.unit (s := S32768x1024) off S2048x1024.size inb) (fun _ => rfl) : Memref sig .tc .hbm S2048x1024 .f32) (.dma sS) hsc) (.dma sR) hsrc hdst hsem)) (a + 1) fun _ => True := by
  subst hat
  exact Go.of (send_dir (n := 2048) m K c Z ms hx ha hn p hp off inb hoff off' inb' hoff' (congrArg SemLoc.dma hS) (congrArg SemLoc.dma hR) (amountO2048 off inb sR ms h12))
/-- A send of 1024 rows of the own block. -/
theorem Go.dir1024 (hx : isX ms.1 = true) (ha : act c ms.1 = true) (hn : len ms.1 = 1024) (h12 : ms.1 ≠ 12) {p : Dev nD} (hp : p = tgt c ms.1)
    {off : Fin 2 → ℕ} {inb : ∀ a, off a + S1024x1024.size a ≤ S32768x1024.size a} (hoff : off = ![landRow (tgt c ms.1) ms, 0])
    {off' : Fin 2 → ℕ} {inb' : ∀ a, off' a + S1024x1024.size a ≤ S8192x1024.size a} (hoff' : off' = ![srcRow c ms, 0])
    {sS sR : DmaSem sig} (hS : sS = sendSem ms) (hR : sR = recvSem ms)
    {hsc : (oM.slice (Rect.unit (s := S32768x1024) off S1024x1024.size inb) (fun _ => rfl) : Memref sig .tc .hbm S1024x1024 .f32).view.ref.isScScratch = false}
    {hsrc : (xM.slice (Rect.unit (s := S8192x1024) off' S1024x1024.size inb') (fun _ => rfl) : Memref sig .tc .hbm S1024x1024 .f32).view.WordExact} {hdst : (oM.slice (Rect.unit (s := S32768x1024) off S1024x1024.size inb) (fun _ => rfl) : Memref sig .tc .hbm S1024x1024 .f32).view.WordExact}
    {hsem : DmaTarget.Typed .hbm (.dma sR) (.remote (Dev.tc p : Thread nD τ) (oM.slice (Rect.unit (s := S32768x1024) off S1024x1024.size inb) (fun _ => rfl) : Memref sig .tc .hbm S1024x1024 .f32) (.dma sS) hsc)} {a : ℕ} (hat : iSend ms = a) :
    Go m K c Z a (Prog.lift (.enqueueDma (xM.slice (Rect.unit (s := S8192x1024) off' S1024x1024.size inb') (fun _ => rfl) : Memref sig .tc .hbm S1024x1024 .f32) (.remote (Dev.tc p : Thread nD τ) (oM.slice (Rect.unit (s := S32768x1024) off S1024x1024.size inb) (fun _ => rfl) : Memref sig .tc .hbm S1024x1024 .f32) (.dma sS) hsc) (.dma sR) hsrc hdst hsem)) (a + 1) fun _ => True := by
  subst hat
  exact Go.of (send_dir (n := 1024) m K c Z ms hx ha hn p hp off inb hoff off' inb' hoff' (congrArg SemLoc.dma hS) (congrArg SemLoc.dma hR) (amountO1024 off inb sR ms h12))
/-- A send of 1024 landed rows. -/
theorem Go.fwd (hx : isX ms.1 = false) (ha : act c ms.1 = true) (hn : len ms.1 = 1024) (h12 : ms.1 ≠ 12) {p : Dev nD} (hp : p = tgt c ms.1)
    {off : Fin 2 → ℕ} {inb : ∀ a, off a + S1024x1024.size a ≤ S32768x1024.size a} (hoff : off = ![landRow (tgt c ms.1) ms, 0])
    {off' : Fin 2 → ℕ} {inb' : ∀ a, off' a + S1024x1024.size a ≤ S32768x1024.size a} (hoff' : off' = ![landRow (tgt c ms.1) ms, 0])
    {sS sR : DmaSem sig} (hS : sS = sendSem ms) (hR : sR = recvSem ms)
    {hsc : (oM.slice (Rect.unit (s := S32768x1024) off S1024x1024.size inb) (fun _ => rfl) : Memref sig .tc .hbm S1024x1024 .f32).view.ref.isScScratch = false}
    {hsrc : (oM.slice (Rect.unit (s := S32768x1024) off' S1024x1024.size inb') (fun _ => rfl) : Memref sig .tc .hbm S1024x1024 .f32).view.WordExact} {hdst : (oM.slice (Rect.unit (s := S32768x1024) off S1024x1024.size inb) (fun _ => rfl) : Memref sig .tc .hbm S1024x1024 .f32).view.WordExact}
    {hsem : DmaTarget.Typed .hbm (.dma sR) (.remote (Dev.tc p : Thread nD τ) (oM.slice (Rect.unit (s := S32768x1024) off S1024x1024.size inb) (fun _ => rfl) : Memref sig .tc .hbm S1024x1024 .f32) (.dma sS) hsc)} {a : ℕ} (hat : iSend ms = a) :
    Go m K c Z a (Prog.lift (.enqueueDma (oM.slice (Rect.unit (s := S32768x1024) off' S1024x1024.size inb') (fun _ => rfl) : Memref sig .tc .hbm S1024x1024 .f32) (.remote (Dev.tc p : Thread nD τ) (oM.slice (Rect.unit (s := S32768x1024) off S1024x1024.size inb) (fun _ => rfl) : Memref sig .tc .hbm S1024x1024 .f32) (.dma sS) hsc) (.dma sR) hsrc hdst hsem)) (a + 1) fun _ => True := by
  subst hat
  exact Go.of (send_fwd (n := 1024) m K c Z ms hx ha hn p hp off inb hoff off' inb' hoff' (congrArg SemLoc.dma hS) (congrArg SemLoc.dma hR) (amountO1024 off inb sR ms h12))
/-- The wait for the landing of 2048 rows. -/
theorem Go.recv2048 (h : rac c ms.1 = true) (h12 : ms.1 = 12) {s' : Shape} {e' : EltTy} {sp' : Space} {w : Memref sig .tc sp' s' e'}
    {off : Fin 2 → ℕ} {inb : ∀ a, off a + S2048x1024.size a ≤ S32768x1024.size a} {sR : DmaSem sig} (hR : sR = recvSem ms)
    {hw : w.view.WordExact} {hb : (oM.slice (Rect.unit (s := S32768x1024) off S2048x1024.size inb) (fun _ => rfl) : Memref sig .tc .hbm S2048x1024 .f32).view.WordExact} {a : ℕ} (hat : iRecv ms = a) :
    Go m K c Z a (Prog.lift (.waitDma2 sR w (oM.slice (Rect.unit (s := S32768x1024) off S2048x1024.size inb) (fun _ => rfl) : Memref sig .tc .hbm S2048x1024 .f32) hw hb)) (a + 1) fun _ => True := by
  subst hat
  exact Go.of (recv_act m K c Z ms h hR (creditO2048 off inb ms h12))
/-- The wait for the landing of 1024 rows. -/
theorem Go.recv (h : rac c ms.1 = true) (h12 : ms.1 ≠ 12) {s' : Shape} {e' : EltTy} {sp' : Space} {w : Memref sig .tc sp' s' e'}
    {off : Fin 2 → ℕ} {inb : ∀ a, off a + S1024x1024.size a ≤ S32768x1024.size a} {sR : DmaSem sig} (hR : sR = recvSem ms)
    {hw : w.view.WordExact} {hb : (oM.slice (Rect.unit (s := S32768x1024) off S1024x1024.size inb) (fun _ => rfl) : Memref sig .tc .hbm S1024x1024 .f32).view.WordExact} {a : ℕ} (hat : iRecv ms = a) :
    Go m K c Z a (Prog.lift (.waitDma2 sR w (oM.slice (Rect.unit (s := S32768x1024) off S1024x1024.size inb) (fun _ => rfl) : Memref sig .tc .hbm S1024x1024 .f32) hw hb)) (a + 1) fun _ => True := by
  subst hat
  exact Go.of (recv_act m K c Z ms h hR (creditO1024 off inb ms h12))
/-- The wait for the send of 2048 rows of the own block. -/
theorem Go.fin2048 (h : act c ms.1 = true) (h12 : ms.1 = 12) {s' : Shape} {e' : EltTy} {sp' : Space} {w : Memref sig .tc sp' s' e'}
    {off : Fin 2 → ℕ} {inb : ∀ a, off a + S2048x1024.size a ≤ S8192x1024.size a} {sR : DmaSem sig} (hR : sR = sendSem ms)
    {hw : w.view.WordExact} {hb : (xM.slice (Rect.unit (s := S8192x1024) off S2048x1024.size inb) (fun _ => rfl) : Memref sig .tc .hbm S2048x1024 .f32).view.WordExact} {a : ℕ} (hat : iFin ms = a) :
    Go m K c Z a (Prog.lift (.waitDma2 sR w (xM.slice (Rect.unit (s := S8192x1024) off S2048x1024.size inb) (fun _ => rfl) : Memref sig .tc .hbm S2048x1024 .f32) hw hb)) (a + 1) fun _ => True := by
  subst hat
  exact Go.of (fin_act m K c Z ms h hR (creditX2048 off inb ms h12))
/-- The wait for the send of 1024 rows of the own block. -/
theorem Go.finX (h : act c ms.1 = true) (h12 : ms.1 ≠ 12) {s' : Shape} {e' : EltTy} {sp' : Space} {w : Memref sig .tc sp' s' e'}
    {off : Fin 2 → ℕ} {inb : ∀ a, off a + S1024x1024.size a ≤ S8192x1024.size a} {sR : DmaSem sig} (hR : sR = sendSem ms)
    {hw : w.view.WordExact} {hb : (xM.slice (Rect.unit (s := S8192x1024) off S1024x1024.size inb) (fun _ => rfl) : Memref sig .tc .hbm S1024x1024 .f32).view.WordExact} {a : ℕ} (hat : iFin ms = a) :
    Go m K c Z a (Prog.lift (.waitDma2 sR w (xM.slice (Rect.unit (s := S8192x1024) off S1024x1024.size inb) (fun _ => rfl) : Memref sig .tc .hbm S1024x1024 .f32) hw hb)) (a + 1) fun _ => True := by
  subst hat
  exact Go.of (fin_act m K c Z ms h hR (creditX1024 off inb ms h12))
/-- The wait for the send of 1024 landed rows. -/
theorem Go.finO (h : act c ms.1 = true) (h12 : ms.1 ≠ 12) {s' : Shape} {e' : EltTy} {sp' : Space} {w : Memref sig .tc sp' s' e'}
    {off : Fin 2 → ℕ} {inb : ∀ a, off a + S1024x1024.size a ≤ S32768x1024.size a} {sR : DmaSem sig} (hR : sR = sendSem ms)
    {hw : w.view.WordExact} {hb : (oM.slice (Rect.unit (s := S32768x1024) off S1024x1024.size inb) (fun _ => rfl) : Memref sig .tc .hbm S1024x1024 .f32).view.WordExact} {a : ℕ} (hat : iFin ms = a) :
    Go m K c Z a (Prog.lift (.waitDma2 sR w (oM.slice (Rect.unit (s := S32768x1024) off S1024x1024.size inb) (fun _ => rfl) : Memref sig .tc .hbm S1024x1024 .f32) hw hb)) (a + 1) fun _ => True := by
  subst hat
  exact Go.of (fin_act m K c Z ms h hR (creditO1024 off inb ms h12))

end Cert.GatherIdealProof

end
-- ==== Proof.IBodyA.lean ====
/-
The program's parts 3 to 9, each leading from the position it starts at to the position the next starts at.
-/
module

public import proofs.«01_k».proof.Proof.IGo

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ) (c : Dev nD) (Z : sProp (MT nD τ sig Unit (Elt F) ℕ UU ℕ))

variable {m K c Z}

/-- Part 3: operations 1 to 5. -/
theorem part_3 {v2 : BitVec 32} {v5 : BitVec 32} {v8 : BitVec 32} {v60 : BitVec 32} {c1_i32_49 : BitVec 32} :
    Go m K c Z 1 (k0_part3 (F := F) xM (Memref.isWhole_whole _) oM (Memref.isWhole_whole _) cc0_scratch0 cc0_scratch1 cc0_scratch2 c v2 v5 v8 (SemArray.scalar (sig.barrier 0 rfl)) v60 c1_i32_49) 6 fun _ => True := by
  rw [k0_part3_eq_skeleton]; unfold k0_part3_skel
  refine Go.seq (b := 2) (Go.signal 1 (on_1 c).1 (Fin.ext (on_1 c).2) rfl) fun _ _ => ?_
  refine Go.guard (b := 3) (fun h => ?_) (fun h => ?_) ?_
  · exact Go.signal 2 (on_2 c h).1 (Fin.ext (on_2 c h).2) rfl
  · exact Skip.signal 2 (off_2 c h) rfl
  refine Go.guard (b := 4) (fun h => ?_) (fun h => ?_) ?_
  · exact Go.signal 3 (on_3 c h).1 (Fin.ext (on_3 c h).2) rfl
  · exact Skip.signal 3 (off_3 c h) rfl
  refine Go.guard (b := 5) (fun h => ?_) (fun h => ?_) ?_
  · exact Go.signal 4 (on_4 c h).1 (Fin.ext (on_4 c h).2) rfl
  · exact Skip.signal 4 (off_4 c h) rfl
  refine Go.guard (b := 6) (fun h => ?_) (fun h => ?_) ?_
  · exact Go.signal 5 (on_5 c h).1 (Fin.ext (on_5 c h).2) rfl
  · exact Skip.signal 5 (off_5 c h) rfl
  exact Go.done _ trivial

/-- Part 4: operations 6 to 8. -/
theorem part_4 {v2 : BitVec 32} {v5 : BitVec 32} {v8 : BitVec 32} :
    Go m K c Z 6 (k0_part4 (F := F) xM (Memref.isWhole_whole _) oM (Memref.isWhole_whole _) cc0_scratch0 cc0_scratch1 cc0_scratch2 c v2 v5 v8 (SemArray.scalar (sig.barrier 0 rfl))) 9 fun _ => True := by
  rw [k0_part4_eq_skeleton]; unfold k0_part4_skel
  refine Go.seq (b := 7) (Go.bar (on_6 c)) fun _ _ => ?_
  refine Go.seq (b := 8) (Go.dir2048 (12, 0) rfl (on_7 c).1 rfl rfl (Fin.ext (on_7 c).2.1) (on_7 c).2.2.1 (on_7 c).2.2.2 rfl rfl rfl) fun _ _ => ?_
  refine Go.seq (b := 9) (Go.dir2048 (12, 1) rfl (on_8 c).1 rfl rfl (Fin.ext (on_8 c).2.1) (on_8 c).2.2.1 (on_8 c).2.2.2 rfl rfl rfl) fun _ _ => ?_
  exact Go.done _ trivial

/-- Part 5: operations 9 to 10. -/
theorem part_5 {v5 : BitVec 32} {v8 : BitVec 32} {v9 : BitVec 32} {v95 : BitVec 32} :
    Go m K c Z 9 (k0_part5 (F := F) xM (Memref.isWhole_whole _) oM (Memref.isWhole_whole _) cc0_scratch0 cc0_scratch1 cc0_scratch2 c v5 v8 v9 v95) 11 fun _ => True := by
  rw [k0_part5_eq_skeleton]; unfold k0_part5_skel
  refine Go.seq (b := 10) (Go.dir2048 (12, 2) rfl (on_9 c).1 rfl rfl (Fin.ext (on_9 c).2.1) (on_9 c).2.2.1 (on_9 c).2.2.2 rfl rfl rfl) fun _ _ => ?_
  refine Go.seq (b := 11) (Go.dir2048 (12, 3) rfl (on_10 c).1 rfl rfl (Fin.ext (on_10 c).2.1) (on_10 c).2.2.1 (on_10 c).2.2.2 rfl rfl rfl) fun _ _ => ?_
  exact Go.done _ trivial

/-- Part 6: operations 11 to 14. -/
theorem part_6 {v2 : BitVec 32} {v5 : BitVec 32} {v8 : BitVec 32} {v9 : BitVec 32} {v21 : BitVec 1} {v23 : BitVec 32} {v153 : BitVec 32} :
    Go m K c Z 11 (k0_part6 (F := F) xM (Memref.isWhole_whole _) oM (Memref.isWhole_whole _) cc0_scratch0 cc0_scratch1 cc0_scratch2 c v2 v5 v8 v9 v21 v23 v153) 15 fun _ => True := by
  rw [k0_part6_eq_skeleton]; unfold k0_part6_skel
  refine Go.guard (b := 12) (fun h => ?_) (fun h => ?_) ?_
  · exact Go.dir1024 (1, 0) rfl (on_11 c h).1 rfl (by decide) (Fin.ext (on_11 c h).2.1) (on_11 c h).2.2.1 (on_11 c h).2.2.2 rfl rfl rfl
  · exact Skip.send (1, 0) (off_11 c h) rfl
  refine Go.guard (b := 13) (fun h => ?_) (fun h => ?_) ?_
  · exact Go.dir1024 (1, 1) rfl (on_12 c h).1 rfl (by decide) (Fin.ext (on_12 c h).2.1) (on_12 c h).2.2.1 (on_12 c h).2.2.2 rfl rfl rfl
  · exact Skip.send (1, 1) (off_12 c h) rfl
  refine Go.guard (b := 14) (fun h => ?_) (fun h => ?_) ?_
  · exact Go.dir1024 (1, 2) rfl (on_13 c h).1 rfl (by decide) (Fin.ext (on_13 c h).2.1) (on_13 c h).2.2.1 (on_13 c h).2.2.2 rfl rfl rfl
  · exact Skip.send (1, 2) (off_13 c h) rfl
  refine Go.guard (b := 15) (fun h => ?_) (fun h => ?_) ?_
  · exact Go.dir1024 (1, 3) rfl (on_14 c h).1 rfl (by decide) (Fin.ext (on_14 c h).2.1) (on_14 c h).2.2.1 (on_14 c h).2.2.2 rfl rfl rfl
  · exact Skip.send (1, 3) (off_14 c h) rfl
  exact Go.done _ trivial

/-- Part 7: operations 15 to 18. -/
theorem part_7 {v2 : BitVec 32} {v5 : BitVec 32} {v8 : BitVec 32} {v9 : BitVec 32} {v37 : BitVec 1} {v39 : BitVec 32} {v177 : BitVec 32} :
    Go m K c Z 15 (k0_part7 (F := F) xM (Memref.isWhole_whole _) oM (Memref.isWhole_whole _) cc0_scratch0 cc0_scratch1 cc0_scratch2 c v2 v5 v8 v9 v37 v39 v177) 19 fun _ => True := by
  rw [k0_part7_eq_skeleton]; unfold k0_part7_skel
  refine Go.guard (b := 16) (fun h => ?_) (fun h => ?_) ?_
  · exact Go.dir1024 (3, 0) rfl (on_15 c h).1 rfl (by decide) (Fin.ext (on_15 c h).2.1) (on_15 c h).2.2.1 (on_15 c h).2.2.2 rfl rfl rfl
  · exact Skip.send (3, 0) (off_15 c h) rfl
  refine Go.guard (b := 17) (fun h => ?_) (fun h => ?_) ?_
  · exact Go.dir1024 (3, 1) rfl (on_16 c h).1 rfl (by decide) (Fin.ext (on_16 c h).2.1) (on_16 c h).2.2.1 (on_16 c h).2.2.2 rfl rfl rfl
  · exact Skip.send (3, 1) (off_16 c h) rfl
  refine Go.guard (b := 18) (fun h => ?_) (fun h => ?_) ?_
  · exact Go.dir1024 (3, 2) rfl (on_17 c h).1 rfl (by decide) (Fin.ext (on_17 c h).2.1) (on_17 c h).2.2.1 (on_17 c h).2.2.2 rfl rfl rfl
  · exact Skip.send (3, 2) (off_17 c h) rfl
  refine Go.guard (b := 19) (fun h => ?_) (fun h => ?_) ?_
  · exact Go.dir1024 (3, 3) rfl (on_18 c h).1 rfl (by decide) (Fin.ext (on_18 c h).2.1) (on_18 c h).2.2.1 (on_18 c h).2.2.2 rfl rfl rfl
  · exact Skip.send (3, 3) (off_18 c h) rfl
  exact Go.done _ trivial

/-- Part 8: operations 19 to 22. -/
theorem part_8 {v2 : BitVec 32} {v5 : BitVec 32} {v8 : BitVec 32} {v9 : BitVec 32} {v13 : BitVec 1} {v15 : BitVec 32} {v201 : BitVec 32} :
    Go m K c Z 19 (k0_part8 (F := F) xM (Memref.isWhole_whole _) oM (Memref.isWhole_whole _) cc0_scratch0 cc0_scratch1 cc0_scratch2 c v2 v5 v8 v9 v13 v15 v201) 23 fun _ => True := by
  rw [k0_part8_eq_skeleton]; unfold k0_part8_skel
  refine Go.guard (b := 20) (fun h => ?_) (fun h => ?_) ?_
  · exact Go.dir1024 (0, 0) rfl (on_19 c h).1 rfl (by decide) (Fin.ext (on_19 c h).2.1) (on_19 c h).2.2.1 (on_19 c h).2.2.2 rfl rfl rfl
  · exact Skip.send (0, 0) (off_19 c h) rfl
  refine Go.guard (b := 21) (fun h => ?_) (fun h => ?_) ?_
  · exact Go.dir1024 (0, 1) rfl (on_20 c h).1 rfl (by decide) (Fin.ext (on_20 c h).2.1) (on_20 c h).2.2.1 (on_20 c h).2.2.2 rfl rfl rfl
  · exact Skip.send (0, 1) (off_20 c h) rfl
  refine Go.guard (b := 22) (fun h => ?_) (fun h => ?_) ?_
  · exact Go.dir1024 (0, 2) rfl (on_21 c h).1 rfl (by decide) (Fin.ext (on_21 c h).2.1) (on_21 c h).2.2.1 (on_21 c h).2.2.2 rfl rfl rfl
  · exact Skip.send (0, 2) (off_21 c h) rfl
  refine Go.guard (b := 23) (fun h => ?_) (fun h => ?_) ?_
  · exact Go.dir1024 (0, 3) rfl (on_22 c h).1 rfl (by decide) (Fin.ext (on_22 c h).2.1) (on_22 c h).2.2.1 (on_22 c h).2.2.2 rfl rfl rfl
  · exact Skip.send (0, 3) (off_22 c h) rfl
  exact Go.done _ trivial

/-- Part 9: operations 23 to 26. -/
theorem part_9 {v2 : BitVec 32} {v5 : BitVec 32} {v8 : BitVec 32} {v9 : BitVec 32} {v28 : BitVec 32} {v29 : BitVec 1} {v31 : BitVec 32} {v225 : BitVec 32} :
    Go m K c Z 23 (k0_part9 (F := F) xM (Memref.isWhole_whole _) oM (Memref.isWhole_whole _) cc0_scratch0 cc0_scratch1 cc0_scratch2 c v2 v5 v8 v9 v28 v29 v31 v225) 27 fun _ => True := by
  rw [k0_part9_eq_skeleton]; unfold k0_part9_skel
  refine Go.guard (b := 24) (fun h => ?_) (fun h => ?_) ?_
  · exact Go.dir1024 (2, 0) rfl (on_23 c h).1 rfl (by decide) (Fin.ext (on_23 c h).2.1) (on_23 c h).2.2.1 (on_23 c h).2.2.2 rfl rfl rfl
  · exact Skip.send (2, 0) (off_23 c h) rfl
  refine Go.guard (b := 25) (fun h => ?_) (fun h => ?_) ?_
  · exact Go.dir1024 (2, 1) rfl (on_24 c h).1 rfl (by decide) (Fin.ext (on_24 c h).2.1) (on_24 c h).2.2.1 (on_24 c h).2.2.2 rfl rfl rfl
  · exact Skip.send (2, 1) (off_24 c h) rfl
  refine Go.guard (b := 26) (fun h => ?_) (fun h => ?_) ?_
  · exact Go.dir1024 (2, 2) rfl (on_25 c h).1 rfl (by decide) (Fin.ext (on_25 c h).2.1) (on_25 c h).2.2.1 (on_25 c h).2.2.2 rfl rfl rfl
  · exact Skip.send (2, 2) (off_25 c h) rfl
  refine Go.guard (b := 27) (fun h => ?_) (fun h => ?_) ?_
  · exact Go.dir1024 (2, 3) rfl (on_26 c h).1 rfl (by decide) (Fin.ext (on_26 c h).2.1) (on_26 c h).2.2.1 (on_26 c h).2.2.2 rfl rfl rfl
  · exact Skip.send (2, 3) (off_26 c h) rfl
  exact Go.done _ trivial

end Cert.GatherIdealProof

end
-- ==== Proof.IBodyB.lean ====
/-
The program's parts 10 to 15, each leading from the position it starts at to the position the next starts at.
-/
module

public import proofs.«01_k».proof.Proof.IGo

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ) (c : Dev nD) (Z : sProp (MT nD τ sig Unit (Elt F) ℕ UU ℕ))

variable {m K c Z}

/-- Part 10: operations 27 to 30. -/
theorem part_10 {v2 : BitVec 32} {v5 : BitVec 32} {v8 : BitVec 32} {v9 : BitVec 32} {v12 : BitVec 32} {v24 : BitVec 1} {v26 : BitVec 32} {v28 : BitVec 32} {v40 : BitVec 1} {v42 : BitVec 32} {v44 : BitVec 32} {v45 : BitVec 1} {v47 : BitVec 1} {v249 : BitVec 32} {c0_i32_247 : BitVec 32} :
    Go m K c Z 27 (k0_part10 (F := F) xM (Memref.isWhole_whole _) oM (Memref.isWhole_whole _) cc0_scratch0 cc0_scratch1 cc0_scratch2 c v2 v5 v8 v9 v12 v24 v26 v28 v40 v42 v44 v45 v47 v249 c0_i32_247) 31 fun _ => True := by
  rw [k0_part10_eq_skeleton]; unfold k0_part10_skel
  refine Go.guard (b := 28) (fun h => ?_) (fun h => ?_) ?_
  · exact Go.recv (1, 0) (on_27 c h) (by decide) rfl rfl
  · exact Skip.recv (1, 0) (off_27 c h) rfl
  refine Go.guard (b := 29) (fun h => ?_) (fun h => ?_) ?_
  · exact Go.fwd (4, 0) rfl (on_28 c h).1 rfl (by decide) (Fin.ext (on_28 c h).2.1) (on_28 c h).2.2 (on_28 c h).2.2 rfl rfl rfl
  · exact Skip.send (4, 0) (off_28 c h) rfl
  refine Go.guard (b := 30) (fun h => ?_) (fun h => ?_) ?_
  · exact Go.fwd (7, 0) rfl (on_29 c h).1 rfl (by decide) (Fin.ext (on_29 c h).2.1) (on_29 c h).2.2 (on_29 c h).2.2 rfl rfl rfl
  · exact Skip.send (7, 0) (off_29 c h) rfl
  refine Go.guard (b := 31) (fun h => ?_) (fun h => ?_) ?_
  · exact Go.recv (3, 0) (on_30 c h) (by decide) rfl rfl
  · exact Skip.recv (3, 0) (off_30 c h) rfl
  exact Go.done _ trivial

/-- Part 11: operations 31 to 35. -/
theorem part_11 {v2 : BitVec 32} {v5 : BitVec 32} {v8 : BitVec 32} {v9 : BitVec 32} {v12 : BitVec 32} {v16 : BitVec 1} {v18 : BitVec 32} {v20 : BitVec 32} {v32 : BitVec 1} {v34 : BitVec 32} {v36 : BitVec 32} {v40 : BitVec 1} {v44 : BitVec 32} {v271 : BitVec 32} :
    Go m K c Z 31 (k0_part11 (F := F) xM (Memref.isWhole_whole _) oM (Memref.isWhole_whole _) cc0_scratch0 cc0_scratch1 cc0_scratch2 c v2 v5 v8 v9 v12 v16 v18 v20 v32 v34 v36 v40 v44 v271) 36 fun _ => True := by
  rw [k0_part11_eq_skeleton]; unfold k0_part11_skel
  refine Go.guard (b := 32) (fun h => ?_) (fun h => ?_) ?_
  · exact Go.fwd (5, 0) rfl (on_31 c h).1 rfl (by decide) (Fin.ext (on_31 c h).2.1) (on_31 c h).2.2 (on_31 c h).2.2 rfl rfl rfl
  · exact Skip.send (5, 0) (off_31 c h) rfl
  refine Go.guard (b := 33) (fun h => ?_) (fun h => ?_) ?_
  · exact Go.fwd (9, 0) rfl (on_32 c h).1 rfl (by decide) (Fin.ext (on_32 c h).2.1) (on_32 c h).2.2 (on_32 c h).2.2 rfl rfl rfl
  · exact Skip.send (9, 0) (off_32 c h) rfl
  refine Go.guard (b := 34) (fun h => ?_) (fun h => ?_) ?_
  · exact Go.recv (0, 0) (on_33 c h) (by decide) rfl rfl
  · exact Skip.recv (0, 0) (off_33 c h) rfl
  refine Go.guard (b := 35) (fun h => ?_) (fun h => ?_) ?_
  · exact Go.fwd (6, 0) rfl (on_34 c h).1 rfl (by decide) (Fin.ext (on_34 c h).2.1) (on_34 c h).2.2 (on_34 c h).2.2 rfl rfl rfl
  · exact Skip.send (6, 0) (off_34 c h) rfl
  refine Go.guard (b := 36) (fun h => ?_) (fun h => ?_) ?_
  · exact Go.recv (2, 0) (on_35 c h) (by decide) rfl rfl
  · exact Skip.recv (2, 0) (off_35 c h) rfl
  exact Go.done _ trivial

/-- Part 12: operations 36 to 39. -/
theorem part_12 {v2 : BitVec 32} {v5 : BitVec 32} {v8 : BitVec 32} {v9 : BitVec 32} {v12 : BitVec 32} {v24 : BitVec 1} {v26 : BitVec 32} {v28 : BitVec 32} {v32 : BitVec 1} {v40 : BitVec 1} {v44 : BitVec 32} {v45 : BitVec 1} :
    Go m K c Z 36 (k0_part12 (F := F) xM (Memref.isWhole_whole _) oM (Memref.isWhole_whole _) cc0_scratch0 cc0_scratch1 cc0_scratch2 c v2 v5 v8 v9 v12 v24 v26 v28 v32 v40 v44 v45) 40 fun _ => True := by
  rw [k0_part12_eq_skeleton]; unfold k0_part12_skel
  refine Go.guard (b := 37) (fun h => ?_) (fun h => ?_) ?_
  · exact Go.fwd (8, 0) rfl (on_36 c h).1 rfl (by decide) (Fin.ext (on_36 c h).2.1) (on_36 c h).2.2 (on_36 c h).2.2 rfl rfl rfl
  · exact Skip.send (8, 0) (off_36 c h) rfl
  refine Go.guard (b := 38) (fun h => ?_) (fun h => ?_) ?_
  · exact Go.recv (1, 1) (on_37 c h) (by decide) rfl rfl
  · exact Skip.recv (1, 1) (off_37 c h) rfl
  refine Go.guard (b := 39) (fun h => ?_) (fun h => ?_) ?_
  · exact Go.fwd (4, 1) rfl (on_38 c h).1 rfl (by decide) (Fin.ext (on_38 c h).2.1) (on_38 c h).2.2 (on_38 c h).2.2 rfl rfl rfl
  · exact Skip.send (4, 1) (off_38 c h) rfl
  refine Go.guard (b := 40) (fun h => ?_) (fun h => ?_) ?_
  · exact Go.fwd (7, 1) rfl (on_39 c h).1 rfl (by decide) (Fin.ext (on_39 c h).2.1) (on_39 c h).2.2 (on_39 c h).2.2 rfl rfl rfl
  · exact Skip.send (7, 1) (off_39 c h) rfl
  exact Go.done _ trivial

/-- Part 13: operations 40 to 44. -/
theorem part_13 {v2 : BitVec 32} {v5 : BitVec 32} {v8 : BitVec 32} {v9 : BitVec 32} {v12 : BitVec 32} {v16 : BitVec 1} {v18 : BitVec 32} {v20 : BitVec 32} {v32 : BitVec 1} {v36 : BitVec 32} {v40 : BitVec 1} {v42 : BitVec 32} {v44 : BitVec 32} {v47 : BitVec 1} :
    Go m K c Z 40 (k0_part13 (F := F) xM (Memref.isWhole_whole _) oM (Memref.isWhole_whole _) cc0_scratch0 cc0_scratch1 cc0_scratch2 c v2 v5 v8 v9 v12 v16 v18 v20 v32 v36 v40 v42 v44 v47) 45 fun _ => True := by
  rw [k0_part13_eq_skeleton]; unfold k0_part13_skel
  refine Go.guard (b := 41) (fun h => ?_) (fun h => ?_) ?_
  · exact Go.recv (3, 1) (on_40 c h) (by decide) rfl rfl
  · exact Skip.recv (3, 1) (off_40 c h) rfl
  refine Go.guard (b := 42) (fun h => ?_) (fun h => ?_) ?_
  · exact Go.fwd (5, 1) rfl (on_41 c h).1 rfl (by decide) (Fin.ext (on_41 c h).2.1) (on_41 c h).2.2 (on_41 c h).2.2 rfl rfl rfl
  · exact Skip.send (5, 1) (off_41 c h) rfl
  refine Go.guard (b := 43) (fun h => ?_) (fun h => ?_) ?_
  · exact Go.fwd (9, 1) rfl (on_42 c h).1 rfl (by decide) (Fin.ext (on_42 c h).2.1) (on_42 c h).2.2 (on_42 c h).2.2 rfl rfl rfl
  · exact Skip.send (9, 1) (off_42 c h) rfl
  refine Go.guard (b := 44) (fun h => ?_) (fun h => ?_) ?_
  · exact Go.recv (0, 1) (on_43 c h) (by decide) rfl rfl
  · exact Skip.recv (0, 1) (off_43 c h) rfl
  refine Go.guard (b := 45) (fun h => ?_) (fun h => ?_) ?_
  · exact Go.fwd (6, 1) rfl (on_44 c h).1 rfl (by decide) (Fin.ext (on_44 c h).2.1) (on_44 c h).2.2 (on_44 c h).2.2 rfl rfl rfl
  · exact Skip.send (6, 1) (off_44 c h) rfl
  exact Go.done _ trivial

/-- Part 14: operations 45 to 49. -/
theorem part_14 {v2 : BitVec 32} {v5 : BitVec 32} {v8 : BitVec 32} {v9 : BitVec 32} {v12 : BitVec 32} {v24 : BitVec 1} {v26 : BitVec 32} {v28 : BitVec 32} {v32 : BitVec 1} {v34 : BitVec 32} {v36 : BitVec 32} {v45 : BitVec 1} {v341 : BitVec 32} :
    Go m K c Z 45 (k0_part14 (F := F) xM (Memref.isWhole_whole _) oM (Memref.isWhole_whole _) cc0_scratch0 cc0_scratch1 cc0_scratch2 c v2 v5 v8 v9 v12 v24 v26 v28 v32 v34 v36 v45 v341) 50 fun _ => True := by
  rw [k0_part14_eq_skeleton]; unfold k0_part14_skel
  refine Go.guard (b := 46) (fun h => ?_) (fun h => ?_) ?_
  · exact Go.recv (2, 1) (on_45 c h) (by decide) rfl rfl
  · exact Skip.recv (2, 1) (off_45 c h) rfl
  refine Go.guard (b := 47) (fun h => ?_) (fun h => ?_) ?_
  · exact Go.fwd (8, 1) rfl (on_46 c h).1 rfl (by decide) (Fin.ext (on_46 c h).2.1) (on_46 c h).2.2 (on_46 c h).2.2 rfl rfl rfl
  · exact Skip.send (8, 1) (off_46 c h) rfl
  refine Go.guard (b := 48) (fun h => ?_) (fun h => ?_) ?_
  · exact Go.recv (1, 2) (on_47 c h) (by decide) rfl rfl
  · exact Skip.recv (1, 2) (off_47 c h) rfl
  refine Go.guard (b := 49) (fun h => ?_) (fun h => ?_) ?_
  · exact Go.fwd (4, 2) rfl (on_48 c h).1 rfl (by decide) (Fin.ext (on_48 c h).2.1) (on_48 c h).2.2 (on_48 c h).2.2 rfl rfl rfl
  · exact Skip.send (4, 2) (off_48 c h) rfl
  refine Go.guard (b := 50) (fun h => ?_) (fun h => ?_) ?_
  · exact Go.fwd (7, 2) rfl (on_49 c h).1 rfl (by decide) (Fin.ext (on_49 c h).2.1) (on_49 c h).2.2 (on_49 c h).2.2 rfl rfl rfl
  · exact Skip.send (7, 2) (off_49 c h) rfl
  exact Go.done _ trivial

/-- Part 15: operations 50 to 53. -/
theorem part_15 {v2 : BitVec 32} {v5 : BitVec 32} {v8 : BitVec 32} {v9 : BitVec 32} {v12 : BitVec 32} {v16 : BitVec 1} {v18 : BitVec 32} {v20 : BitVec 32} {v40 : BitVec 1} {v42 : BitVec 32} {v44 : BitVec 32} {v47 : BitVec 1} :
    Go m K c Z 50 (k0_part15 (F := F) xM (Memref.isWhole_whole _) oM (Memref.isWhole_whole _) cc0_scratch0 cc0_scratch1 cc0_scratch2 c v2 v5 v8 v9 v12 v16 v18 v20 v40 v42 v44 v47) 54 fun _ => True := by
  rw [k0_part15_eq_skeleton]; unfold k0_part15_skel
  refine Go.guard (b := 51) (fun h => ?_) (fun h => ?_) ?_
  · exact Go.recv (3, 2) (on_50 c h) (by decide) rfl rfl
  · exact Skip.recv (3, 2) (off_50 c h) rfl
  refine Go.guard (b := 52) (fun h => ?_) (fun h => ?_) ?_
  · exact Go.fwd (5, 2) rfl (on_51 c h).1 rfl (by decide) (Fin.ext (on_51 c h).2.1) (on_51 c h).2.2 (on_51 c h).2.2 rfl rfl rfl
  · exact Skip.send (5, 2) (off_51 c h) rfl
  refine Go.guard (b := 53) (fun h => ?_) (fun h => ?_) ?_
  · exact Go.fwd (9, 2) rfl (on_52 c h).1 rfl (by decide) (Fin.ext (on_52 c h).2.1) (on_52 c h).2.2 (on_52 c h).2.2 rfl rfl rfl
  · exact Skip.send (9, 2) (off_52 c h) rfl
  refine Go.guard (b := 54) (fun h => ?_) (fun h => ?_) ?_
  · exact Go.recv (0, 2) (on_53 c h) (by decide) rfl rfl
  · exact Skip.recv (0, 2) (off_53 c h) rfl
  exact Go.done _ trivial

end Cert.GatherIdealProof

end
-- ==== Proof.IBodyC.lean ====
/-
The program's parts 16 to 21, each leading from the position it starts at to the position the next starts at.
-/
module

public import proofs.«01_k».proof.Proof.IGo

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ) (c : Dev nD) (Z : sProp (MT nD τ sig Unit (Elt F) ℕ UU ℕ))

variable {m K c Z}

/-- Part 16: operations 54 to 58. -/
theorem part_16 {v2 : BitVec 32} {v5 : BitVec 32} {v8 : BitVec 32} {v9 : BitVec 32} {v12 : BitVec 32} {v24 : BitVec 1} {v26 : BitVec 32} {v28 : BitVec 32} {v32 : BitVec 1} {v34 : BitVec 32} {v36 : BitVec 32} {v45 : BitVec 1} {v386 : BitVec 32} :
    Go m K c Z 54 (k0_part16 (F := F) xM (Memref.isWhole_whole _) oM (Memref.isWhole_whole _) cc0_scratch0 cc0_scratch1 cc0_scratch2 c v2 v5 v8 v9 v12 v24 v26 v28 v32 v34 v36 v45 v386) 59 fun _ => True := by
  rw [k0_part16_eq_skeleton]; unfold k0_part16_skel
  refine Go.guard (b := 55) (fun h => ?_) (fun h => ?_) ?_
  · exact Go.fwd (6, 2) rfl (on_54 c h).1 rfl (by decide) (Fin.ext (on_54 c h).2.1) (on_54 c h).2.2 (on_54 c h).2.2 rfl rfl rfl
  · exact Skip.send (6, 2) (off_54 c h) rfl
  refine Go.guard (b := 56) (fun h => ?_) (fun h => ?_) ?_
  · exact Go.recv (2, 2) (on_55 c h) (by decide) rfl rfl
  · exact Skip.recv (2, 2) (off_55 c h) rfl
  refine Go.guard (b := 57) (fun h => ?_) (fun h => ?_) ?_
  · exact Go.fwd (8, 2) rfl (on_56 c h).1 rfl (by decide) (Fin.ext (on_56 c h).2.1) (on_56 c h).2.2 (on_56 c h).2.2 rfl rfl rfl
  · exact Skip.send (8, 2) (off_56 c h) rfl
  refine Go.guard (b := 58) (fun h => ?_) (fun h => ?_) ?_
  · exact Go.recv (1, 3) (on_57 c h) (by decide) rfl rfl
  · exact Skip.recv (1, 3) (off_57 c h) rfl
  refine Go.guard (b := 59) (fun h => ?_) (fun h => ?_) ?_
  · exact Go.fwd (4, 3) rfl (on_58 c h).1 rfl (by decide) (Fin.ext (on_58 c h).2.1) (on_58 c h).2.2 (on_58 c h).2.2 rfl rfl rfl
  · exact Skip.send (4, 3) (off_58 c h) rfl
  exact Go.done _ trivial

/-- Part 17: operations 59 to 62. -/
theorem part_17 {v2 : BitVec 32} {v5 : BitVec 32} {v8 : BitVec 32} {v9 : BitVec 32} {v12 : BitVec 32} {v16 : BitVec 1} {v20 : BitVec 32} {v24 : BitVec 1} {v28 : BitVec 32} {v40 : BitVec 1} {v42 : BitVec 32} {v44 : BitVec 32} {v47 : BitVec 1} {c8192_i32_473 : BitVec 32} :
    Go m K c Z 59 (k0_part17 (F := F) xM (Memref.isWhole_whole _) oM (Memref.isWhole_whole _) cc0_scratch0 cc0_scratch1 cc0_scratch2 c v2 v5 v8 v9 v12 v16 v20 v24 v28 v40 v42 v44 v47 c8192_i32_473) 63 fun _ => True := by
  rw [k0_part17_eq_skeleton]; unfold k0_part17_skel
  refine Go.guard (b := 60) (fun h => ?_) (fun h => ?_) ?_
  · exact Go.fwd (7, 3) rfl (on_59 c h).1 rfl (by decide) (Fin.ext (on_59 c h).2.1) (on_59 c h).2.2 (on_59 c h).2.2 rfl rfl rfl
  · exact Skip.send (7, 3) (off_59 c h) rfl
  refine Go.guard (b := 61) (fun h => ?_) (fun h => ?_) ?_
  · exact Go.recv (3, 3) (on_60 c h) (by decide) rfl rfl
  · exact Skip.recv (3, 3) (off_60 c h) rfl
  refine Go.guard (b := 62) (fun h => ?_) (fun h => ?_) ?_
  · exact Go.fwd (5, 3) rfl (on_61 c h).1 rfl (by decide) (Fin.ext (on_61 c h).2.1) (on_61 c h).2.2 (on_61 c h).2.2 rfl rfl rfl
  · exact Skip.send (5, 3) (off_61 c h) rfl
  refine Go.guard (b := 63) (fun h => ?_) (fun h => ?_) ?_
  · exact Go.fwd (9, 3) rfl (on_62 c h).1 rfl (by decide) (Fin.ext (on_62 c h).2.1) (on_62 c h).2.2 (on_62 c h).2.2 rfl rfl rfl
  · exact Skip.send (9, 3) (off_62 c h) rfl
  exact Go.done _ trivial

/-- Part 18: operations 63 to 67. -/
theorem part_18 {v2 : BitVec 32} {v5 : BitVec 32} {v8 : BitVec 32} {v9 : BitVec 32} {v12 : BitVec 32} {v16 : BitVec 1} {v18 : BitVec 32} {v20 : BitVec 32} {v32 : BitVec 1} {v34 : BitVec 32} {v36 : BitVec 32} {v46 : BitVec 1} {v431 : BitVec 32} :
    Go m K c Z 63 (k0_part18 (F := F) xM (Memref.isWhole_whole _) oM (Memref.isWhole_whole _) cc0_scratch0 cc0_scratch1 cc0_scratch2 c v2 v5 v8 v9 v12 v16 v18 v20 v32 v34 v36 v46 v431) 68 fun _ => True := by
  rw [k0_part18_eq_skeleton]; unfold k0_part18_skel
  refine Go.guard (b := 64) (fun h => ?_) (fun h => ?_) ?_
  · exact Go.recv (0, 3) (on_63 c h) (by decide) rfl rfl
  · exact Skip.recv (0, 3) (off_63 c h) rfl
  refine Go.guard (b := 65) (fun h => ?_) (fun h => ?_) ?_
  · exact Go.fwd (6, 3) rfl (on_64 c h).1 rfl (by decide) (Fin.ext (on_64 c h).2.1) (on_64 c h).2.2 (on_64 c h).2.2 rfl rfl rfl
  · exact Skip.send (6, 3) (off_64 c h) rfl
  refine Go.guard (b := 66) (fun h => ?_) (fun h => ?_) ?_
  · exact Go.recv (2, 3) (on_65 c h) (by decide) rfl rfl
  · exact Skip.recv (2, 3) (off_65 c h) rfl
  refine Go.guard (b := 67) (fun h => ?_) (fun h => ?_) ?_
  · exact Go.fwd (8, 3) rfl (on_66 c h).1 rfl (by decide) (Fin.ext (on_66 c h).2.1) (on_66 c h).2.2 (on_66 c h).2.2 rfl rfl rfl
  · exact Skip.send (8, 3) (off_66 c h) rfl
  refine Go.guard (b := 68) (fun h => ?_) (fun h => ?_) ?_
  · exact Go.recv (4, 0) (on_67 c h) (by decide) rfl rfl
  · exact Skip.recv (4, 0) (off_67 c h) rfl
  exact Go.done _ trivial

/-- Part 19: operations 68 to 71. -/
theorem part_19 {v2 : BitVec 32} {v5 : BitVec 32} {v8 : BitVec 32} {v9 : BitVec 32} {v12 : BitVec 32} {v46 : BitVec 1} {v48 : BitVec 1} {c0_i32_538 : BitVec 32} {c8192_i32_539 : BitVec 32} :
    Go m K c Z 68 (k0_part19 (F := F) xM (Memref.isWhole_whole _) oM (Memref.isWhole_whole _) cc0_scratch0 cc0_scratch1 cc0_scratch2 c v2 v5 v8 v9 v12 v46 v48 c0_i32_538 c8192_i32_539) 72 fun _ => True := by
  rw [k0_part19_eq_skeleton]; unfold k0_part19_skel
  refine Go.guard (b := 69) (fun h => ?_) (fun h => ?_) ?_
  · exact Go.fwd (10, 0) rfl (on_68 c h).1 rfl (by decide) (Fin.ext (on_68 c h).2.1) (on_68 c h).2.2 (on_68 c h).2.2 rfl rfl rfl
  · exact Skip.send (10, 0) (off_68 c h) rfl
  refine Go.guard (b := 70) (fun h => ?_) (fun h => ?_) ?_
  · exact Go.recv (5, 0) (on_69 c h) (by decide) rfl rfl
  · exact Skip.recv (5, 0) (off_69 c h) rfl
  refine Go.guard (b := 71) (fun h => ?_) (fun h => ?_) ?_
  · exact Go.fwd (11, 0) rfl (on_70 c h).1 rfl (by decide) (Fin.ext (on_70 c h).2.1) (on_70 c h).2.2 (on_70 c h).2.2 rfl rfl rfl
  · exact Skip.send (11, 0) (off_70 c h) rfl
  refine Go.guard (b := 72) (fun h => ?_) (fun h => ?_) ?_
  · exact Go.recv (4, 1) (on_71 c h) (by decide) rfl rfl
  · exact Skip.recv (4, 1) (off_71 c h) rfl
  exact Go.done _ trivial

/-- Part 20: operations 72 to 75. -/
theorem part_20 {v2 : BitVec 32} {v5 : BitVec 32} {v8 : BitVec 32} {v9 : BitVec 32} {v12 : BitVec 32} {v46 : BitVec 1} {v48 : BitVec 1} :
    Go m K c Z 72 (k0_part20 (F := F) xM (Memref.isWhole_whole _) oM (Memref.isWhole_whole _) cc0_scratch0 cc0_scratch1 cc0_scratch2 c v2 v5 v8 v9 v12 v46 v48) 76 fun _ => True := by
  rw [k0_part20_eq_skeleton]; unfold k0_part20_skel
  refine Go.guard (b := 73) (fun h => ?_) (fun h => ?_) ?_
  · exact Go.fwd (10, 1) rfl (on_72 c h).1 rfl (by decide) (Fin.ext (on_72 c h).2.1) (on_72 c h).2.2 (on_72 c h).2.2 rfl rfl rfl
  · exact Skip.send (10, 1) (off_72 c h) rfl
  refine Go.guard (b := 74) (fun h => ?_) (fun h => ?_) ?_
  · exact Go.recv (5, 1) (on_73 c h) (by decide) rfl rfl
  · exact Skip.recv (5, 1) (off_73 c h) rfl
  refine Go.guard (b := 75) (fun h => ?_) (fun h => ?_) ?_
  · exact Go.fwd (11, 1) rfl (on_74 c h).1 rfl (by decide) (Fin.ext (on_74 c h).2.1) (on_74 c h).2.2 (on_74 c h).2.2 rfl rfl rfl
  · exact Skip.send (11, 1) (off_74 c h) rfl
  refine Go.guard (b := 76) (fun h => ?_) (fun h => ?_) ?_
  · exact Go.recv (4, 2) (on_75 c h) (by decide) rfl rfl
  · exact Skip.recv (4, 2) (off_75 c h) rfl
  exact Go.done _ trivial

/-- Part 21: operations 76 to 80. -/
theorem part_21 {v2 : BitVec 32} {v5 : BitVec 32} {v8 : BitVec 32} {v9 : BitVec 32} {v12 : BitVec 32} {v46 : BitVec 1} {v48 : BitVec 1} {v496 : BitVec 32} :
    Go m K c Z 76 (k0_part21 (F := F) xM (Memref.isWhole_whole _) oM (Memref.isWhole_whole _) cc0_scratch0 cc0_scratch1 cc0_scratch2 c v2 v5 v8 v9 v12 v46 v48 v496) 81 fun _ => True := by
  rw [k0_part21_eq_skeleton]; unfold k0_part21_skel
  refine Go.guard (b := 77) (fun h => ?_) (fun h => ?_) ?_
  · exact Go.fwd (10, 2) rfl (on_76 c h).1 rfl (by decide) (Fin.ext (on_76 c h).2.1) (on_76 c h).2.2 (on_76 c h).2.2 rfl rfl rfl
  · exact Skip.send (10, 2) (off_76 c h) rfl
  refine Go.guard (b := 78) (fun h => ?_) (fun h => ?_) ?_
  · exact Go.recv (5, 2) (on_77 c h) (by decide) rfl rfl
  · exact Skip.recv (5, 2) (off_77 c h) rfl
  refine Go.guard (b := 79) (fun h => ?_) (fun h => ?_) ?_
  · exact Go.fwd (11, 2) rfl (on_78 c h).1 rfl (by decide) (Fin.ext (on_78 c h).2.1) (on_78 c h).2.2 (on_78 c h).2.2 rfl rfl rfl
  · exact Skip.send (11, 2) (off_78 c h) rfl
  refine Go.guard (b := 80) (fun h => ?_) (fun h => ?_) ?_
  · exact Go.recv (4, 3) (on_79 c h) (by decide) rfl rfl
  · exact Skip.recv (4, 3) (off_79 c h) rfl
  refine Go.guard (b := 81) (fun h => ?_) (fun h => ?_) ?_
  · exact Go.fwd (10, 3) rfl (on_80 c h).1 rfl (by decide) (Fin.ext (on_80 c h).2.1) (on_80 c h).2.2 (on_80 c h).2.2 rfl rfl rfl
  · exact Skip.send (10, 3) (off_80 c h) rfl
  exact Go.done _ trivial

end Cert.GatherIdealProof

end
-- ==== Proof.IBodyD.lean ====
/-
The program's parts 22 to 28, each leading from the position it starts at to the position the next starts at.
-/
module

public import proofs.«01_k».proof.Proof.IGo

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ) (c : Dev nD) (Z : sProp (MT nD τ sig Unit (Elt F) ℕ UU ℕ))

variable {m K c Z}

/-- Part 22: operations 81 to 84. -/
theorem part_22 {v2 : BitVec 32} {v5 : BitVec 32} {v8 : BitVec 32} {v9 : BitVec 32} {v11 : BitVec 32} {v12 : BitVec 32} {v16 : BitVec 1} {v20 : BitVec 32} {v24 : BitVec 1} {v28 : BitVec 32} {v32 : BitVec 1} {v36 : BitVec 32} {v48 : BitVec 1} :
    Go m K c Z 81 (k0_part22 (F := F) xM (Memref.isWhole_whole _) oM (Memref.isWhole_whole _) cc0_scratch0 cc0_scratch1 cc0_scratch2 c v2 v5 v8 v9 v11 v12 v16 v20 v24 v28 v32 v36 v48) 85 fun _ => True := by
  rw [k0_part22_eq_skeleton]; unfold k0_part22_skel
  refine Go.guard (b := 82) (fun h => ?_) (fun h => ?_) ?_
  · exact Go.recv (5, 3) (on_81 c h) (by decide) rfl rfl
  · exact Skip.recv (5, 3) (off_81 c h) rfl
  refine Go.guard (b := 83) (fun h => ?_) (fun h => ?_) ?_
  · exact Go.fwd (11, 3) rfl (on_82 c h).1 rfl (by decide) (Fin.ext (on_82 c h).2.1) (on_82 c h).2.2 (on_82 c h).2.2 rfl rfl rfl
  · exact Skip.send (11, 3) (off_82 c h) rfl
  refine Go.guard (b := 84) (fun h => ?_) (fun h => ?_) ?_
  · exact Go.recv (6, 0) (on_83 c h) (by decide) rfl rfl
  · exact Skip.recv (6, 0) (off_83 c h) rfl
  refine Go.guard (b := 85) (fun h => ?_) (fun h => ?_) ?_
  · exact Go.recv (7, 0) (on_84 c h) (by decide) rfl rfl
  · exact Skip.recv (7, 0) (off_84 c h) rfl
  exact Go.done _ trivial

/-- Part 23: operations 85 to 88. -/
theorem part_23 {v2 : BitVec 32} {v8 : BitVec 32} {v11 : BitVec 32} {v12 : BitVec 32} {v16 : BitVec 1} {v20 : BitVec 32} {v40 : BitVec 1} {v44 : BitVec 32} {v46 : BitVec 1} {v48 : BitVec 1} {v541 : BitVec 32} :
    Go m K c Z 85 (k0_part23 (F := F) xM (Memref.isWhole_whole _) oM (Memref.isWhole_whole _) cc0_scratch0 cc0_scratch1 cc0_scratch2 c v2 v8 v11 v12 v16 v20 v40 v44 v46 v48 v541) 89 fun _ => True := by
  rw [k0_part23_eq_skeleton]; unfold k0_part23_skel
  refine Go.guard (b := 86) (fun h => ?_) (fun h => ?_) ?_
  · exact Go.recv (8, 0) (on_85 c h) (by decide) rfl rfl
  · exact Skip.recv (8, 0) (off_85 c h) rfl
  refine Go.guard (b := 87) (fun h => ?_) (fun h => ?_) ?_
  · exact Go.recv (9, 0) (on_86 c h) (by decide) rfl rfl
  · exact Skip.recv (9, 0) (off_86 c h) rfl
  refine Go.guard (b := 88) (fun h => ?_) (fun h => ?_) ?_
  · exact Go.recv (10, 0) (on_87 c h) (by decide) rfl rfl
  · exact Skip.recv (10, 0) (off_87 c h) rfl
  refine Go.guard (b := 89) (fun h => ?_) (fun h => ?_) ?_
  · exact Go.recv (11, 0) (on_88 c h) (by decide) rfl rfl
  · exact Skip.recv (11, 0) (off_88 c h) rfl
  exact Go.done _ trivial

/-- Part 24: operations 89 to 93. -/
theorem part_24 {v2 : BitVec 32} {v8 : BitVec 32} {v11 : BitVec 32} {v12 : BitVec 32} {v24 : BitVec 1} {v28 : BitVec 32} {v32 : BitVec 1} {v36 : BitVec 32} {v40 : BitVec 1} {v44 : BitVec 32} {v46 : BitVec 1} :
    Go m K c Z 89 (k0_part24 (F := F) xM (Memref.isWhole_whole _) oM (Memref.isWhole_whole _) cc0_scratch0 cc0_scratch1 cc0_scratch2 c v2 v8 v11 v12 v24 v28 v32 v36 v40 v44 v46) 94 fun _ => True := by
  rw [k0_part24_eq_skeleton]; unfold k0_part24_skel
  refine Go.guard (b := 90) (fun h => ?_) (fun h => ?_) ?_
  · exact Go.recv (6, 1) (on_89 c h) (by decide) rfl rfl
  · exact Skip.recv (6, 1) (off_89 c h) rfl
  refine Go.guard (b := 91) (fun h => ?_) (fun h => ?_) ?_
  · exact Go.recv (7, 1) (on_90 c h) (by decide) rfl rfl
  · exact Skip.recv (7, 1) (off_90 c h) rfl
  refine Go.guard (b := 92) (fun h => ?_) (fun h => ?_) ?_
  · exact Go.recv (8, 1) (on_91 c h) (by decide) rfl rfl
  · exact Skip.recv (8, 1) (off_91 c h) rfl
  refine Go.guard (b := 93) (fun h => ?_) (fun h => ?_) ?_
  · exact Go.recv (9, 1) (on_92 c h) (by decide) rfl rfl
  · exact Skip.recv (9, 1) (off_92 c h) rfl
  refine Go.guard (b := 94) (fun h => ?_) (fun h => ?_) ?_
  · exact Go.recv (10, 1) (on_93 c h) (by decide) rfl rfl
  · exact Skip.recv (10, 1) (off_93 c h) rfl
  exact Go.done _ trivial

/-- Part 25: operations 94 to 98. -/
theorem part_25 {v2 : BitVec 32} {v8 : BitVec 32} {v11 : BitVec 32} {v12 : BitVec 32} {v16 : BitVec 1} {v20 : BitVec 32} {v24 : BitVec 1} {v28 : BitVec 32} {v32 : BitVec 1} {v36 : BitVec 32} {v40 : BitVec 1} {v44 : BitVec 32} {v48 : BitVec 1} :
    Go m K c Z 94 (k0_part25 (F := F) xM (Memref.isWhole_whole _) oM (Memref.isWhole_whole _) cc0_scratch0 cc0_scratch1 cc0_scratch2 c v2 v8 v11 v12 v16 v20 v24 v28 v32 v36 v40 v44 v48) 99 fun _ => True := by
  rw [k0_part25_eq_skeleton]; unfold k0_part25_skel
  refine Go.guard (b := 95) (fun h => ?_) (fun h => ?_) ?_
  · exact Go.recv (11, 1) (on_94 c h) (by decide) rfl rfl
  · exact Skip.recv (11, 1) (off_94 c h) rfl
  refine Go.guard (b := 96) (fun h => ?_) (fun h => ?_) ?_
  · exact Go.recv (6, 2) (on_95 c h) (by decide) rfl rfl
  · exact Skip.recv (6, 2) (off_95 c h) rfl
  refine Go.guard (b := 97) (fun h => ?_) (fun h => ?_) ?_
  · exact Go.recv (7, 2) (on_96 c h) (by decide) rfl rfl
  · exact Skip.recv (7, 2) (off_96 c h) rfl
  refine Go.guard (b := 98) (fun h => ?_) (fun h => ?_) ?_
  · exact Go.recv (8, 2) (on_97 c h) (by decide) rfl rfl
  · exact Skip.recv (8, 2) (off_97 c h) rfl
  refine Go.guard (b := 99) (fun h => ?_) (fun h => ?_) ?_
  · exact Go.recv (9, 2) (on_98 c h) (by decide) rfl rfl
  · exact Skip.recv (9, 2) (off_98 c h) rfl
  exact Go.done _ trivial

/-- Part 26: operations 99 to 102. -/
theorem part_26 {v2 : BitVec 32} {v8 : BitVec 32} {v11 : BitVec 32} {v12 : BitVec 32} {v16 : BitVec 1} {v20 : BitVec 32} {v24 : BitVec 1} {v28 : BitVec 32} {v32 : BitVec 1} {v36 : BitVec 32} {v46 : BitVec 1} {v48 : BitVec 1} :
    Go m K c Z 99 (k0_part26 (F := F) xM (Memref.isWhole_whole _) oM (Memref.isWhole_whole _) cc0_scratch0 cc0_scratch1 cc0_scratch2 c v2 v8 v11 v12 v16 v20 v24 v28 v32 v36 v46 v48) 103 fun _ => True := by
  rw [k0_part26_eq_skeleton]; unfold k0_part26_skel
  refine Go.guard (b := 100) (fun h => ?_) (fun h => ?_) ?_
  · exact Go.recv (10, 2) (on_99 c h) (by decide) rfl rfl
  · exact Skip.recv (10, 2) (off_99 c h) rfl
  refine Go.guard (b := 101) (fun h => ?_) (fun h => ?_) ?_
  · exact Go.recv (11, 2) (on_100 c h) (by decide) rfl rfl
  · exact Skip.recv (11, 2) (off_100 c h) rfl
  refine Go.guard (b := 102) (fun h => ?_) (fun h => ?_) ?_
  · exact Go.recv (6, 3) (on_101 c h) (by decide) rfl rfl
  · exact Skip.recv (6, 3) (off_101 c h) rfl
  refine Go.guard (b := 103) (fun h => ?_) (fun h => ?_) ?_
  · exact Go.recv (7, 3) (on_102 c h) (by decide) rfl rfl
  · exact Skip.recv (7, 3) (off_102 c h) rfl
  exact Go.done _ trivial

/-- Part 27: operations 103 to 106. -/
theorem part_27 {v2 : BitVec 32} {v5 : BitVec 32} {v8 : BitVec 32} {v11 : BitVec 32} {v12 : BitVec 32} {v40 : BitVec 1} {v44 : BitVec 32} {v46 : BitVec 1} {v48 : BitVec 1} {v95 : BitVec 32} {v631 : BitVec 32} :
    Go m K c Z 103 (k0_part27 (F := F) xM (Memref.isWhole_whole _) oM (Memref.isWhole_whole _) cc0_scratch0 cc0_scratch1 cc0_scratch2 c v2 v5 v8 v11 v12 v40 v44 v46 v48 v95 v631) 107 fun _ => True := by
  rw [k0_part27_eq_skeleton]; unfold k0_part27_skel
  refine Go.guard (b := 104) (fun h => ?_) (fun h => ?_) ?_
  · exact Go.recv (8, 3) (on_103 c h) (by decide) rfl rfl
  · exact Skip.recv (8, 3) (off_103 c h) rfl
  refine Go.guard (b := 105) (fun h => ?_) (fun h => ?_) ?_
  · exact Go.recv (9, 3) (on_104 c h) (by decide) rfl rfl
  · exact Skip.recv (9, 3) (off_104 c h) rfl
  refine Go.guard (b := 106) (fun h => ?_) (fun h => ?_) ?_
  · exact Go.recv (10, 3) (on_105 c h) (by decide) rfl rfl
  · exact Skip.recv (10, 3) (off_105 c h) rfl
  refine Go.guard (b := 107) (fun h => ?_) (fun h => ?_) ?_
  · exact Go.recv (11, 3) (on_106 c h) (by decide) rfl rfl
  · exact Skip.recv (11, 3) (off_106 c h) rfl
  exact Go.done _ trivial

/-- Part 28: operations 107 to 109. -/
theorem part_28 {v5 : BitVec 32} {v8 : BitVec 32} {v95 : BitVec 32} {v651 : BitVec 32} {c1_i32_839 : BitVec 32} :
    Go m K c Z 107 (k0_part28 (F := F) xM (Memref.isWhole_whole _) oM (Memref.isWhole_whole _) cc0_scratch0 cc0_scratch1 cc0_scratch2 c v5 v8 v95 v651 c1_i32_839) 110 fun _ => True := by
  rw [k0_part28_eq_skeleton]; unfold k0_part28_skel
  refine Go.seq (b := 108) (Go.recv2048 (12, 0) (on_107 c) rfl rfl rfl) fun _ _ => ?_
  refine Go.seq (b := 109) (Go.recv2048 (12, 1) (on_108 c) rfl rfl rfl) fun _ _ => ?_
  refine Go.seq (b := 110) (Go.recv2048 (12, 2) (on_109 c) rfl rfl rfl) fun _ _ => ?_
  exact Go.done _ trivial

end Cert.GatherIdealProof

end
-- ==== Proof.IBodyE.lean ====
/-
The program's parts 29 to 35, each leading from the position it starts at to the position the next starts at.
-/
module

public import proofs.«01_k».proof.Proof.IGo

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ) (c : Dev nD) (Z : sProp (MT nD τ sig Unit (Elt F) ℕ UU ℕ))

variable {m K c Z}

/-- Part 29: operations 110 to 115. -/
theorem part_29 {v5 : BitVec 32} {v8 : BitVec 32} {v21 : BitVec 1} {v37 : BitVec 1} {v678 : BitVec 32} :
    Go m K c Z 110 (k0_part29 (F := F) xM (Memref.isWhole_whole _) oM (Memref.isWhole_whole _) cc0_scratch0 cc0_scratch1 cc0_scratch2 c v5 v8 v21 v37 v678) 116 fun _ => True := by
  rw [k0_part29_eq_skeleton]; unfold k0_part29_skel
  refine Go.seq (b := 111) (Go.recv2048 (12, 3) (on_110 c) rfl rfl rfl) fun _ _ => ?_
  refine Go.guard (b := 112) (fun h => ?_) (fun h => ?_) ?_
  · exact Go.finX (1, 0) (on_111 c h) (by decide) rfl rfl
  · exact Skip.fin (1, 0) (off_111 c h) rfl
  refine Go.guard (b := 113) (fun h => ?_) (fun h => ?_) ?_
  · exact Go.finX (1, 1) (on_112 c h) (by decide) rfl rfl
  · exact Skip.fin (1, 1) (off_112 c h) rfl
  refine Go.guard (b := 114) (fun h => ?_) (fun h => ?_) ?_
  · exact Go.finX (1, 2) (on_113 c h) (by decide) rfl rfl
  · exact Skip.fin (1, 2) (off_113 c h) rfl
  refine Go.guard (b := 115) (fun h => ?_) (fun h => ?_) ?_
  · exact Go.finX (1, 3) (on_114 c h) (by decide) rfl rfl
  · exact Skip.fin (1, 3) (off_114 c h) rfl
  refine Go.guard (b := 116) (fun h => ?_) (fun h => ?_) ?_
  · exact Go.finX (3, 0) (on_115 c h) (by decide) rfl rfl
  · exact Skip.fin (3, 0) (off_115 c h) rfl
  exact Go.done _ trivial

/-- Part 30: operations 116 to 123. -/
theorem part_30 {v13 : BitVec 1} {v29 : BitVec 1} {v37 : BitVec 1} {v698 : BitVec 32} :
    Go m K c Z 116 (k0_part30 (F := F) xM (Memref.isWhole_whole _) oM (Memref.isWhole_whole _) cc0_scratch0 cc0_scratch1 cc0_scratch2 c v13 v29 v37 v698) 124 fun _ => True := by
  rw [k0_part30_eq_skeleton]; unfold k0_part30_skel
  refine Go.guard (b := 117) (fun h => ?_) (fun h => ?_) ?_
  · exact Go.finX (3, 1) (on_116 c h) (by decide) rfl rfl
  · exact Skip.fin (3, 1) (off_116 c h) rfl
  refine Go.guard (b := 118) (fun h => ?_) (fun h => ?_) ?_
  · exact Go.finX (3, 2) (on_117 c h) (by decide) rfl rfl
  · exact Skip.fin (3, 2) (off_117 c h) rfl
  refine Go.guard (b := 119) (fun h => ?_) (fun h => ?_) ?_
  · exact Go.finX (3, 3) (on_118 c h) (by decide) rfl rfl
  · exact Skip.fin (3, 3) (off_118 c h) rfl
  refine Go.guard (b := 120) (fun h => ?_) (fun h => ?_) ?_
  · exact Go.finX (0, 0) (on_119 c h) (by decide) rfl rfl
  · exact Skip.fin (0, 0) (off_119 c h) rfl
  refine Go.guard (b := 121) (fun h => ?_) (fun h => ?_) ?_
  · exact Go.finX (0, 1) (on_120 c h) (by decide) rfl rfl
  · exact Skip.fin (0, 1) (off_120 c h) rfl
  refine Go.guard (b := 122) (fun h => ?_) (fun h => ?_) ?_
  · exact Go.finX (0, 2) (on_121 c h) (by decide) rfl rfl
  · exact Skip.fin (0, 2) (off_121 c h) rfl
  refine Go.guard (b := 123) (fun h => ?_) (fun h => ?_) ?_
  · exact Go.finX (0, 3) (on_122 c h) (by decide) rfl rfl
  · exact Skip.fin (0, 3) (off_122 c h) rfl
  refine Go.guard (b := 124) (fun h => ?_) (fun h => ?_) ?_
  · exact Go.finX (2, 0) (on_123 c h) (by decide) rfl rfl
  · exact Skip.fin (2, 0) (off_123 c h) rfl
  exact Go.done _ trivial

/-- Part 31: operations 124 to 130. -/
theorem part_31 {v16 : BitVec 1} {v24 : BitVec 1} {v29 : BitVec 1} {v40 : BitVec 1} {v45 : BitVec 1} {v47 : BitVec 1} :
    Go m K c Z 124 (k0_part31 (F := F) xM (Memref.isWhole_whole _) oM (Memref.isWhole_whole _) cc0_scratch0 cc0_scratch1 cc0_scratch2 c v16 v24 v29 v40 v45 v47) 131 fun _ => True := by
  rw [k0_part31_eq_skeleton]; unfold k0_part31_skel
  refine Go.guard (b := 125) (fun h => ?_) (fun h => ?_) ?_
  · exact Go.finX (2, 1) (on_124 c h) (by decide) rfl rfl
  · exact Skip.fin (2, 1) (off_124 c h) rfl
  refine Go.guard (b := 126) (fun h => ?_) (fun h => ?_) ?_
  · exact Go.finX (2, 2) (on_125 c h) (by decide) rfl rfl
  · exact Skip.fin (2, 2) (off_125 c h) rfl
  refine Go.guard (b := 127) (fun h => ?_) (fun h => ?_) ?_
  · exact Go.finX (2, 3) (on_126 c h) (by decide) rfl rfl
  · exact Skip.fin (2, 3) (off_126 c h) rfl
  refine Go.guard (b := 128) (fun h => ?_) (fun h => ?_) ?_
  · exact Go.finO (4, 0) (on_127 c h) (by decide) rfl rfl
  · exact Skip.fin (4, 0) (off_127 c h) rfl
  refine Go.guard (b := 129) (fun h => ?_) (fun h => ?_) ?_
  · exact Go.finO (7, 0) (on_128 c h) (by decide) rfl rfl
  · exact Skip.fin (7, 0) (off_128 c h) rfl
  refine Go.guard (b := 130) (fun h => ?_) (fun h => ?_) ?_
  · exact Go.finO (5, 0) (on_129 c h) (by decide) rfl rfl
  · exact Skip.fin (5, 0) (off_129 c h) rfl
  refine Go.guard (b := 131) (fun h => ?_) (fun h => ?_) ?_
  · exact Go.finO (9, 0) (on_130 c h) (by decide) rfl rfl
  · exact Skip.fin (9, 0) (off_130 c h) rfl
  exact Go.done _ trivial

/-- Part 32: operations 131 to 138. -/
theorem part_32 {v16 : BitVec 1} {v24 : BitVec 1} {v32 : BitVec 1} {v40 : BitVec 1} {v45 : BitVec 1} {v47 : BitVec 1} {v728 : BitVec 32} :
    Go m K c Z 131 (k0_part32 (F := F) xM (Memref.isWhole_whole _) oM (Memref.isWhole_whole _) cc0_scratch0 cc0_scratch1 cc0_scratch2 c v16 v24 v32 v40 v45 v47 v728) 139 fun _ => True := by
  rw [k0_part32_eq_skeleton]; unfold k0_part32_skel
  refine Go.guard (b := 132) (fun h => ?_) (fun h => ?_) ?_
  · exact Go.finO (6, 0) (on_131 c h) (by decide) rfl rfl
  · exact Skip.fin (6, 0) (off_131 c h) rfl
  refine Go.guard (b := 133) (fun h => ?_) (fun h => ?_) ?_
  · exact Go.finO (8, 0) (on_132 c h) (by decide) rfl rfl
  · exact Skip.fin (8, 0) (off_132 c h) rfl
  refine Go.guard (b := 134) (fun h => ?_) (fun h => ?_) ?_
  · exact Go.finO (4, 1) (on_133 c h) (by decide) rfl rfl
  · exact Skip.fin (4, 1) (off_133 c h) rfl
  refine Go.guard (b := 135) (fun h => ?_) (fun h => ?_) ?_
  · exact Go.finO (7, 1) (on_134 c h) (by decide) rfl rfl
  · exact Skip.fin (7, 1) (off_134 c h) rfl
  refine Go.guard (b := 136) (fun h => ?_) (fun h => ?_) ?_
  · exact Go.finO (5, 1) (on_135 c h) (by decide) rfl rfl
  · exact Skip.fin (5, 1) (off_135 c h) rfl
  refine Go.guard (b := 137) (fun h => ?_) (fun h => ?_) ?_
  · exact Go.finO (9, 1) (on_136 c h) (by decide) rfl rfl
  · exact Skip.fin (9, 1) (off_136 c h) rfl
  refine Go.guard (b := 138) (fun h => ?_) (fun h => ?_) ?_
  · exact Go.finO (6, 1) (on_137 c h) (by decide) rfl rfl
  · exact Skip.fin (6, 1) (off_137 c h) rfl
  refine Go.guard (b := 139) (fun h => ?_) (fun h => ?_) ?_
  · exact Go.finO (8, 1) (on_138 c h) (by decide) rfl rfl
  · exact Skip.fin (8, 1) (off_138 c h) rfl
  exact Go.done _ trivial

/-- Part 33: operations 139 to 145. -/
theorem part_33 {v16 : BitVec 1} {v24 : BitVec 1} {v32 : BitVec 1} {v40 : BitVec 1} {v45 : BitVec 1} {v47 : BitVec 1} :
    Go m K c Z 139 (k0_part33 (F := F) xM (Memref.isWhole_whole _) oM (Memref.isWhole_whole _) cc0_scratch0 cc0_scratch1 cc0_scratch2 c v16 v24 v32 v40 v45 v47) 146 fun _ => True := by
  rw [k0_part33_eq_skeleton]; unfold k0_part33_skel
  refine Go.guard (b := 140) (fun h => ?_) (fun h => ?_) ?_
  · exact Go.finO (4, 2) (on_139 c h) (by decide) rfl rfl
  · exact Skip.fin (4, 2) (off_139 c h) rfl
  refine Go.guard (b := 141) (fun h => ?_) (fun h => ?_) ?_
  · exact Go.finO (7, 2) (on_140 c h) (by decide) rfl rfl
  · exact Skip.fin (7, 2) (off_140 c h) rfl
  refine Go.guard (b := 142) (fun h => ?_) (fun h => ?_) ?_
  · exact Go.finO (5, 2) (on_141 c h) (by decide) rfl rfl
  · exact Skip.fin (5, 2) (off_141 c h) rfl
  refine Go.guard (b := 143) (fun h => ?_) (fun h => ?_) ?_
  · exact Go.finO (9, 2) (on_142 c h) (by decide) rfl rfl
  · exact Skip.fin (9, 2) (off_142 c h) rfl
  refine Go.guard (b := 144) (fun h => ?_) (fun h => ?_) ?_
  · exact Go.finO (6, 2) (on_143 c h) (by decide) rfl rfl
  · exact Skip.fin (6, 2) (off_143 c h) rfl
  refine Go.guard (b := 145) (fun h => ?_) (fun h => ?_) ?_
  · exact Go.finO (8, 2) (on_144 c h) (by decide) rfl rfl
  · exact Skip.fin (8, 2) (off_144 c h) rfl
  refine Go.guard (b := 146) (fun h => ?_) (fun h => ?_) ?_
  · exact Go.finO (4, 3) (on_145 c h) (by decide) rfl rfl
  · exact Skip.fin (4, 3) (off_145 c h) rfl
  exact Go.done _ trivial

/-- Part 34: operations 146 to 153. -/
theorem part_34 {v16 : BitVec 1} {v32 : BitVec 1} {v40 : BitVec 1} {v46 : BitVec 1} {v47 : BitVec 1} {v48 : BitVec 1} {v758 : BitVec 32} :
    Go m K c Z 146 (k0_part34 (F := F) xM (Memref.isWhole_whole _) oM (Memref.isWhole_whole _) cc0_scratch0 cc0_scratch1 cc0_scratch2 c v16 v32 v40 v46 v47 v48 v758) 154 fun _ => True := by
  rw [k0_part34_eq_skeleton]; unfold k0_part34_skel
  refine Go.guard (b := 147) (fun h => ?_) (fun h => ?_) ?_
  · exact Go.finO (7, 3) (on_146 c h) (by decide) rfl rfl
  · exact Skip.fin (7, 3) (off_146 c h) rfl
  refine Go.guard (b := 148) (fun h => ?_) (fun h => ?_) ?_
  · exact Go.finO (5, 3) (on_147 c h) (by decide) rfl rfl
  · exact Skip.fin (5, 3) (off_147 c h) rfl
  refine Go.guard (b := 149) (fun h => ?_) (fun h => ?_) ?_
  · exact Go.finO (9, 3) (on_148 c h) (by decide) rfl rfl
  · exact Skip.fin (9, 3) (off_148 c h) rfl
  refine Go.guard (b := 150) (fun h => ?_) (fun h => ?_) ?_
  · exact Go.finO (6, 3) (on_149 c h) (by decide) rfl rfl
  · exact Skip.fin (6, 3) (off_149 c h) rfl
  refine Go.guard (b := 151) (fun h => ?_) (fun h => ?_) ?_
  · exact Go.finO (8, 3) (on_150 c h) (by decide) rfl rfl
  · exact Skip.fin (8, 3) (off_150 c h) rfl
  refine Go.guard (b := 152) (fun h => ?_) (fun h => ?_) ?_
  · exact Go.finO (10, 0) (on_151 c h) (by decide) rfl rfl
  · exact Skip.fin (10, 0) (off_151 c h) rfl
  refine Go.guard (b := 153) (fun h => ?_) (fun h => ?_) ?_
  · exact Go.finO (11, 0) (on_152 c h) (by decide) rfl rfl
  · exact Skip.fin (11, 0) (off_152 c h) rfl
  refine Go.guard (b := 154) (fun h => ?_) (fun h => ?_) ?_
  · exact Go.finO (10, 1) (on_153 c h) (by decide) rfl rfl
  · exact Skip.fin (10, 1) (off_153 c h) rfl
  exact Go.done _ trivial

/-- Part 35: operations 154 to 159. -/
theorem part_35 {v46 : BitVec 1} {v48 : BitVec 1} :
    Go m K c Z 154 (k0_part35 (F := F) xM (Memref.isWhole_whole _) oM (Memref.isWhole_whole _) cc0_scratch0 cc0_scratch1 cc0_scratch2 c v46 v48) 160 fun _ => True := by
  rw [k0_part35_eq_skeleton]; unfold k0_part35_skel
  refine Go.guard (b := 155) (fun h => ?_) (fun h => ?_) ?_
  · exact Go.finO (11, 1) (on_154 c h) (by decide) rfl rfl
  · exact Skip.fin (11, 1) (off_154 c h) rfl
  refine Go.guard (b := 156) (fun h => ?_) (fun h => ?_) ?_
  · exact Go.finO (10, 2) (on_155 c h) (by decide) rfl rfl
  · exact Skip.fin (10, 2) (off_155 c h) rfl
  refine Go.guard (b := 157) (fun h => ?_) (fun h => ?_) ?_
  · exact Go.finO (11, 2) (on_156 c h) (by decide) rfl rfl
  · exact Skip.fin (11, 2) (off_156 c h) rfl
  refine Go.guard (b := 158) (fun h => ?_) (fun h => ?_) ?_
  · exact Go.finO (10, 3) (on_157 c h) (by decide) rfl rfl
  · exact Skip.fin (10, 3) (off_157 c h) rfl
  refine Go.guard (b := 159) (fun h => ?_) (fun h => ?_) ?_
  · exact Go.finO (11, 3) (on_158 c h) (by decide) rfl rfl
  · exact Skip.fin (11, 3) (off_158 c h) rfl
  refine Go.seq (b := 160) (Go.fin2048 (12, 0) (on_159 c) rfl rfl rfl) fun _ _ => ?_
  exact Go.done _ trivial

end Cert.GatherIdealProof

end
-- ==== Proof.IBody.lean ====
/-
The whole program from its parts.
-/
module

public import proofs.«01_k».proof.Proof.IBodyA
public import proofs.«01_k».proof.Proof.IBodyB
public import proofs.«01_k».proof.Proof.IBodyC
public import proofs.«01_k».proof.Proof.IBodyD
public import proofs.«01_k».proof.Proof.IBodyE

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ) (c : Dev nD) (Z : sProp (MT nD τ sig Unit (Elt F) ℕ UU ℕ))

/-- What holds of the value is let go. -/
theorem drop_true {α : Type} {p : Prog (TpuEff nD τ sig (Elt F) Λ₀ .tc) α} {φ : α → Prop} {P : sProp 𝕄} :
    WP c p (fun x => iprop(⌜φ x⌝ ∗ P)) ⊢ WP c p fun _ => P := by
  unfold WP
  refine wp_mono _ _ _ fun x => ?_
  iintro ⟨-, H⟩
  iexact H

variable {m K c Z}

/-- Part 1: the device's number. -/
theorem part_1 : Go m K c Z 0 (k0_part1 (F := F) xM (Memref.isWhole_whole _) oM (Memref.isWhole_whole _) cc0_scratch0 cc0_scratch1 cc0_scratch2 ) 0 fun x => x.1 = c := by
  rw [k0_part1_eq_skeleton]; unfold k0_part1_skel
  refine Go.seq Go.device fun x hx => ?_
  exact Go.done _ hx

/-- Part 2: the barrier semaphore and the first signal. -/
theorem part_2 {v2 : BitVec 32} {v5 : BitVec 32} {v8 : BitVec 32} {v12 : BitVec 32} {v30 : BitVec 32} : Go m K c Z 0 (k0_part2 (F := F) xM (Memref.isWhole_whole _) oM (Memref.isWhole_whole _) cc0_scratch0 cc0_scratch1 cc0_scratch2 c v2 v5 v8 v12 v30) 1 fun x => x.2.2.2.2.2.2.2.2.2.2.2.2.2.1 = SemArray.scalar (sig.barrier 0 rfl) := by
  rw [k0_part2_eq_skeleton]; unfold k0_part2_skel
  refine Go.seq (b := 1) (Go.signal 0 (on_0 c).1 (Fin.ext (on_0 c).2) rfl) fun _ _ => ?_
  exact Go.done _ rfl

/-- The parts in turn, and two more ends of sends. -/
theorem part_36 : Go m K c Z 0 (k0_part36 (F := F) xM (Memref.isWhole_whole _) oM (Memref.isWhole_whole _) cc0_scratch0 cc0_scratch1 cc0_scratch2 ) 162 fun x => x = c := by
  rw [k0_part36_eq_skeleton]; unfold k0_part36_skel
  refine Go.seq part_1 fun x hx => ?_
  obtain ⟨d0, v2, v5, v8, v9, v11, v12, v13, v15, v16, v18, v20, v21, v23, v24, v26, v28, v29, v30⟩ := x
  obtain rfl : d0 = c := hx
  refine Go.seq part_2 fun x hx => ?_
  obtain ⟨v31, v32, v34, v36, v37, v39, v40, v42, v44, v45, v46, v47, v48, v49, v60, c1⟩ := x
  obtain rfl : v49 = SemArray.scalar (sig.barrier 0 rfl) := hx
  refine Go.seq part_3 fun x_3 _ => ?_
  refine Go.seq part_4 fun x_4 _ => ?_
  refine Go.seq part_5 fun x_5 _ => ?_
  refine Go.seq part_6 fun x_6 _ => ?_
  refine Go.seq part_7 fun x_7 _ => ?_
  refine Go.seq part_8 fun x_8 _ => ?_
  refine Go.seq part_9 fun x_9 _ => ?_
  refine Go.seq part_10 fun x_10 _ => ?_
  refine Go.seq part_11 fun x_11 _ => ?_
  refine Go.seq part_12 fun x_12 _ => ?_
  refine Go.seq part_13 fun x_13 _ => ?_
  refine Go.seq part_14 fun x_14 _ => ?_
  refine Go.seq part_15 fun x_15 _ => ?_
  refine Go.seq part_16 fun x_16 _ => ?_
  refine Go.seq part_17 fun x_17 _ => ?_
  refine Go.seq part_18 fun x_18 _ => ?_
  refine Go.seq part_19 fun x_19 _ => ?_
  refine Go.seq part_20 fun x_20 _ => ?_
  refine Go.seq part_21 fun x_21 _ => ?_
  refine Go.seq part_22 fun x_22 _ => ?_
  refine Go.seq part_23 fun x_23 _ => ?_
  refine Go.seq part_24 fun x_24 _ => ?_
  refine Go.seq part_25 fun x_25 _ => ?_
  refine Go.seq part_26 fun x_26 _ => ?_
  refine Go.seq part_27 fun x_27 _ => ?_
  refine Go.seq part_28 fun x_28 _ => ?_
  refine Go.seq part_29 fun x_29 _ => ?_
  refine Go.seq part_30 fun x_30 _ => ?_
  refine Go.seq part_31 fun x_31 _ => ?_
  refine Go.seq part_32 fun x_32 _ => ?_
  refine Go.seq part_33 fun x_33 _ => ?_
  refine Go.seq part_34 fun x_34 _ => ?_
  refine Go.seq part_35 fun x_35 _ => ?_
  refine Go.seq (b := 161) (Go.fin2048 (12, 1) (on_160 _) rfl rfl rfl) fun _ _ => ?_
  refine Go.seq (b := 162) (Go.fin2048 (12, 2) (on_161 _) rfl rfl rfl) fun _ _ => ?_
  exact Go.done _ rfl

/-- The whole program. -/
theorem body_go : Go m K c Z 0 (cc0_body (F := F) xM (Memref.isWhole_whole _) oM (Memref.isWhole_whole _) cc0_scratch0 cc0_scratch1 cc0_scratch2 ) 163 fun _ => True := by
  rw [cc0_body_eq_skeleton]; unfold cc0_body_skel
  refine Go.seq part_36 fun x hx => ?_
  obtain rfl : x = c := hx
  refine Go.seq (b := 163) (Go.fin2048 (12, 3) (on_162 _) rfl rfl rfl) fun _ _ => ?_
  exact Go.done _ trivial

/-- The program leads from position 0 to position 163. -/
theorem body_inv : Inv m K c Z 0 ⊢ WP c (cc0_body (F := F) xM (Memref.isWhole_whole _) oM (Memref.isWhole_whole _) cc0_scratch0 cc0_scratch1 cc0_scratch2 ) fun _ => Inv m K c Z 163 := by
  have h := body_go (m := m) (K := K) (c := c) (Z := Z)
  unfold Go at h
  exact h.trans (drop_true c)

end Cert.GatherIdealProof

end
-- ==== Proof.ILaunch.lean ====
/-
The run of the gather: what each device is dealt and ends with, and the theorem that every run from zero counters ends
with every device's result at the gathered contents.
-/
module

public import proofs.«01_k».proof.Proof.IMem
public import proofs.«01_k».proof.Proof.IGhost
public import proofs.«01_k».proof.Proof.IBody
public import Idealize.ShloMosaic.Lib.Pipeline.CollectiveSegs

@[expose] public section

noncomputable section

namespace Cert.GatherIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The families at the two ends -/

section Ends
variable (K : Dev nD × SemLoc sig → ℕ) (c : Dev nD)

/-- At the start every signal is still to make. -/
theorem invT_zero : bigSep Finset.univ (invT (F := F) c 0)
    = iprop((bigSep Finset.univ fun j : Fin 6 => dutyTok ER (barCell (peer j c)) 0 j)
      ∗ bigSep Finset.univ fun j : Fin 6 => if sigs c j = true then barPay (peer j c) j else iprop(emp)) := by
  rw [← bigSep_sep']
  exact bigSep_congr fun j _ => by unfold invT; rw [if_pos (Nat.zero_le _)]
/-- At the start the barrier is still to wait for. -/
theorem invBar_zero : invBar (F := F) c 0 = iprop(atPos ER (barCell c) 0 ∅ 0 ∗ cred (tallyAt (barCell c) () (nbar c))) := if_pos (Nat.zero_le _)
/-- At the start every message is still to send. -/
theorem invA_zero : bigSep Finset.univ (invA (F := F) c 0)
    = iprop((bigSep Finset.univ fun ms : Msg => dutyTok ER (sendCell c ms) 0 0) ∗ bigSep Finset.univ fun ms : Msg => dutyTok ER (recvCell (tgt c ms.1) ms) 0 0) := by
  rw [← bigSep_sep']
  exact bigSep_congr fun ms _ => if_pos (Nat.zero_le _)
/-- At the start every send is still to wait for. -/
theorem invB_zero : bigSep Finset.univ (invB (F := F) c 0) = bigSep Finset.univ fun ms : Msg => atPos ER (sendCell c ms) 0 ∅ 0 :=
  bigSep_congr fun ms _ => if_pos (Nat.zero_le _)
/-- At the start nothing is sent. -/
theorem invC_zero : bigSep Finset.univ (invC (F := F) c 0) = iprop(emp) := by
  rw [bigSep_congr (Ψ := fun _ => iprop(emp)) fun ms _ => by unfold invC; rw [if_neg fun h => Nat.not_lt_zero _ h.2.1], sep_none]
/-- At the start there is no permission to write. -/
theorem invD_zero : bigSep Finset.univ (invD (F := F) c 0) = iprop(emp) := by
  rw [bigSep_congr (Ψ := fun _ => iprop(emp)) fun ms _ => by unfold invD; rw [if_neg fun h => Nat.not_lt_zero _ h.1], sep_none]
/-- At the start every landing is still to wait for. -/
theorem invE_zero : bigSep Finset.univ (invE (F := F) c 0)
    = iprop((bigSep Finset.univ fun ms : Msg => atPos ER (recvCell c ms) 0 ∅ 0)
      ∗ bigSep Finset.univ fun ms : Msg => if rac c ms.1 = true then iprop(cred (tallyAt (recvCell c ms) () (amt ms.1))) else iprop(emp)) := by
  rw [← bigSep_sep']
  exact bigSep_congr fun ms _ => if_pos (Nat.zero_le _)

/-- At the end the barrier's counter is zero. -/
theorem invBar_end : invBar (F := F) c 163 = semVal (barCell c) 0 := if_neg (by decide)
/-- At the end every send cell's counter is zero. -/
theorem invB_end : bigSep Finset.univ (invB (F := F) c 163) = bigSep Finset.univ fun ms : Msg => semVal (sendCell c ms) 0 :=
  bigSep_congr fun ms _ => if_neg (by have := iFin_lt ms; omega)
/-- At the end every receive cell's counter is zero. -/
theorem invE_end : bigSep Finset.univ (invE (F := F) c 163) = bigSep Finset.univ fun ms : Msg => semVal (recvCell c ms) 0 :=
  bigSep_congr fun ms _ => if_neg (by have := iFin_lt ms; have := (iFin_gt ms ms).2; omega)

/-- At the end nothing is owed. -/
theorem O_end : O c 163 = 0 := by
  unfold O
  rw [Finset.sum_eq_zero (s := (Finset.univ : Finset (Fin 6))) fun j _ => if_neg fun h => by
      have h1 := iSig_lt j; have h2 : iBar = 6 := rfl; have := h.2; omega,
    Finset.sum_eq_zero (s := (Finset.univ : Finset Msg)) fun ms _ => if_neg fun h => by
      have := h.2; have := (iFin_gt ms ms).1; have := iFin_lt ms; omega, add_zero]

/-- What a device holds throughout: the part of its block no stream reads, and the counter of the semaphore no message uses. -/
def keep : sProp 𝕄 := iprop(xRest m c ∗ semVal (kcell (c, .dma locSem)) 0)

/-- What a device starts from, beside what it owes. -/
def start : sProp 𝕄 := iprop(∃ K, records m K ∗ levAts L lv ∗ keep m c
    ∗ bigSep Finset.univ (invT c 0) ∗ invBar c 0 ∗ bigSep Finset.univ (invA c 0) ∗ bigSep Finset.univ (invB c 0)
    ∗ bigSep Finset.univ (invE c 0) ∗ bigSep Finset.univ (invS m c 0))
/-- What a device ends with: its own block as it was, its result at the final contents, its counters at zero. -/
def finish : sProp 𝕄 := iprop((xLoc c ↦[Finset.univ]{fullShare} m (xLoc c)) ∗ (oLoc c ↦[Finset.univ]{fullShare} G m c)
    ∗ unscopedSems0 c ∗ Pipeline.ownSems0 osem c)

/-- What a device starts from is the state before the first operation. -/
theorem inv_start : iprop(start m c ∗ ∃ W, owes (c : Thread nD τ) (O c 0) W) ⊢ iprop(∃ K, Inv m K c (keep m c) 0) := by
  unfold start
  iintro ⟨⟨%K, HR, Hl, Hk, HT, Hbar, HA, HB, HE, HS⟩, HO⟩
  iexists K
  unfold Inv
  rw [invC_zero, invD_zero, invK_zero]
  isplitl [HR]; · iexact HR
  isplitl [Hl]; · iexact Hl
  isplitl [Hk]; · iexact Hk
  isplitl [HO]; · iexact HO
  isplitl [HT]; · iexact HT
  isplitl [Hbar]; · iexact Hbar
  isplitl [HA]; · iexact HA
  isplitl [HB]; · iexact HB
  isplitr; · iempintro
  isplitr; · iempintro
  isplitl [HE]; · iexact HE
  isplitl [HS]; · iexact HS
  iempintro

/-- The state after the last operation is what a device ends with. -/
theorem inv_end : Inv m K c (keep m c) 163 ⊢ iprop(finish m c ∗ ∃ W, owes (c : Thread nD τ) (0 : CellTallies nD τ sig Unit) W) := by
  unfold Inv keep finish
  rw [invBar_end, invB_end, invE_end, O_end]
  iintro ⟨-, -, ⟨Hx, Hloc⟩, HO, -, Hbar, -, HB, -, -, HE, HS, HK⟩
  ihave Hm := (mem_end m c) $$ [HS HK Hx]
  · isplitl [HS]; · iexact HS
    isplitl [HK]; · iexact HK
    iexact Hx
  icases Hm with ⟨H0, H1⟩
  ihave Hs := (Entails.of_eq ((cell_split (fun sm => (semVal (kcell (c, sm)) 0 : sProp 𝕄))).symm.trans (sems0_eq c).symm)) $$ [Hbar Hloc HB HE]
  · isplitl [Hbar]; · iexact Hbar
    isplitl [Hloc]; · iexact Hloc
    isplitl [HB]; · iexact HB
    iexact HE
  icases Hs with ⟨Hos, Hus⟩
  isplitr [HO]
  · isplitl [H0]; · iexact H0
    isplitl [H1]; · iexact H1
    isplitl [Hus]; · iexact Hus
    iexact Hos
  iexact HO

/-- From the start to the end, over any program that leads there. -/
theorem body_ends {p : Prog (TpuEff nD τ sig (Elt F) Λ₀ .tc) PUnit}
    (h : ∀ K, Inv m K c (keep m c) 0 ⊢ WP c p fun _ => Inv m K c (keep m c) 163) :
    iprop(start m c ∗ ∃ W, owes (c : Thread nD τ) (O c 0) W)
      ⊢ WP c p fun _ => iprop(finish m c ∗ ∃ W, owes (c : Thread nD τ) (0 : CellTallies nD τ sig Unit) W) := by
  iintro H
  ihave H2 := (inv_start m c) $$ H
  icases H2 with ⟨%K, H3⟩
  iapply ((h K).trans (by unfold WP; exact wp_mono _ _ _ fun _ => inv_end m K c))
  iexact H3

end Ends

/-! ## The launch -/

/-- The call's data: what a device holds and owes before and after its one body. -/
def dats (_ : Fin 1) (c : Dev nD) : Dat τ (Elt F) Unit ℕ UU ℕ cfg0 c where
  A w := w.elim0
  after w _ := w.elim0
  Φ t := match t with
    | ⟨0, _⟩ => start m c
    | ⟨_ + 1, _⟩ => finish m c
  q _ := fullShare
  owed t := match t with
    | ⟨0, _⟩ => O c 0
    | ⟨_ + 1, _⟩ => 0

/-- The call's body at its one point is the kernel's body. -/
theorem body_at (t : Fin cfg0.N) (s) : defs₀ (F := F) .tc cfg0.body (cfg0.bodyArgs t s)
    = cc0_body (F := F) xM (Memref.isWhole_whole _) oM (Memref.isWhole_whole _) cc0_scratch0 cc0_scratch1 cc0_scratch2 := rfl
/-- Before the body a device holds what it starts from. -/
theorem phi_first (c : Dev nD) : (dats m 0 c).Φ t0_0.castSucc = start m c := rfl
/-- After the body a device holds what it ends with. -/
theorem phi_last (c : Dev nD) : (dats m 0 c).Φ t0_0.succ = finish m c := rfl
/-- Before the body a device owes all its signals and sends. -/
theorem owed_first (c : Dev nD) : (dats m 0 c).owed t0_0.castSucc = O c 0 := rfl
/-- After the body a device owes nothing. -/
theorem owed_last (c : Dev nD) : (dats m 0 c).owed t0_0.succ = 0 := rfl

/-- What is owed at the start, with any waits recorded. -/
theorem owes_in (c : Dev nD) (B : Set (SemLoc sig × Unit)) :
    iprop(start m c ∗ Pipeline.owesWithin c (O c 0) B ∗ emp) ⊢ iprop(start m c ∗ ∃ W, owes (c : Thread nD τ) (O c 0) W) := by
  unfold Pipeline.owesWithin
  iintro ⟨Hs, ⟨%W, -, HO⟩, -⟩
  isplitl [Hs]; · iexact Hs
  iexists W; iexact HO
/-- That nothing is owed at the end, with any waits allowed. -/
theorem owes_out (c : Dev nD) (B : Set (SemLoc sig × Unit)) (hB : ∀ x, x ∈ B) :
    iprop(finish m c ∗ ∃ W, owes (c : Thread nD τ) (0 : CellTallies nD τ sig Unit) W) ⊢ iprop(finish m c ∗ Pipeline.owesWithin c 0 B ∗ emp) := by
  unfold Pipeline.owesWithin
  iintro ⟨Hs, ⟨%W, HO⟩⟩
  isplitl [Hs]; · iexact Hs
  isplitl [HO]
  · iexists W
    isplitr; · ipureintro; exact fun x _ => hB x
    iexact HO
  iempintro
/-- The semaphore no message uses is never paid. -/
theorem duties_loc (c : Dev nD) : ∀ r, 0 ≤ r → (gRd (F := F) m).duties (kcell (c, .dma locSem)) r = ∅ := fun r _ => by
  rcases Nat.eq_zero_or_pos r with rfl | hr
  · dsimp only [gRd]; rw [if_pos ⟨rfl, rfl⟩, dec_loc]
  · exact duties_later m _ r hr

/-- Every wait is within the allowed ones. -/
theorem all_bound (c : Dev nD) (t : Fin (cfg0.N + 1)) : ∀ x, x ∈ (dats (F := F) m 0 c).bound () t := fun _ => Or.inl trivial

/-- The call has no window, so a family over its windows is empty. -/
theorem no_window (Φ : Fin cfg0.W → sProp 𝕄) : bigSep Finset.univ Φ = iprop(emp) := by
  rw [show (Finset.univ : Finset (Fin cfg0.W)) = ∅ from rfl]; exact bigSep_empty

/-- A body that leads from the first state to the last meets what the call asks. -/
theorem ends_obligation (c : Dev nD) {p : Prog (TpuEff nD τ sig (Elt F) Λ₀ .tc) PUnit} {B B' : Set (SemLoc sig × Unit)} (hB : ∀ x, x ∈ B')
    (h : ∀ K, Inv m K c (keep m c) 0 ⊢ WP c p fun _ => Inv m K c (keep m c) 163) :
    iprop(start m c ∗ Pipeline.owesWithin c (O c 0) B ∗ emp)
      ⊢ wp frame (wpE (defs₀ (F := F)) 𝒱₀ (c : Thread nD τ) none) Set.univ p fun _ => iprop(finish m c ∗ Pipeline.owesWithin c 0 B' ∗ emp) :=
  BIBase.Entails.trans (owes_in m c _) (BIBase.Entails.trans (body_ends m c h) (wp_mono _ _ _ fun _ => owes_out m c _ hB))

/-- The body's obligation on device `c`. -/
theorem body_obligation (c : Dev nD) : BodyObligation (dats (F := F) m 0 c) (defs₀ (F := F)) 𝒱₀ () Set.univ := fun t => by
  rw [fin_N0 t, no_window, no_window, body_at t0_0, phi_first, phi_last]
  unfold Dat.owesAt
  rw [owed_first, owed_last]
  have h := ends_obligation m c (B := (dats m 0 c).bound () t0_0.castSucc) (all_bound m c t0_0.succ) fun K => body_inv (m := m) (K := K) (c := c) (Z := keep m c)
  generalize cc0_body (F := F) xM (Memref.isWhole_whole _) oM (Memref.isWhole_whole _) cc0_scratch0 cc0_scratch1 cc0_scratch2 = p at h ⊢
  exact h

/-! ### The launch's side conditions -/

/-- What a device is dealt is what it starts from. -/
theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ ghost m c)
      ⊢ |={Set.univ}=> iprop(start m c ∗ emp) := by
  rw [Pipeline.unscopedRestP_none, unscopedRest0_eq]
  unfold ghost linear
  rw [cell_split]
  iintro ⟨⟨Hx, Ho⟩, Hlev, Hcr, -, ⟨%K, #HR, ⟨Hbar, Hloc, HB, HE⟩, Htok⟩⟩
  unfold payToks
  icases Htok with ⟨HT, HA1, HA2⟩
  ihave Hc := (creds (F := F) c) $$ Hcr
  icases Hc with ⟨Hc1, Hc2⟩
  ihave Hx2 := (Entails.of_eq (x_split m c)) $$ Hx
  icases Hx2 with ⟨HS, Hk⟩
  ihave Hp := (pay_intro c (m (oLoc c))) $$ Ho
  imod (Rounds.cell_close ER (gRd m) (g := kcell (c, .dma locSem)) (κ := K (c, .dma locSem)) (Set.mem_univ _) (fun h => h) (R := 0) (duties_loc m c)) $$ [Hloc] with Hloc
  · isplitr; · iapply (inv_at m K c (.dma locSem)); iexact HR
    iexact Hloc
  imodintro
  isplitl
  · unfold start keep
    rw [invT_zero, invBar_zero, invA_zero, invB_zero, invE_zero, invS_zero]
    iexists K
    isplitr; · iexact HR
    isplitl [Hlev]; · iexact Hlev
    isplitl [Hk Hloc]
    · isplitl [Hk]; · iexact Hk
      iexact Hloc
    isplitl [HT Hp]
    · isplitl [HT]; · iexact HT
      iexact Hp
    isplitl [Hbar Hc1]
    · isplitl [Hbar]; · iexact Hbar
      iexact Hc1
    isplitl [HA1 HA2]
    · isplitl [HA1]; · iexact HA1
      iexact HA2
    isplitl [HB]; · iexact HB
    isplitl [HE Hc2]
    · isplitl [HE]; · iexact HE
      iexact Hc2
    iexact HS
  · iempintro

/-- What the launch hands a device is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

/-- What a device's own block, its result and its barrier counter are read from at the end. -/
def readEnd (c : Dev nD) : sProp 𝕄 :=
  iprop((xLoc c ↦[Finset.univ]{fullShare} m (xLoc c)) ∗ (oLoc c ↦[Finset.univ]{fullShare} G m c) ∗ unscopedSems0 c)

/-- What the body ends with is what the launch takes back. -/
theorem phi1_exit (c : Dev nD) :
    (dats m 0 c).Φ (Fin.last cfg0.N) ⊢ iprop(readEnd m c ∗ Pipeline.ownSems0 osem c ∗ Pipeline.scopedRest cfg0.spec c) := by
  rw [show (dats m 0 c).Φ (Fin.last cfg0.N) = finish m c from rfl, scopedRest0_eq]
  unfold finish readEnd
  iintro ⟨H0, H1, Hus, Hos⟩
  isplitl [H0 H1 Hus]
  · isplitl [H0]; · iexact H0
    isplitl [H1]; · iexact H1
    iexact Hus
  isplitl [Hos]; · iexact Hos
  iempintro

/-- The waits of the call's own pipeline are allowed: it has none. -/
theorem waits (c : Dev nD) : (levAts L lv : sProp 𝕄) ⊢ Pipeline.cellsWaits cfgs (dats m) () 0 c :=
  Pipeline.cellsWaits_intro cfgs (dats m) () 0 c fun w s t => w.elim0

/-- The final memory of a device: its own block as it was, its result at the gathered contents. -/
def memEnd (c : Dev nD) (s : MemSt nD τ sig (Elt F)) : Prop :=
  (s.mem (xLoc c) = m (xLoc c) ∧ s.mem (oLoc c) = G m c) ∧ ∀ sm : SemLoc sig, sm.isScoped .tc = false → s.sem ((c.tc : Thread nD τ), sm) = 0

/-- What a device ends with fixes its final memory. -/
theorem read_end (c : Dev nD) (s' : Phys nD τ sig (Elt F)) :
    iprop(readEnd m c ∗ emp ∗ SI s') ⊢ (|={Set.univ}=> iprop(⌜memEnd m c s'.mem⌝ ∗ SI s') : sProp 𝕄) := by
  unfold readEnd
  iintro ⟨⟨H0, H1, Hus⟩, -, HSI⟩
  icombine HSI H0 gives %h0
  icombine HSI H1 gives %h1
  imod (Pipeline.unscopedSems0_read (X := unscopedSems0 c) (c := c) fupd_intro s') $$ [Hus HSI] with ⟨%h2, HSI⟩
  · isplitl [Hus] <;> iassumption
  imodintro
  isplitr
  · ipureintro
    exact ⟨⟨Buf.eq_of_forall_mem_univ h0, Buf.eq_of_forall_mem_univ h1⟩, h2⟩
  iexact HSI

/-! ### The run -/

/-- From any memory with zero counters every weakly fair execution terminates, and every final state has each device's own
    block as it was, its result at the gathered contents and every counter at zero. -/
theorem run_main : θ_run defs (onTc (τ := τ) (main (F := F))) (s₀ m ρ)
    (fun r => (∀ c : Dev nD, r.2.mem (xLoc c) = m (xLoc c) ∧ r.2.mem (oLoc c) = G m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun c w => w.elim0)
    (hdistinct := winFacts0.arr_inj)
    (O₀ := fun d => O d 0) (howed₀ := fun _ => rfl) (howedN := fun _ => rfl)
    (L := L) (lv := lv) (hL := L_of_ne) (hwaits := waits m)
    (G := dealt m) (G' := ghost m) (u₀ := (initOf (Pipeline.cells cfgs cellOf_inj) (Pipeline.launchToks cfgs cellOf_inj), initOf allCells allToks))
    (hu₀ := by
      iintro Hu
      ihave H := (ownU_pair _ _) $$ Hu
      icases H with ⟨HP, HX⟩
      imod (fund_gather m) $$ HX with HG
      imodintro
      isplitl [HP] <;> iassumption)
    (hglob := glob m)
    (hA := fun _ w => w.elim0) (hpf := fun _ k => k.elim0)
    (X := start m) (Y := readEnd m) (Z := fun _ => iprop(emp))
    (hX := start_intro m ρ) (hin := phi0_intro m) (hout := phi1_exit m)
    (QY := memEnd m)
    (hY := read_end m)
    (hQ := fun _ h hs => ⟨fun c => (h c).2.2.1, sem_eq_zero hs fun c => (h c).2.2.2⟩)

end Cert.GatherIdealProof

end
-- ==== Proof.Whole.lean ====
/-
The gathered contents are the whole array: where every device's block is cut from one array along its rows, by the
devices' z coordinates, the contents that every result ends at is that array. And the reference, which does nothing,
leaves its one array as it was.
-/
module

public import proofs.«01_k».proof.Proof.ILaunch
public import proofs.«01_k».proof.Proof.Gen.ReferenceIdeal
public import Idealize.ShloMosaic.Lib.Layout
public import Idealize.ShloMosaic.Lib.StableHlo.RunHlo
public import Idealize.ShloMosaic.Lib.Quiescent

@[expose] public section

noncomputable section

open Idealize.ShloMosaic Idealize.ShloMosaic.TcCoe Idealize.SL.Sem

/-! ## The gathered contents -/

namespace Cert.GatherIdealProof

open Cert.KernelIdeal Cert.KernelIdeal.Gen

variable {F : FTy → Type} [FloatOps F]

/-- The device that half block `k` comes from holds the block of rows number `k / 2`. -/
theorem rows_of_origin : ∀ (p : Dev nD) (k : Fin 8), Layout.meshLin [2, 2, 4] (origin p k.val).val [2] = k.val / 2 := by
  decide +kernel

/-- If every device's own block is its part of the array `W`, cut along the rows by the z coordinate, then the gathered
    contents are `W`, on every device. -/
theorem G_whole (m : (ℓ : Loc nD τ sig) → Buf (Elt F) ℓ) (W : S32768x1024.Idx → Elt F .f32)
    (h : ∀ c : Dev nD, m (xLoc c) = Layout.blockN ⟨2, ![8192, 1024]⟩ ⟨2, ![32768, 1024]⟩ (Layout.meshBlock [2, 2, 4] ![[2], []] c) W)
    (p : Dev nD) : G m p = W := by
  funext i
  have h0 : (i (0 : Fin 2)).val < 32768 := (i (0 : Fin 2)).isLt
  unfold G
  rw [h]
  refine (Layout.blockN_apply _ W _ _).trans (congrArg W (funext fun a => Fin.ext ?_))
  have hk := rows_of_origin p ⟨(i (0 : Fin 2)).val / 4096, by omega⟩
  rw [Layout.TilesN.idx_val, Layout.meshBlock_val]
  match a with
  | ⟨0, _⟩ =>
    show Layout.meshLin [2, 2, 4] (origin p ((i (0 : Fin 2)).val / 4096)).val [2] * 8192 + (i (0 : Fin 2)).val % 8192 = (i (0 : Fin 2)).val
    rw [hk]
    show (i (0 : Fin 2)).val / 4096 / 2 * 8192 + (i (0 : Fin 2)).val % 8192 = _
    omega
  | ⟨1, _⟩ =>
    show 0 * 1024 + (i (1 : Fin 2)).val = (i (1 : Fin 2)).val
    omega

end Cert.GatherIdealProof

/-! ## The reference -/

namespace Cert.IdentityProof

open Cert.ReferenceIdeal Cert.ReferenceIdeal.Gen

variable {F : FTy → Type} [FloatOps F]

/-- Every run of the reference ends with its array as it was and every counter at zero. -/
theorem run (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c : Thread nD τ).loc main_arg0) = m ((c : Thread nD τ).loc main_arg0)) ∧ r.2.sem = fun _ => 0) :=
  θ_run_mono
    (StableHlo.run_hlo defs main (fun _ => StableHlo.IsSeq.nil) (by decide) (by decide) trivial (fun _ h => absurd h List.not_mem_nil) m ρ)
    (fun r h => ⟨fun c => h c main_arg0, sem_eq_zero_of_no_sems (by decide) r.2⟩)

end Cert.IdentityProof

end
-- ==== Proof.lean ====
module

public import proofs.«01_k».proof.Defs
public import proofs.«01_k».proof.Proof.KLaunch
public import proofs.«01_k».proof.Proof.ILaunch
public import proofs.«01_k».proof.Proof.Whole
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- The kernel as printed leaves every device's block as it was and every counter at zero. -/
theorem frame_p : Cert.quiescent_Kernel (hKernel := Cert.Kernel.Gen.facts) := fun m g _ =>
  θ_run_mono (Cert.GatherProof.run_main m g) fun _ h => ⟨fun c => (h.1 c).1, h.2⟩

/-- The kernel over the reals leaves every device's block as it was and every counter at zero. -/
theorem frame_pi : Cert.quiescent_KernelIdeal (hKernelIdeal := Cert.KernelIdeal.Gen.facts) := fun m g _ =>
  θ_run_mono (Cert.GatherIdealProof.run_main m g) fun _ h => ⟨fun c => (h.1 c).1, h.2⟩

/-- The reference leaves its array as it was and every counter at zero. -/
theorem frame_ri : Cert.quiescent_ReferenceIdeal (hReferenceIdeal := Cert.ReferenceIdeal.Gen.facts) := fun m g _ =>
  Cert.IdentityProof.run m g

/-- No operation was rewritten for the reading over the reals. -/
theorem preserves : Cert.preserves_Kernel_KernelIdeal := trivial

/-- Over the reals every device's result ends at the whole array, which is what the reference returns. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨m' (((0 : Dev Cert.ReferenceIdeal.nD).tc : Thread Cert.ReferenceIdeal.nD Cert.ReferenceIdeal.τ).loc Cert.ReferenceIdeal.main_arg0), ?_, ?_⟩
  · exact θ_run_mono (Cert.GatherIdealProof.run_main m g) fun _ h c =>
      ⟨(h.1 c).2.trans (Cert.GatherIdealProof.G_whole m _ hm c), (h.1 c).1⟩
  · exact θ_run_mono (Cert.IdentityProof.run m' g') fun _ h => ⟨h.1 0, h.1 0⟩

/-- The claims of Defs.lean, all five. -/
theorem claim : Cert.Claim := ⟨Cert.Kernel.Gen.facts, Cert.KernelIdeal.Gen.facts, Cert.ReferenceIdeal.Gen.facts,
  frame_p, frame_pi, frame_ri, preserves, algebraic⟩

end Cert.Proof

end
